-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_expert_ids : Cert.Pre_expert_ids.Facts] (m : (ℓ : Loc Cert.Kernel2.nD Cert.Kernel2.τ Cert.Kernel2.sig) → Buf (Elt Bits) ℓ) : Prop :=
  ∀ c : Dev Cert.Kernel2.nD,
    (Cert.Pre_expert_ids.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_expert_ids : Cert.Pre_expert_ids.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_expert_ids.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_expert_ids [hPre_expert_ids : Cert.Pre_expert_ids.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_expert_ids.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_expert_ids : Cert.Pre_expert_ids.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_expert_ids : Cert.Pre_expert_ids.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_expert_ids [hReference2Ideal : Cert.Reference2Ideal.Facts] [hPre_expert_ids : Cert.Pre_expert_ids.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_expert_ids m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v75_0)) (v1 : (c : Dev Cert.KernelIdeal.nD) → Buf (Elt Ideal) ((c.tc : Thread Cert.KernelIdeal.nD Cert.KernelIdeal.τ).loc Cert.KernelIdeal.main_v75_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75_0) = v0 c
          ∧ r.2.mem ((c.tc : Thread Cert.KernelIdeal.nD Cert.KernelIdeal.τ).loc Cert.KernelIdeal.main_v75_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v135_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_expert_ids : Cert.Pre_expert_ids.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v59) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_expert_ids : Cert.Pre_expert_ids.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_expert_ids := hPre_expert_ids)
    ∧ quiescent_Kernel2Ideal (hKernel2Ideal := hKernel2Ideal) (hPre_expert_ids := hPre_expert_ids)
    ∧ quiescent_Reference2Ideal (hReference2Ideal := hReference2Ideal)
    ∧ quiescent_Reference2Ideal_pre_expert_ids (hReference2Ideal := hReference2Ideal) (hPre_expert_ids := hPre_expert_ids)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_expert_ids := hPre_expert_ids)
    ∧ preserves_Kernel3_Kernel3Ideal
    ∧ algebraic_Kernel3Ideal_Reference3Ideal (hKernel3Ideal := hKernel3Ideal) (hReference3Ideal := hReference3Ideal)
-- ==== Pre_expert_ids.lean ====
abbrev S20736x2048 : Shape := ⟨2, ![20736, 2048]⟩
abbrev S81 : Shape := ⟨1, ![81]⟩
abbrev S1 : Shape := ⟨1, ![1]⟩
abbrev S4x16x2048x1024 : Shape := ⟨4, ![4, 16, 2048, 1024]⟩
abbrev S4x16x512x2048 : Shape := ⟨4, ![4, 16, 512, 2048]⟩
abbrev S_ : Shape := ⟨0, ![]⟩

class Facts : Prop where
  bcast_S_S81 : S_.BroadcastsInDim S81 (![] : Fin 0 → Fin S81.rank)
  reducesTo_S81_S_d0 : S81.ReducesTo [0] S_
  h_S_ : 0 < S_.numel

variable [Facts]

def fn {F : FTy → Type} [FloatOps F] (main_arg0 : FVec F S20736x2048 .bf16) (main_arg1 : IVec S81 32) (main_arg2 : IVec S1 32) (main_arg3 : FVec F S4x16x2048x1024 .f32) (main_arg4 : FVec F S4x16x512x2048 .f32) : IVec S_ 1 :=
  let main_c : IVec S_ 32 := constantI S_ 32 0#32
  let main_v0 : IVec S81 32 := broadcastInDim S81 ![] bcast_S_S81 main_c
  let main_v1 : IVec S81 1 := cmpi .sge main_arg1 main_v0
  let main_c_0 : IVec S_ 32 := constantI S_ 32 16#32
  let main_v2 : IVec S81 32 := broadcastInDim S81 ![] bcast_S_S81 main_c_0
  let main_v3 : IVec S81 1 := cmpi .slt main_arg1 main_v2
  let main_v4 : IVec S81 1 := andi main_v1 main_v3
  let main_c_1 : IVec S_ 1 := constantI S_ 1 1#1
  let main_v5 : IVec S_ 1 := (fun x v => Host.reduce IntOp.andi x v reducesTo_S81_S_d0 h_S_) main_v4 main_c_1
  main_v5
-- ==== Kernel.lean ====
abbrev S6x8192x1024 : Shape := ⟨3, ![6, 8192, 1024]⟩
abbrev S1x1024 : Shape := ⟨2, ![1, 1024]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x1x128 : Shape := ⟨3, ![1, 1, 128]⟩
abbrev S1x128x1 : Shape := ⟨3, ![1, 128, 1]⟩
abbrev S4x128x1 : Shape := ⟨3, ![4, 128, 1]⟩
abbrev S1x8x128 : Shape := ⟨3, ![1, 8, 128]⟩
abbrev S4x8x128 : Shape := ⟨3, ![4, 8, 128]⟩
abbrev S8192x1024 : Shape := ⟨2, ![8192, 1024]⟩
abbrev S4x4x128x256 : Shape := ⟨4, ![4, 4, 128, 256]⟩
abbrev S1x2048x128 : Shape := ⟨3, ![1, 2048, 128]⟩
abbrev S1x2048x256 : Shape := ⟨3, ![1, 2048, 256]⟩
abbrev S1x256 : Shape := ⟨2, ![1, 256]⟩
abbrev S2048x256 : Shape := ⟨2, ![2048, 256]⟩
abbrev S1x1x128x256 : Shape := ⟨4, ![1, 1, 128, 256]⟩
abbrev S128x256 : Shape := ⟨2, ![128, 256]⟩
abbrev S1x1x1 : Shape := ⟨3, ![1, 1, 1]⟩
abbrev S1x1 : Shape := ⟨2, ![1, 1]⟩
abbrev S1x128x256 : Shape := ⟨3, ![1, 128, 256]⟩

abbrev nBuf : Space → Nat
  | .hbm => 94
  | .vmem => 25
  | .smem => 0
  | _ => 0

abbrev bufTy : (tb : Table) → Fin (tcTables nBuf tb) → BufTy
  | .hbm, ⟨0, _⟩ => ⟨S6x8192x1024, .f32⟩
  | .hbm, ⟨1, _⟩ => ⟨S1x1024, .f32⟩
  | .hbm, ⟨2, _⟩ => ⟨S2048, .i32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .f32⟩
  | .hbm, ⟨12, _⟩ => ⟨S2048x1, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x128, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x128, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S128, .f32⟩
  | .hbm, ⟨34, _⟩ => ⟨S128x1, .f32⟩
  | .hbm, ⟨35, _⟩ => ⟨S1x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .i1⟩
  | .hbm, ⟨42, _⟩ => ⟨S_, .f32⟩
  | .hbm, ⟨43, _⟩ => ⟨S128x128, .f32⟩
  | .hbm, ⟨44, _⟩ => ⟨S128x128, .f32⟩
  | .hbm, ⟨45, _⟩ => ⟨S1x128x128, .f32⟩
  | .hbm, ⟨46, _⟩ => ⟨S4x1x1, .f32⟩
  | .hbm, ⟨47, _⟩ => ⟨S4x128x128, .f32⟩
  | .hbm, ⟨48, _⟩ => ⟨S4x128x128, .f32⟩
  | .hbm, ⟨49, _⟩ => ⟨S4x128x128, .f32⟩
  | .hbm, ⟨50, _⟩ => ⟨S4x128x128, .f32⟩
  | .hbm, ⟨51, _⟩ => ⟨S_, .f32⟩
  | .hbm, ⟨52, _⟩ => ⟨S_, .f32⟩
  | .hbm, ⟨53, _⟩ => ⟨S4x128x128, .i1⟩
  | .hbm, ⟨54, _⟩ => ⟨S4x128x128, .f32⟩
  | .hbm, ⟨55, _⟩ => ⟨S4x128x128, .f32⟩
  | .hbm, ⟨56, _⟩ => ⟨S_, .f32⟩
  | .hbm, ⟨57, _⟩ => ⟨S1x1x128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S1x128x1, .f32⟩
  | .hbm, ⟨62, _⟩ => ⟨S4x1x1, .f32⟩
  | .hbm, ⟨63, _⟩ => ⟨S4x128x1, .f32⟩
  | .hbm, ⟨64, _⟩ => ⟨S4x128x1, .f32⟩
  | .hbm, ⟨65, _⟩ => ⟨S4x128x1, .f32⟩
  | .hbm, ⟨66, _⟩ => ⟨S4x128x1, .f32⟩
  | .hbm, ⟨67, _⟩ => ⟨S4x128x128, .f32⟩
  | .hbm, ⟨68, _⟩ => ⟨S4x128x128, .f32⟩
  | .hbm, ⟨69, _⟩ => ⟨S4x128x128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128x1, .f32⟩
  | .hbm, ⟨74, _⟩ => ⟨S4x1x1, .f32⟩
  | .hbm, ⟨75, _⟩ => ⟨S4x128x1, .f32⟩
  | .hbm, ⟨76, _⟩ => ⟨S4x128x1, .f32⟩
  | .hbm, ⟨77, _⟩ => ⟨S4x128x1, .f32⟩
  | .hbm, ⟨78, _⟩ => ⟨S4x128x1, .f32⟩
  | .hbm, ⟨79, _⟩ => ⟨S4x128x128, .f32⟩
  | .hbm, ⟨80, _⟩ => ⟨S4x128x128, .f32⟩
  | .hbm, ⟨81, _⟩ => ⟨S4x128x128, .f32⟩
  | .hbm, ⟨82, _⟩ => ⟨S_, .f32⟩
  | .hbm, ⟨83, _⟩ => ⟨S4, .f32⟩
  | .hbm, ⟨84, _⟩ => ⟨S4, .f32⟩
  | .hbm, ⟨85, _⟩ => ⟨S4, .f32⟩
  | .hbm, ⟨86, _⟩ => ⟨S4x1x1, .f32⟩
  | .hbm, ⟨87, _⟩ => ⟨S_, .f32⟩
  | .hbm, ⟨88, _⟩ => ⟨S1x8x128, .f32⟩
  | .hbm, ⟨89, _⟩ => ⟨S4x8x128, .f32⟩
  | .hbm, ⟨90, _⟩ => ⟨S4x8x128, .f32⟩
  | .hbm, ⟨91, _⟩ => ⟨S4x8x128, .f32⟩
  | .hbm, ⟨92, _⟩ => ⟨S8192x1024, .bf16⟩
  | .hbm, ⟨93, _⟩ => ⟨S4x4x128x256, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S2048x128, .f32⟩
  | .local _ .vmem, ⟨9, _⟩ => ⟨S2048x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x8x128, .f32⟩
  | .local _ .vmem, ⟨17, _⟩ => ⟨S1x8x128, .f32⟩
  | .local _ .vmem, ⟨18, _⟩ => ⟨S1x256, .f32⟩
  | .local _ .vmem, ⟨19, _⟩ => ⟨S1x256, .f32⟩
  | .local _ .vmem, ⟨20, _⟩ => ⟨S2048x256, .bf16⟩
  | .local _ .vmem, ⟨21, _⟩ => ⟨S2048x256, .bf16⟩
  | .local _ .vmem, ⟨22, _⟩ => ⟨S1x1x128x256, .f32⟩
  | .local _ .vmem, ⟨23, _⟩ => ⟨S1x1x128x256, .f32⟩
  | .local _ .vmem, ⟨24, _⟩ => ⟨S128x256, .f32⟩
  | _, _ => ⟨S6x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_5 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_9 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_10 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75_0 : Ref sig .tc := ⟨.hbm, 92, rfl⟩
abbrev main_v75_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c16_i32 : BitVec 32 := 16#32
  let v13 : BitVec 32 := Scalar.addi c0_i32 c16_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32 : BitVec 32 := 128#32
  let v18 : BitVec 32 := Scalar.muli arg16 c128_i32
  v18
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32 : BitVec 32 := 128#32
  let v18 : BitVec 32 := Scalar.muli arg16 c128_i32
  let v19 : BitVec 32 := v18
  let v20 : Index := Scalar.indexCast v19
  let c0_22 : Index := 0#32
  ![v20.toNat, 0]
def k0_off2 (k0_t1 : Fin k0_t1_loop.trips) : Fin 3 → Nat :=
  let c0_24 : Index := 0#32
  let c0_i32 : BitVec 32 := 0#32
  let c1_i32 : BitVec 32 := 1#32
  let arg16 : BitVec 32 := Scf.iv c0_i32 c1_i32 k0_t1
  let c128_i32 : BitVec 32 := 128#32
  let v18 : BitVec 32 := Scalar.muli arg16 c128_i32
  let v19 : BitVec 32 := v18
  let v26 : Index := Scalar.indexCast v19
  let c0_25 : Index := 0#32
  ![0, v26.toNat, 0]
def k0_off3 (k0_t1 : Fin k0_t1_loop.trips) : Fin 3 → Nat :=
  let c0_30 : Index := 0#32
  let c0_i32 : BitVec 32 := 0#32
  let c1_i32 : BitVec 32 := 1#32
  let arg16 : BitVec 32 := Scf.iv c0_i32 c1_i32 k0_t1
  let c128_i32 : BitVec 32 := 128#32
  let v18 : BitVec 32 := Scalar.muli arg16 c128_i32
  let v19 : BitVec 32 := v18
  let v42 : Index := Scalar.indexCast v19
  let c0_31 : Index := 0#32
  ![0, v42.toNat, 0]
def k0_off4 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32 : BitVec 32 := 128#32
  let v18 : BitVec 32 := Scalar.muli arg16 c128_i32
  let v19 : BitVec 32 := v18
  let v93 : Index := Scalar.indexCast v19
  let c0_47 : Index := 0#32
  ![v93.toNat, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c3_i32 : BitVec 32 := 3#32
  let c0_i32 : BitVec 32 := 0#32
  ![c3_i32.toNat, arg0.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![c4_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![c5_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S6x8192x1024 : Shape := ⟨3, ![6, 8192, 1024]⟩
abbrev S1x1024 : Shape := ⟨2, ![1, 1024]⟩
abbrev S2048 : Shape := ⟨1, ![2048]⟩
abbrev S1x8192x1024 : Shape := ⟨3, ![1, 8192, 1024]⟩
abbrev S8192x1024 : Shape := ⟨2, ![8192, 1024]⟩
abbrev S4x2048x1024 : Shape := ⟨3, ![4, 2048, 1024]⟩
abbrev S4x2048x512 : Shape := ⟨3, ![4, 2048, 512]⟩
abbrev S4x2048x4x128 : Shape := ⟨4, ![4, 2048, 4, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S4x2048x4x64 : Shape := ⟨4, ![4, 2048, 4, 64]⟩
abbrev S1x2048x1x64 : Shape := ⟨4, ![1, 2048, 1, 64]⟩
abbrev S4x2048x4x256 : Shape := ⟨4, ![4, 2048, 4, 256]⟩
abbrev S4x4x128x256 : Shape := ⟨4, ![4, 4, 128, 256]⟩
abbrev S4 : Shape := ⟨1, ![4]⟩
abbrev S4x16x128x4x128 : Shape := ⟨5, ![4, 16, 128, 4, 128]⟩
abbrev S16x4x128x4x128 : Shape := ⟨5, ![16, 4, 128, 4, 128]⟩
abbrev S4x16x128x4x256 : Shape := ⟨5, ![4, 16, 128, 4, 256]⟩
abbrev S16x4x128x4x256 : Shape := ⟨5, ![16, 4, 128, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S1x4x1x1 : Shape := ⟨4, ![1, 4, 1, 1]⟩
abbrev S1x4x128x4x128 : Shape := ⟨5, ![1, 4, 128, 4, 128]⟩
abbrev S4x128x4x128 : Shape := ⟨4, ![4, 128, 4, 128]⟩
abbrev S1x4x128x4x256 : Shape := ⟨5, ![1, 4, 128, 4, 256]⟩
abbrev S4x128x4x256 : Shape := ⟨4, ![4, 128, 4, 256]⟩
abbrev S4x4x128x128 : Shape := ⟨4, ![4, 4, 128, 128]⟩
abbrev S1x4x128x128 : Shape := ⟨4, ![1, 4, 128, 128]⟩
abbrev S4x4x256x128 : Shape := ⟨4, ![4, 4, 256, 128]⟩
abbrev S128x4x1 : Shape := ⟨3, ![128, 4, 1]⟩
abbrev S1x128x4x1 : Shape := ⟨4, ![1, 128, 4, 1]⟩
abbrev S4x256 : Shape := ⟨2, ![4, 256]⟩
abbrev S4x2048x4 : Shape := ⟨3, ![4, 2048, 4]⟩
abbrev S4x2048x4x1 : Shape := ⟨4, ![4, 2048, 4, 1]⟩
abbrev S1x1x4x256 : Shape := ⟨4, ![1, 1, 4, 256]⟩

abbrev nBuf : Space → Nat
  | .hbm => 260
  | .vmem => 0
  | .smem => 0
  | _ => 0

abbrev hbmTy0_0 (i : Nat) : BufTy := match i % 128 with
  | 0 => ⟨S6x8192x1024, .f32⟩
  | 1 => ⟨S1x1024, .f32⟩
  | 2 => ⟨S2048, .i32⟩
  | 3 => ⟨S1x8192x1024, .f32⟩
  | 4 => ⟨S8192x1024, .f32⟩
  | 5 => ⟨S4x2048x1024, .f32⟩
  | 6 => ⟨S4x2048x512, .f32⟩
  | 7 => ⟨S4x2048x4x128, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S2048, .f32⟩
  | 17 => ⟨S2048x1, .f32⟩
  | 18 => ⟨S1x64, .f32⟩
  | 19 => ⟨S2048x64, .f32⟩
  | 20 => ⟨S2048x64, .f32⟩
  | 21 => ⟨S2048x64, .f32⟩
  | 22 => ⟨S2048x64, .f32⟩
  | 23 => ⟨S2048x1x64, .f32⟩
  | 24 => ⟨S2048x64, .f32⟩
  | 25 => ⟨S2048x1x64, .f32⟩
  | 26 => ⟨S4x2048x4x64, .f32⟩
  | 27 => ⟨S4x2048x4x64, .f32⟩
  | 28 => ⟨S1x2048x1x64, .f32⟩
  | 29 => ⟨S4x2048x4x64, .f32⟩
  | 30 => ⟨S4x2048x4x64, .f32⟩
  | 31 => ⟨S1x2048x1x64, .f32⟩
  | 32 => ⟨S4x2048x4x64, .f32⟩
  | 33 => ⟨S4x2048x4x64, .f32⟩
  | 34 => ⟨S4x2048x4x64, .f32⟩
  | 35 => ⟨S1x2048x1x64, .f32⟩
  | 36 => ⟨S4x2048x4x64, .f32⟩
  | 37 => ⟨S4x2048x4x64, .f32⟩
  | 38 => ⟨S1x2048x1x64, .f32⟩
  | 39 => ⟨S4x2048x4x64, .f32⟩
  | 40 => ⟨S4x2048x4x64, .f32⟩
  | 41 => ⟨S4x2048x4x64, .f32⟩
  | 42 => ⟨S4x2048x4x128, .f32⟩
  | 43 => ⟨S1x8192x1024, .f32⟩
  | 44 => ⟨S8192x1024, .f32⟩
  | 45 => ⟨S4x2048x1024, .f32⟩
  | 46 => ⟨S4x2048x512, .f32⟩
  | 47 => ⟨S4x2048x4x128, .f32⟩
  | 48 => ⟨S64, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S2048, .f32⟩
  | 57 => ⟨S2048x1, .f32⟩
  | 58 => ⟨S1x64, .f32⟩
  | 59 => ⟨S2048x64, .f32⟩
  | 60 => ⟨S2048x64, .f32⟩
  | 61 => ⟨S2048x64, .f32⟩
  | 62 => ⟨S2048x64, .f32⟩
  | 63 => ⟨S2048x1x64, .f32⟩
  | 64 => ⟨S2048x64, .f32⟩
  | 65 => ⟨S2048x1x64, .f32⟩
  | 66 => ⟨S4x2048x4x64, .f32⟩
  | 67 => ⟨S4x2048x4x64, .f32⟩
  | 68 => ⟨S1x2048x1x64, .f32⟩
  | 69 => ⟨S4x2048x4x64, .f32⟩
  | 70 => ⟨S4x2048x4x64, .f32⟩
  | 71 => ⟨S1x2048x1x64, .f32⟩
  | 72 => ⟨S4x2048x4x64, .f32⟩
  | 73 => ⟨S4x2048x4x64, .f32⟩
  | 74 => ⟨S4x2048x4x64, .f32⟩
  | 75 => ⟨S1x2048x1x64, .f32⟩
  | 76 => ⟨S4x2048x4x64, .f32⟩
  | 77 => ⟨S4x2048x4x64, .f32⟩
  | 78 => ⟨S1x2048x1x64, .f32⟩
  | 79 => ⟨S4x2048x4x64, .f32⟩
  | 80 => ⟨S4x2048x4x64, .f32⟩
  | 81 => ⟨S4x2048x4x64, .f32⟩
  | 82 => ⟨S4x2048x4x128, .f32⟩
  | 83 => ⟨S1x8192x1024, .f32⟩
  | 84 => ⟨S8192x1024, .f32⟩
  | 85 => ⟨S4x2048x1024, .f32⟩
  | 86 => ⟨S4x2048x4x256, .f32⟩
  | 87 => ⟨S_, .f32⟩
  | 88 => ⟨S4x4x128x256, .f32⟩
  | 89 => ⟨S4, .f32⟩
  | 90 => ⟨S_, .f32⟩
  | 91 => ⟨S4, .f32⟩
  | 92 => ⟨S4, .f32⟩
  | 93 => ⟨S_, .f32⟩
  | 94 => ⟨S4, .f32⟩
  | 95 => ⟨S4, .f32⟩
  | 96 => ⟨S4, .f32⟩
  | 97 => ⟨S4, .f32⟩
  | 98 => ⟨S4x16x128x4x128, .f32⟩
  | 99 => ⟨S16x4x128x4x128, .f32⟩
  | 100 => ⟨S4x16x128x4x128, .f32⟩
  | 101 => ⟨S_, .f32⟩
  | 102 => ⟨S4x16x128x4x128, .f32⟩
  | 103 => ⟨S4x16x128x4x128, .f32⟩
  | 104 => ⟨S16x4x128x4x128, .f32⟩
  | 105 => ⟨S4x16x128x4x256, .f32⟩
  | 106 => ⟨S16x4x128x4x256, .f32⟩
  | 107 => ⟨S128, .f32⟩
  | 108 => ⟨S128x1, .f32⟩
  | 109 => ⟨S1x128, .f32⟩
  | 110 => ⟨S128x128, .f32⟩
  | 111 => ⟨S128x128, .f32⟩
  | 112 => ⟨S128x128, .f32⟩
  | 113 => ⟨S_, .f32⟩
  | 114 => ⟨S128x128, .f32⟩
  | 115 => ⟨S128x128, .i1⟩
  | 116 => ⟨S_, .f32⟩
  | 117 => ⟨S128x128, .f32⟩
  | 118 => ⟨S128x128, .f32⟩
  | 119 => ⟨S1x128x128, .f32⟩
  | 120 => ⟨S4x1x1, .f32⟩
  | 121 => ⟨S4x128x128, .f32⟩
  | 122 => ⟨S4x128x128, .f32⟩
  | 123 => ⟨S4x128x128, .f32⟩
  | 124 => ⟨S4x128x128, .f32⟩
  | 125 => ⟨S_, .f32⟩
  | 126 => ⟨S_, .f32⟩
  | 127 => ⟨S4x128x128, .i1⟩
  | _ => ⟨S6x8192x1024, .f32⟩

abbrev hbmTy0_1 (i : Nat) : BufTy := match i % 128 with
  | 0 => ⟨S4x128x128, .f32⟩
  | 1 => ⟨S4x128x128, .f32⟩
  | 2 => ⟨S_, .f32⟩
  | 3 => ⟨S128, .f32⟩
  | 4 => ⟨S128, .f32⟩
  | 5 => ⟨S128x1, .f32⟩
  | 6 => ⟨S1x4, .f32⟩
  | 7 => ⟨S128x4, .f32⟩
  | 8 => ⟨S128x4, .f32⟩
  | 9 => ⟨S128x4, .f32⟩
  | 10 => ⟨S128x4, .f32⟩
  | 11 => ⟨S_, .f32⟩
  | 12 => ⟨S128, .f32⟩
  | 13 => ⟨S128, .f32⟩
  | 14 => ⟨S128x1, .f32⟩
  | 15 => ⟨S1x4, .f32⟩
  | 16 => ⟨S128x4, .f32⟩
  | 17 => ⟨S128x4, .f32⟩
  | 18 => ⟨S128x4, .f32⟩
  | 19 => ⟨S128x4, .f32⟩
  | 20 => ⟨S_, .f32⟩
  | 21 => ⟨S4, .f32⟩
  | 22 => ⟨S4, .f32⟩
  | 23 => ⟨S4, .f32⟩
  | 24 => ⟨S1x4x1x1, .f32⟩
  | 25 => ⟨S_, .f32⟩
  | 26 => ⟨S16x4x128x4x256, .f32⟩
  | 27 => ⟨S_, .i32⟩
  | 28 => ⟨S16x4x128x4x128, .f32⟩
  | 29 => ⟨S16x4x128x4x128, .f32⟩
  | 30 => ⟨S16x4x128x4x256, .f32⟩
  | 31 => ⟨S4x128x128, .f32⟩
  | 32 => ⟨S128x4, .f32⟩
  | 33 => ⟨S128x4, .f32⟩
  | 34 => ⟨S1x4x1x1, .f32⟩
  | 35 => ⟨S_, .i32⟩
  | 36 => ⟨S4x4x128x256, .f32⟩
  | 37 => ⟨S16x4x128x4x256, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S1x4x128x4x128, .f32⟩
  | 45 => ⟨S4x128x4x128, .f32⟩
  | 46 => ⟨S_, .i32⟩
  | 47 => ⟨S_, .i32⟩
  | 48 => ⟨S_, .i32⟩
  | 49 => ⟨S_, .i32⟩
  | 50 => ⟨S1x4x128x4x128, .f32⟩
  | 51 => ⟨S4x128x4x128, .f32⟩
  | 52 => ⟨S_, .i32⟩
  | 53 => ⟨S_, .i32⟩
  | 54 => ⟨S_, .i32⟩
  | 55 => ⟨S_, .i32⟩
  | 56 => ⟨S1x4x128x4x256, .f32⟩
  | 57 => ⟨S4x128x4x256, .f32⟩
  | 58 => ⟨S4x4x128x128, .f32⟩
  | 59 => ⟨S1x4x128x128, .f32⟩
  | 60 => ⟨S4x4x128x128, .f32⟩
  | 61 => ⟨S4x4x128x128, .f32⟩
  | 62 => ⟨S4x4x256x128, .f32⟩
  | 63 => ⟨S4x128x4x256, .f32⟩
  | 64 => ⟨S128x4x1, .f32⟩
  | 65 => ⟨S1x128x4x1, .f32⟩
  | 66 => ⟨S4x128x4x128, .f32⟩
  | 67 => ⟨S4x128x4x128, .f32⟩
  | 68 => ⟨S4x4x256x128, .f32⟩
  | 69 => ⟨S4x128x4x256, .f32⟩
  | 70 => ⟨S128x4x1, .f32⟩
  | 71 => ⟨S1x128x4x1, .f32⟩
  | 72 => ⟨S4x128x4x128, .f32⟩
  | 73 => ⟨S4x128x4x128, .f32⟩
  | 74 => ⟨S4x4x128x256, .f32⟩
  | 75 => ⟨S4x4x128x256, .f32⟩
  | 76 => ⟨S4x4x128x256, .f32⟩
  | 77 => ⟨S4x4x128x256, .f32⟩
  | 78 => ⟨S4x128x4x256, .f32⟩
  | 79 => ⟨S1x4x128x4x256, .f32⟩
  | 80 => ⟨S_, .i32⟩
  | 81 => ⟨S_, .i32⟩
  | 82 => ⟨S_, .i32⟩
  | 83 => ⟨S_, .i32⟩
  | 84 => ⟨S16x4x128x4x256, .f32⟩
  | 85 => ⟨S_, .i32⟩
  | 86 => ⟨S_, .i32⟩
  | 87 => ⟨S4x16x128x4x256, .f32⟩
  | 88 => ⟨S4x2048x4x256, .f32⟩
  | 89 => ⟨S4x256, .f32⟩
  | 90 => ⟨S_, .f32⟩
  | 91 => ⟨S4x2048x4, .f32⟩
  | 92 => ⟨S4x2048x4x1, .f32⟩
  | 93 => ⟨S_, .f32⟩
  | 94 => ⟨S4x2048x4x1, .f32⟩
  | 95 => ⟨S4x2048x4x1, .f32⟩
  | 96 => ⟨S4x2048x4x256, .f32⟩
  | 97 => ⟨S4x2048x4x256, .f32⟩
  | 98 => ⟨S4x2048x4x256, .f32⟩
  | 99 => ⟨S_, .f32⟩
  | 100 => ⟨S4x2048x4, .f32⟩
  | 101 => ⟨S4x2048x4x1, .f32⟩
  | 102 => ⟨S_, .f32⟩
  | 103 => ⟨S4x2048x4x1, .f32⟩
  | 104 => ⟨S4x2048x4x1, .f32⟩
  | 105 => ⟨S4x2048x4x256, .f32⟩
  | 106 => ⟨S4x2048x4x256, .f32⟩
  | 107 => ⟨S_, .f32⟩
  | 108 => ⟨S4x2048x4x1, .f32⟩
  | 109 => ⟨S4x2048x4x1, .f32⟩
  | 110 => ⟨S4x2048x4x1, .f32⟩
  | 111 => ⟨S4x2048x4x256, .f32⟩
  | 112 => ⟨S4x2048x4x256, .f32⟩
  | 113 => ⟨S1x1x4x256, .f32⟩
  | 114 => ⟨S4x2048x4x256, .f32⟩
  | 115 => ⟨S4x2048x4x256, .f32⟩
  | 116 => ⟨S1x8192x1024, .f32⟩
  | 117 => ⟨S8192x1024, .f32⟩
  | 118 => ⟨S4x2048x1024, .f32⟩
  | 119 => ⟨S4x2048x4x256, .f32⟩
  | 120 => ⟨S4x2048x4x256, .f32⟩
  | 121 => ⟨S4x2048x4x256, .f32⟩
  | 122 => ⟨S_, .f32⟩
  | 123 => ⟨S4x2048x4x256, .f32⟩
  | 124 => ⟨S4x2048x4x256, .f32⟩
  | 125 => ⟨S_, .f32⟩
  | 126 => ⟨S4x2048x4x256, .f32⟩
  | 127 => ⟨S4x2048x4x256, .f32⟩
  | _ => ⟨S6x8192x1024, .f32⟩

abbrev hbmTy0_2 (i : Nat) : BufTy := match i % 128 with
  | 0 => ⟨S4x2048x4x256, .f32⟩
  | 1 => ⟨S4x2048x4x256, .f32⟩
  | 2 => ⟨S8192x1024, .f32⟩
  | 3 => ⟨S8192x1024, .bf16⟩
  | _ => ⟨S6x8192x1024, .f32⟩

abbrev hbmTy (i : Nat) : BufTy := match i / 128 with
  | 0 => hbmTy0_0 i
  | 1 => hbmTy0_1 i
  | 2 => hbmTy0_2 i
  | _ => ⟨S6x8192x1024, .f32⟩

abbrev bufTy : (tb : Table) → Fin (tcTables nBuf tb) → BufTy
  | .hbm, ⟨i, _⟩ => hbmTy i
  | _, _ => ⟨S6x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst_1 : Ref sig .tc := ⟨.hbm, 50, rfl⟩
abbrev main_v46 : Ref sig .tc := ⟨.hbm, 51, rfl⟩
abbrev main_v47 : Ref sig .tc := ⟨.hbm, 52, rfl⟩
abbrev main_cst_2 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_cst_3 : Ref sig .tc := ⟨.hbm, 87, rfl⟩
abbrev main_v81 : Ref sig .tc := ⟨.hbm, 88, rfl⟩
abbrev main_v82 : Ref sig .tc := ⟨.hbm, 89, rfl⟩
abbrev main_cst_4 : Ref sig .tc := ⟨.hbm, 90, rfl⟩
abbrev main_v83 : Ref sig .tc := ⟨.hbm, 91, rfl⟩
abbrev main_v84 : Ref sig .tc := ⟨.hbm, 92, rfl⟩
abbrev main_cst_5 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_cst_6 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_cst_7 : Ref sig .tc := ⟨.hbm, 113, rfl⟩
abbrev main_v103 : Ref sig .tc := ⟨.hbm, 114, rfl⟩
abbrev main_v104 : Ref sig .tc := ⟨.hbm, 115, rfl⟩
abbrev main_cst_8 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_cst_9 : Ref sig .tc := ⟨.hbm, 125, rfl⟩
abbrev main_call0_v0 : Ref sig .tc := ⟨.hbm, 126, rfl⟩
abbrev main_call0_v1 : Ref sig .tc := ⟨.hbm, 127, rfl⟩
abbrev main_call0_v2 : Ref sig .tc := ⟨.hbm, 128, rfl⟩
abbrev main_v113 : Ref sig .tc := ⟨.hbm, 129, rfl⟩
abbrev main_cst_10 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_cst_11 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_cst_12 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_cst_13 : Ref sig .tc := ⟨.hbm, 153, rfl⟩
abbrev main_v134 : Ref sig .tc := ⟨.hbm, 154, rfl⟩
abbrev main_c : Ref sig .tc := ⟨.hbm, 155, rfl⟩
abbrev main_v135_0 : Ref sig .tc := ⟨.hbm, 156, rfl⟩
abbrev main_v135_1 : Ref sig .tc := ⟨.hbm, 157, rfl⟩
abbrev main_v135_2 : Ref sig .tc := ⟨.hbm, 158, rfl⟩
abbrev main_v135_3 : Ref sig .tc := ⟨.hbm, 159, rfl⟩
abbrev main_v135_4 : Ref sig .tc := ⟨.hbm, 160, rfl⟩
abbrev main_v135_5 : Ref sig .tc := ⟨.hbm, 161, rfl⟩
abbrev main_v135_6 : Ref sig .tc := ⟨.hbm, 162, rfl⟩
abbrev main_v135_7 : Ref sig .tc := ⟨.hbm, 163, rfl⟩
abbrev main_v135_8 : Ref sig .tc := ⟨.hbm, 164, rfl⟩
abbrev main_v135_9 : Ref sig .tc := ⟨.hbm, 165, rfl⟩
abbrev main_while0c_c_28 : Ref sig .tc := ⟨.hbm, 166, rfl⟩
abbrev main_while0c_v168 : Ref sig .tc := ⟨.hbm, 167, rfl⟩
abbrev main_while0b_call1_c : Ref sig .tc := ⟨.hbm, 168, rfl⟩
abbrev main_while0b_call1_c_0 : Ref sig .tc := ⟨.hbm, 169, rfl⟩
abbrev main_while0b_call1_c_1 : Ref sig .tc := ⟨.hbm, 170, rfl⟩
abbrev main_while0b_call1_c_2 : Ref sig .tc := ⟨.hbm, 171, rfl⟩
abbrev main_while0b_call1_v0 : Ref sig .tc := ⟨.hbm, 172, rfl⟩
abbrev main_while0b_v168 : Ref sig .tc := ⟨.hbm, 173, rfl⟩
abbrev main_while0b_call2_c : Ref sig .tc := ⟨.hbm, 174, rfl⟩
abbrev main_while0b_call2_c_0 : Ref sig .tc := ⟨.hbm, 175, rfl⟩
abbrev main_while0b_call2_c_1 : Ref sig .tc := ⟨.hbm, 176, rfl⟩
abbrev main_while0b_call2_c_2 : Ref sig .tc := ⟨.hbm, 177, rfl⟩
abbrev main_while0b_call2_v0 : Ref sig .tc := ⟨.hbm, 178, rfl⟩
abbrev main_while0b_v169 : Ref sig .tc := ⟨.hbm, 179, rfl⟩
abbrev main_while0b_call3_c : Ref sig .tc := ⟨.hbm, 180, rfl⟩
abbrev main_while0b_call3_c_0 : Ref sig .tc := ⟨.hbm, 181, rfl⟩
abbrev main_while0b_call3_c_1 : Ref sig .tc := ⟨.hbm, 182, rfl⟩
abbrev main_while0b_call3_c_2 : Ref sig .tc := ⟨.hbm, 183, rfl⟩
abbrev main_while0b_call3_v0 : Ref sig .tc := ⟨.hbm, 184, rfl⟩
abbrev main_while0b_v170 : Ref sig .tc := ⟨.hbm, 185, rfl⟩
abbrev main_while0b_v171 : Ref sig .tc := ⟨.hbm, 186, rfl⟩
abbrev main_while0b_v172 : Ref sig .tc := ⟨.hbm, 187, rfl⟩
abbrev main_while0b_v173 : Ref sig .tc := ⟨.hbm, 188, rfl⟩
abbrev main_while0b_v174 : Ref sig .tc := ⟨.hbm, 189, rfl⟩
abbrev main_while0b_v175 : Ref sig .tc := ⟨.hbm, 190, rfl⟩
abbrev main_while0b_v176 : Ref sig .tc := ⟨.hbm, 191, rfl⟩
abbrev main_while0b_v177 : Ref sig .tc := ⟨.hbm, 192, rfl⟩
abbrev main_while0b_v178 : Ref sig .tc := ⟨.hbm, 193, rfl⟩
abbrev main_while0b_v179 : Ref sig .tc := ⟨.hbm, 194, rfl⟩
abbrev main_while0b_v180 : Ref sig .tc := ⟨.hbm, 195, rfl⟩
abbrev main_while0b_v181 : Ref sig .tc := ⟨.hbm, 196, rfl⟩
abbrev main_while0b_v182 : Ref sig .tc := ⟨.hbm, 197, rfl⟩
abbrev main_while0b_v183 : Ref sig .tc := ⟨.hbm, 198, rfl⟩
abbrev main_while0b_v184 : Ref sig .tc := ⟨.hbm, 199, rfl⟩
abbrev main_while0b_v185 : Ref sig .tc := ⟨.hbm, 200, rfl⟩
abbrev main_while0b_v186 : Ref sig .tc := ⟨.hbm, 201, rfl⟩
abbrev main_while0b_v187 : Ref sig .tc := ⟨.hbm, 202, rfl⟩
abbrev main_while0b_v188 : Ref sig .tc := ⟨.hbm, 203, rfl⟩
abbrev main_while0b_v189 : Ref sig .tc := ⟨.hbm, 204, rfl⟩
abbrev main_while0b_v190 : Ref sig .tc := ⟨.hbm, 205, rfl⟩
abbrev main_while0b_v191 : Ref sig .tc := ⟨.hbm, 206, rfl⟩
abbrev main_while0b_call4_v0 : Ref sig .tc := ⟨.hbm, 207, rfl⟩
abbrev main_while0b_call4_c : Ref sig .tc := ⟨.hbm, 208, rfl⟩
abbrev main_while0b_call4_c_0 : Ref sig .tc := ⟨.hbm, 209, rfl⟩
abbrev main_while0b_call4_c_1 : Ref sig .tc := ⟨.hbm, 210, rfl⟩
abbrev main_while0b_call4_c_2 : Ref sig .tc := ⟨.hbm, 211, rfl⟩
abbrev main_while0b_v192 : Ref sig .tc := ⟨.hbm, 212, rfl⟩
abbrev main_while0b_c_28 : Ref sig .tc := ⟨.hbm, 213, rfl⟩
abbrev main_while0b_v193 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_cst_14 : Ref sig .tc := ⟨.hbm, 218, rfl⟩
abbrev main_v139 : Ref sig .tc := ⟨.hbm, 219, rfl⟩
abbrev main_v140 : Ref sig .tc := ⟨.hbm, 220, rfl⟩
abbrev main_cst_15 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_cst_16 : Ref sig .tc := ⟨.hbm, 227, rfl⟩
abbrev main_v146 : Ref sig .tc := ⟨.hbm, 228, rfl⟩
abbrev main_v147 : Ref sig .tc := ⟨.hbm, 229, rfl⟩
abbrev main_cst_17 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_cst_18 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_call5_v0 : Ref sig .tc := ⟨.hbm, 248, rfl⟩
abbrev main_call5_v1 : Ref sig .tc := ⟨.hbm, 249, rfl⟩
abbrev main_call5_cst : Ref sig .tc := ⟨.hbm, 250, rfl⟩
abbrev main_call5_v2 : Ref sig .tc := ⟨.hbm, 251, rfl⟩
abbrev main_call5_v3 : Ref sig .tc := ⟨.hbm, 252, rfl⟩
abbrev main_call5_cst_0 : Ref sig .tc := ⟨.hbm, 253, rfl⟩
abbrev main_call5_v4 : Ref sig .tc := ⟨.hbm, 254, rfl⟩
abbrev main_call5_v5 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S20736x2048 : Shape := ⟨2, ![20736, 2048]⟩
abbrev S81 : Shape := ⟨1, ![81]⟩
abbrev S1 : Shape := ⟨1, ![1]⟩
abbrev S4x16x2048x1024 : Shape := ⟨4, ![4, 16, 2048, 1024]⟩
abbrev S4x16x512x2048 : Shape := ⟨4, ![4, 16, 512, 2048]⟩
abbrev S256x2048 : Shape := ⟨2, ![256, 2048]⟩
abbrev S1x1x2048x1024 : Shape := ⟨4, ![1, 1, 2048, 1024]⟩
abbrev S1x1x512x2048 : Shape := ⟨4, ![1, 1, 512, 2048]⟩
abbrev S2048x1024 : Shape := ⟨2, ![2048, 1024]⟩
abbrev S512x2048 : Shape := ⟨2, ![512, 2048]⟩
abbrev S256x1024 : Shape := ⟨2, ![256, 1024]⟩
abbrev S256x512 : Shape := ⟨2, ![256, 512]⟩

abbrev nBuf : Space → Nat
  | .hbm => 4
  | .vmem => 10
  | .smem => 2
  | _ => 0

abbrev bufTy : (tb : Table) → Fin (tcTables nBuf tb) → BufTy
  | .hbm, ⟨0, _⟩ => ⟨S20736x2048, .bf16⟩
  | .hbm, ⟨1, _⟩ => ⟨S4x16x2048x1024, .f32⟩
  | .hbm, ⟨2, _⟩ => ⟨S4x16x512x2048, .f32⟩
  | .hbm, ⟨3, _⟩ => ⟨S20736x2048, .bf16⟩
  | .local _ .vmem, ⟨0, _⟩ => ⟨S256x2048, .bf16⟩
  | .local _ .vmem, ⟨1, _⟩ => ⟨S256x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x512x2048, .f32⟩
  | .local _ .vmem, ⟨5, _⟩ => ⟨S1x1x512x2048, .f32⟩
  | .local _ .vmem, ⟨6, _⟩ => ⟨S256x2048, .bf16⟩
  | .local _ .vmem, ⟨7, _⟩ => ⟨S256x2048, .bf16⟩
  | .local _ .vmem, ⟨8, _⟩ => ⟨S2048x1024, .bf16⟩
  | .local _ .vmem, ⟨9, _⟩ => ⟨S512x2048, .bf16⟩
  | .local _ .smem, ⟨0, _⟩ => ⟨S81, .i32⟩
  | .local _ .smem, ⟨1, _⟩ => ⟨S1, .i32⟩
  | _, _ => ⟨S20736x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![81], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c80_i32 : BitVec 32 := 80#32
  let v1 : BitVec 32 := Scalar.maxsi c0_i32_0 v0
  let v2 : BitVec 32 := Scalar.minsi c80_i32 v1
  let c0_i32_1 : BitVec 32 := 0#32
  let c0_i32_2 : BitVec 32 := 0#32
  ![v2.toNat, c0_i32_1.toNat]

def cc0_transform_1 (k0_off1_inb : ∀ i : grid0.Coords, ∀ a, (k0_off1 i) a + S1.size a ≤ S81.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S81) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S81.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S81) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S20736x2048 : Shape := ⟨2, ![20736, 2048]⟩
abbrev S81 : Shape := ⟨1, ![81]⟩
abbrev S1 : Shape := ⟨1, ![1]⟩
abbrev S4x16x2048x1024 : Shape := ⟨4, ![4, 16, 2048, 1024]⟩
abbrev S4x16x512x2048 : Shape := ⟨4, ![4, 16, 512, 2048]⟩
abbrev S_ : Shape := ⟨0, ![]⟩
abbrev S81x1 : Shape := ⟨2, ![81, 1]⟩
abbrev S1x16 : Shape := ⟨2, ![1, 16]⟩
abbrev S81x16 : Shape := ⟨2, ![81, 16]⟩
abbrev S81x256x16 : Shape := ⟨3, ![81, 256, 16]⟩
abbrev S20736x16 : Shape := ⟨2, ![20736, 16]⟩
abbrev S1x16x2048x1024 : Shape := ⟨4, ![1, 16, 2048, 1024]⟩
abbrev S16x2048x1024 : Shape := ⟨3, ![16, 2048, 1024]⟩
abbrev S20736x16x1024 : Shape := ⟨3, ![20736, 16, 1024]⟩
abbrev S20736x16x512 : Shape := ⟨3, ![20736, 16, 512]⟩
abbrev S20736x16x1 : Shape := ⟨3, ![20736, 16, 1]⟩
abbrev S1x16x512x2048 : Shape := ⟨4, ![1, 16, 512, 2048]⟩
abbrev S16x512x2048 : Shape := ⟨3, ![16, 512, 2048]⟩

abbrev nBuf : Space → Nat
  | .hbm => 44
  | .vmem => 0
  | .smem => 0
  | _ => 0

abbrev bufTy : (tb : Table) → Fin (tcTables nBuf tb) → BufTy
  | .hbm, ⟨0, _⟩ => ⟨S20736x2048, .bf16⟩
  | .hbm, ⟨1, _⟩ => ⟨S81, .i32⟩
  | .hbm, ⟨2, _⟩ => ⟨S1, .i32⟩
  | .hbm, ⟨3, _⟩ => ⟨S4x16x2048x1024, .f32⟩
  | .hbm, ⟨4, _⟩ => ⟨S4x16x512x2048, .f32⟩
  | .hbm, ⟨5, _⟩ => ⟨S81, .i32⟩
  | .hbm, ⟨6, _⟩ => ⟨S_, .i32⟩
  | .hbm, ⟨7, _⟩ => ⟨S81, .i32⟩
  | .hbm, ⟨8, _⟩ => ⟨S81, .i1⟩
  | .hbm, ⟨9, _⟩ => ⟨S81, .f32⟩
  | .hbm, ⟨10, _⟩ => ⟨S81x1, .i32⟩
  | .hbm, ⟨11, _⟩ => ⟨S1x16, .i32⟩
  | .hbm, ⟨12, _⟩ => ⟨S81x16, .i32⟩
  | .hbm, ⟨13, _⟩ => ⟨S81x16, .i32⟩
  | .hbm, ⟨14, _⟩ => ⟨S81x16, .i1⟩
  | .hbm, ⟨15, _⟩ => ⟨S81x16, .f32⟩
  | .hbm, ⟨16, _⟩ => ⟨S81x1, .f32⟩
  | .hbm, ⟨17, _⟩ => ⟨S81x16, .f32⟩
  | .hbm, ⟨18, _⟩ => ⟨S81x16, .f32⟩
  | .hbm, ⟨19, _⟩ => ⟨S81x256x16, .f32⟩
  | .hbm, ⟨20, _⟩ => ⟨S20736x16, .f32⟩
  | .hbm, ⟨21, _⟩ => ⟨S20736x2048, .f32⟩
  | .hbm, ⟨22, _⟩ => ⟨S1x16x2048x1024, .f32⟩
  | .hbm, ⟨23, _⟩ => ⟨S16x2048x1024, .f32⟩
  | .hbm, ⟨24, _⟩ => ⟨S20736x16x1024, .f32⟩
  | .hbm, ⟨25, _⟩ => ⟨S20736x16x512, .f32⟩
  | .hbm, ⟨26, _⟩ => ⟨S20736x16x512, .f32⟩
  | .hbm, ⟨27, _⟩ => ⟨S20736x16x512, .f32⟩
  | .hbm, ⟨28, _⟩ => ⟨S_, .f32⟩
  | .hbm, ⟨29, _⟩ => ⟨S20736x16x512, .f32⟩
  | .hbm, ⟨30, _⟩ => ⟨S20736x16x512, .f32⟩
  | .hbm, ⟨31, _⟩ => ⟨S_, .f32⟩
  | .hbm, ⟨32, _⟩ => ⟨S20736x16x512, .f32⟩
  | .hbm, ⟨33, _⟩ => ⟨S20736x16x512, .f32⟩
  | .hbm, ⟨34, _⟩ => ⟨S20736x16x512, .f32⟩
  | .hbm, ⟨35, _⟩ => ⟨S20736x16x512, .f32⟩
  | .hbm, ⟨36, _⟩ => ⟨S20736x16x512, .f32⟩
  | .hbm, ⟨37, _⟩ => ⟨S20736x16x1, .f32⟩
  | .hbm, ⟨38, _⟩ => ⟨S20736x16x512, .f32⟩
  | .hbm, ⟨39, _⟩ => ⟨S20736x16x512, .f32⟩
  | .hbm, ⟨40, _⟩ => ⟨S1x16x512x2048, .f32⟩
  | .hbm, ⟨41, _⟩ => ⟨S16x512x2048, .f32⟩
  | .hbm, ⟨42, _⟩ => ⟨S20736x2048, .f32⟩
  | .hbm, ⟨43, _⟩ => ⟨S20736x2048, .bf16⟩
  | _, _ => ⟨S20736x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel3.lean ====
abbrev S8192x2048 : Shape := ⟨2, ![8192, 2048]⟩
abbrev S64x2048 : Shape := ⟨2, ![64, 2048]⟩
abbrev S1x2048 : Shape := ⟨2, ![1, 2048]⟩
abbrev S4x6x16x2048 : Shape := ⟨4, ![4, 6, 16, 2048]⟩
abbrev S2048x6144 : Shape := ⟨2, ![2048, 6144]⟩
abbrev S6x8192x1024 : Shape := ⟨3, ![6, 8192, 1024]⟩
abbrev S6x64x1024 : Shape := ⟨3, ![6, 64, 1024]⟩
abbrev S1024x2048 : Shape := ⟨2, ![1024, 2048]⟩
abbrev S1x1x16x2048 : Shape := ⟨4, ![1, 1, 16, 2048]⟩
abbrev S2048x1024 : Shape := ⟨2, ![2048, 1024]⟩
abbrev S1x1024x1024 : Shape := ⟨3, ![1, 1024, 1024]⟩
abbrev S1x64x1024 : Shape := ⟨3, ![1, 64, 1024]⟩
abbrev S1x1x1x2048 : Shape := ⟨4, ![1, 1, 1, 2048]⟩
abbrev S256x2048 : Shape := ⟨2, ![256, 2048]⟩
abbrev S256 : Shape := ⟨1, ![256]⟩
abbrev S256x1 : Shape := ⟨2, ![256, 1]⟩
abbrev S64 : Shape := ⟨1, ![64]⟩
abbrev S64x1 : Shape := ⟨2, ![64, 1]⟩
abbrev S512x2048 : Shape := ⟨2, ![512, 2048]⟩
abbrev S512x1024 : Shape := ⟨2, ![512, 1024]⟩
abbrev S1x512x1024 : Shape := ⟨3, ![1, 512, 1024]⟩
abbrev S64x1024 : Shape := ⟨2, ![64, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S1x2048, .f32⟩
  | .hbm, ⟨3, _⟩ => ⟨S4x6x16x2048, .f32⟩
  | .hbm, ⟨4, _⟩ => ⟨S64x2048, .f32⟩
  | .hbm, ⟨5, _⟩ => ⟨S64x2048, .f32⟩
  | .hbm, ⟨6, _⟩ => ⟨S2048x6144, .bf16⟩
  | .hbm, ⟨7, _⟩ => ⟨S6x8192x1024, .f32⟩
  | .hbm, ⟨8, _⟩ => ⟨S6x64x1024, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S1x2048, .f32⟩
  | .local _ .vmem, ⟨4, _⟩ => ⟨S1x1x16x2048, .f32⟩
  | .local _ .vmem, ⟨5, _⟩ => ⟨S1x1x16x2048, .f32⟩
  | .local _ .vmem, ⟨6, _⟩ => ⟨S64x2048, .f32⟩
  | .local _ .vmem, ⟨7, _⟩ => ⟨S64x2048, .f32⟩
  | .local _ .vmem, ⟨8, _⟩ => ⟨S2048x1024, .bf16⟩
  | .local _ .vmem, ⟨9, _⟩ => ⟨S2048x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1x64x1024, .f32⟩
  | .local _ .vmem, ⟨13, _⟩ => ⟨S1x64x1024, .f32⟩
  | .local _ .vmem, ⟨14, _⟩ => ⟨S1024x2048, .bf16⟩
  | .local _ .vmem, ⟨15, _⟩ => ⟨S64x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![9, 6], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let arg1 : BitVec 32 := BitVec.ofNat 32 (i 1).val
  let c0_i32 : BitVec 32 := 0#32
  let v1 : BitVec 1 := Scalar.cmpi .eq arg1 c0_i32
  let v2 : BitVec 1 := Scalar.andi v0 v1
  let v3 : BitVec 32 := Scalar.extui v2
  let c0_i32_0 : BitVec 32 := 0#32
  let v4 : BitVec 1 := Scalar.cmpi .ne v3 c0_i32_0
  v4

def k0_off1 (i : grid0.Coords) : Fin 4 → Nat :=
  let c0_14 : Index := 0#32
  let c0_15 : Index := 0#32
  let arg0 : BitVec 32 := BitVec.ofNat 32 (i 0).val
  let c0_i32_8 : BitVec 32 := 0#32
  let v17 : BitVec 1 := Scalar.cmpi .sgt arg0 c0_i32_8
  let v18 : BitVec 32 := Scalar.extui v17
  let c0_i32_9 : BitVec 32 := 0#32
  let v19 : BitVec 1 := Scalar.cmpi .slt arg0 c0_i32_9
  let v20 : BitVec 32 := Scalar.extui v19
  let v21 : BitVec 32 := Scalar.subi v18 v20
  let c2_i32 : BitVec 32 := 2#32
  let c0_i32_10 : BitVec 32 := 0#32
  let v22 : BitVec 1 := Scalar.cmpi .sgt c2_i32 c0_i32_10
  let v23 : BitVec 32 := Scalar.extui v22
  let c0_i32_11 : BitVec 32 := 0#32
  let v24 : BitVec 1 := Scalar.cmpi .slt c2_i32 c0_i32_11
  let v25 : BitVec 32 := Scalar.extui v24
  let v26 : BitVec 32 := Scalar.subi v23 v25
  let v27 : BitVec 1 := Scalar.cmpi .ne v21 v26
  let v28 : BitVec 32 := Scalar.remsi arg0 c2_i32
  let c0_i32_12 : BitVec 32 := 0#32
  let v29 : BitVec 1 := Scalar.cmpi .ne v28 c0_i32_12
  let v30 : BitVec 1 := Scalar.andi v27 v29
  let v16 : BitVec 32 := Scalar.divsi arg0 c2_i32
  let c1_i32 : BitVec 32 := 1#32
  let v31 : BitVec 32 := Scalar.subi v16 c1_i32
  let v32 : BitVec 32 := Scalar.select v30 v31 v16
  let v34 : Index := Scalar.indexCast v32
  let c0_16 : Index := 0#32
  ![0, 0, v34.toNat, 0]
@[reducible] def k0_t1_loop : Scf.Loop 32 :=
  let c0_i32_20 : BitVec 32 := 0#32
  let c4_i32 : BitVec 32 := 4#32
  let v40 : BitVec 32 := Scalar.addi c0_i32_20 c4_i32
  let c1_i32_21 : BitVec 32 := 1#32
  ⟨c0_i32_20, v40, c1_i32_21⟩
def k0_mult1 (k0_t1 : Fin k0_t1_loop.trips) : BitVec 32 :=
  let c0_i32_20 : BitVec 32 := 0#32
  let c1_i32_21 : BitVec 32 := 1#32
  let arg14 : BitVec 32 := Scf.iv c0_i32_20 c1_i32_21 k0_t1
  let c256_i32 : BitVec 32 := 256#32
  let v41 : BitVec 32 := Scalar.muli arg14 c256_i32
  v41
def k0_off2 (k0_t1 : Fin k0_t1_loop.trips) : Fin 2 → Nat :=
  let c0_i32_20 : BitVec 32 := 0#32
  let c1_i32_21 : BitVec 32 := 1#32
  let arg14 : BitVec 32 := Scf.iv c0_i32_20 c1_i32_21 k0_t1
  let c256_i32 : BitVec 32 := 256#32
  let v41 : BitVec 32 := Scalar.muli arg14 c256_i32
  let v42 : BitVec 32 := v41
  let v43 : Index := Scalar.indexCast v42
  let c0_23 : Index := 0#32
  ![v43.toNat, 0]
def k0_cond3 (i : grid0.Coords) : BitVec 1 :=
  let arg0 : BitVec 32 := BitVec.ofNat 32 (i 0).val
  let c8_i32_4 : BitVec 32 := 8#32
  let v10 : BitVec 1 := Scalar.cmpi .slt arg0 c8_i32_4
  let v11 : BitVec 32 := Scalar.extui v10
  let c0_i32_5 : BitVec 32 := 0#32
  let v12 : BitVec 1 := Scalar.cmpi .ne v11 c0_i32_5
  v12

@[reducible] def k0_t2_loop : Scf.Loop 32 :=
  let c0_i32_8 : BitVec 32 := 0#32
  let c2_i32 : BitVec 32 := 2#32
  let v16 : BitVec 32 := Scalar.addi c0_i32_8 c2_i32
  let c1_i32 : BitVec 32 := 1#32
  ⟨c0_i32_8, v16, c1_i32⟩
def k0_mult2 (k0_t2 : Fin k0_t2_loop.trips) : BitVec 32 :=
  let c0_i32_8 : BitVec 32 := 0#32
  let c1_i32 : BitVec 32 := 1#32
  let arg14 : BitVec 32 := Scf.iv c0_i32_8 c1_i32 k0_t2
  let c512_i32 : BitVec 32 := 512#32
  let v17 : BitVec 32 := Scalar.muli arg14 c512_i32
  v17
def k0_off3 (k0_t2 : Fin k0_t2_loop.trips) : Fin 2 → Nat :=
  let c0_i32_8 : BitVec 32 := 0#32
  let c1_i32 : BitVec 32 := 1#32
  let arg14 : BitVec 32 := Scf.iv c0_i32_8 c1_i32 k0_t2
  let c512_i32 : BitVec 32 := 512#32
  let v17 : BitVec 32 := Scalar.muli arg14 c512_i32
  let v18 : BitVec 32 := v17
  let v19 : Index := Scalar.indexCast v18
  let c0 : Index := 0#32
  ![v19.toNat, 0]
def k0_off4 (k0_t2 : Fin k0_t2_loop.trips) : Fin 3 → Nat :=
  let c0_12 : Index := 0#32
  let c0_i32_8 : BitVec 32 := 0#32
  let c1_i32 : BitVec 32 := 1#32
  let arg14 : BitVec 32 := Scf.iv c0_i32_8 c1_i32 k0_t2
  let c512_i32 : BitVec 32 := 512#32
  let v17 : BitVec 32 := Scalar.muli arg14 c512_i32
  let v18 : BitVec 32 := v17
  let v23 : Index := Scalar.indexCast v18
  let c0_13 : Index := 0#32
  ![0, v23.toNat, 0]
def k0_cond4 (i : grid0.Coords) : BitVec 1 :=
  let arg0 : BitVec 32 := BitVec.ofNat 32 (i 0).val
  let c8_i32_6 : BitVec 32 := 8#32
  let v13 : BitVec 1 := Scalar.cmpi .eq arg0 c8_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c5_i32 : BitVec 32 := 5#32
  let v1 : BitVec 32 := Scalar.select v0 c5_i32 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c7_i32 : BitVec 32 := 7#32
  let v19 : BitVec 32 := Scalar.minsi arg0 c7_i32
  let c1_i32_5 : BitVec 32 := 1#32
  let c0_i32_6 : BitVec 32 := 0#32
  let v20 : BitVec 1 := Scalar.cmpi .eq c1_i32_5 c0_i32_6
  let c1_i32_7 : BitVec 32 := 1#32
  let v21 : BitVec 32 := Scalar.select v20 c1_i32_7 c1_i32_5
  let v22 : BitVec 32 := Scalar.remsi v1 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v18.toNat, v19.toNat, v29.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c0_i32 : BitVec 32 := 0#32
  let v1 : BitVec 32 := Scalar.select v0 arg1 c0_i32
  let c1_i32 : BitVec 32 := 1#32
  let v2 : BitVec 32 := Scalar.divsi v1 c1_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8192x2048 : Shape := ⟨2, ![8192, 2048]⟩
abbrev S64x2048 : Shape := ⟨2, ![64, 2048]⟩
abbrev S1x2048 : Shape := ⟨2, ![1, 2048]⟩
abbrev S4x6x16x2048 : Shape := ⟨4, ![4, 6, 16, 2048]⟩
abbrev S2048x6144 : Shape := ⟨2, ![2048, 6144]⟩
abbrev S1x2x4x2048 : Shape := ⟨4, ![1, 2, 4, 2048]⟩
abbrev S2x4x2048 : Shape := ⟨3, ![2, 4, 2048]⟩
abbrev S2x4x1x2048 : Shape := ⟨4, ![2, 4, 1, 2048]⟩
abbrev S4x2048x2048 : Shape := ⟨3, ![4, 2048, 2048]⟩
abbrev S2048 : Shape := ⟨1, ![2048]⟩
abbrev S1x4x1x2048 : Shape := ⟨4, ![1, 4, 1, 2048]⟩
abbrev S4x1x2048 : Shape := ⟨3, ![4, 1, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S64 : Shape := ⟨1, ![64]⟩
abbrev S64x1 : Shape := ⟨2, ![64, 1]⟩
abbrev S4x2048x6144 : Shape := ⟨3, ![4, 2048, 6144]⟩
abbrev S8192x6144 : Shape := ⟨2, ![8192, 6144]⟩
abbrev S8192x6x1024 : Shape := ⟨3, ![8192, 6, 1024]⟩
abbrev S6x8192x1024 : Shape := ⟨3, ![6, 8192, 1024]⟩
abbrev S64x6144 : Shape := ⟨2, ![64, 6144]⟩
abbrev S64x6x1024 : Shape := ⟨3, ![64, 6, 1024]⟩
abbrev S6x64x1024 : Shape := ⟨3, ![6, 64, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S1x2048, .f32⟩
  | .hbm, ⟨3, _⟩ => ⟨S4x6x16x2048, .f32⟩
  | .hbm, ⟨4, _⟩ => ⟨S64x2048, .f32⟩
  | .hbm, ⟨5, _⟩ => ⟨S64x2048, .f32⟩
  | .hbm, ⟨6, _⟩ => ⟨S2048x6144, .bf16⟩
  | .hbm, ⟨7, _⟩ => ⟨S2048x6144, .f32⟩
  | .hbm, ⟨8, _⟩ => ⟨S1x2x4x2048, .f32⟩
  | .hbm, ⟨9, _⟩ => ⟨S2x4x2048, .f32⟩
  | .hbm, ⟨10, _⟩ => ⟨S2x4x1x2048, .f32⟩
  | .hbm, ⟨11, _⟩ => ⟨S4x2048x2048, .f32⟩
  | .hbm, ⟨12, _⟩ => ⟨S2048, .f32⟩
  | .hbm, ⟨13, _⟩ => ⟨S1x4x1x2048, .f32⟩
  | .hbm, ⟨14, _⟩ => ⟨S4x1x2048, .f32⟩
  | .hbm, ⟨15, _⟩ => ⟨S1x4x1x2048, .f32⟩
  | .hbm, ⟨16, _⟩ => ⟨S4x1x2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x1x2048, .f32⟩
  | .hbm, ⟨35, _⟩ => ⟨S4x1x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S2048, .f32⟩
  | .hbm, ⟨41, _⟩ => ⟨S64x2048, .f32⟩
  | .hbm, ⟨42, _⟩ => ⟨S_, .f32⟩
  | .hbm, ⟨43, _⟩ => ⟨S64, .f32⟩
  | .hbm, ⟨44, _⟩ => ⟨S64x1, .f32⟩
  | .hbm, ⟨45, _⟩ => ⟨S_, .f32⟩
  | .hbm, ⟨46, _⟩ => ⟨S64x1, .f32⟩
  | .hbm, ⟨47, _⟩ => ⟨S64x1, .f32⟩
  | .hbm, ⟨48, _⟩ => ⟨S_, .f32⟩
  | .hbm, ⟨49, _⟩ => ⟨S64x1, .f32⟩
  | .hbm, ⟨50, _⟩ => ⟨S64x1, .f32⟩
  | .hbm, ⟨51, _⟩ => ⟨S64x1, .f32⟩
  | .hbm, ⟨52, _⟩ => ⟨S64x2048, .f32⟩
  | .hbm, ⟨53, _⟩ => ⟨S64x2048, .f32⟩
  | .hbm, ⟨54, _⟩ => ⟨S1x2048, .f32⟩
  | .hbm, ⟨55, _⟩ => ⟨S64x2048, .f32⟩
  | .hbm, ⟨56, _⟩ => ⟨S64x2048, .f32⟩
  | .hbm, ⟨57, _⟩ => ⟨S_, .f32⟩
  | .hbm, ⟨58, _⟩ => ⟨S64x2048, .f32⟩
  | .hbm, ⟨59, _⟩ => ⟨S64x2048, .f32⟩
  | .hbm, ⟨60, _⟩ => ⟨S64x2048, .f32⟩
  | .hbm, ⟨61, _⟩ => ⟨S64x2048, .f32⟩
  | .hbm, ⟨62, _⟩ => ⟨S64, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S64, .i32⟩
  | .hbm, ⟨70, _⟩ => ⟨S64, .i32⟩
  | .hbm, ⟨71, _⟩ => ⟨S_, .i32⟩
  | .hbm, ⟨72, _⟩ => ⟨S64, .i32⟩
  | .hbm, ⟨73, _⟩ => ⟨S64, .i1⟩
  | .hbm, ⟨74, _⟩ => ⟨S_, .i32⟩
  | .hbm, ⟨75, _⟩ => ⟨S64, .i32⟩
  | .hbm, ⟨76, _⟩ => ⟨S64, .i1⟩
  | .hbm, ⟨77, _⟩ => ⟨S_, .i32⟩
  | .hbm, ⟨78, _⟩ => ⟨S_, .i1⟩
  | .hbm, ⟨79, _⟩ => ⟨S64, .i1⟩
  | .hbm, ⟨80, _⟩ => ⟨S64, .i1⟩
  | .hbm, ⟨81, _⟩ => ⟨S64, .i1⟩
  | .hbm, ⟨82, _⟩ => ⟨S64, .i32⟩
  | .hbm, ⟨83, _⟩ => ⟨S64, .i32⟩
  | .hbm, ⟨84, _⟩ => ⟨S64, .i32⟩
  | .hbm, ⟨85, _⟩ => ⟨S_, .i32⟩
  | .hbm, ⟨86, _⟩ => ⟨S64, .i32⟩
  | .hbm, ⟨87, _⟩ => ⟨S64, .i1⟩
  | .hbm, ⟨88, _⟩ => ⟨S64x1, .i1⟩
  | .hbm, ⟨89, _⟩ => ⟨S_, .f32⟩
  | .hbm, ⟨90, _⟩ => ⟨S_, .f32⟩
  | .hbm, ⟨91, _⟩ => ⟨S64x2048, .i1⟩
  | .hbm, ⟨92, _⟩ => ⟨S64x2048, .f32⟩
  | .hbm, ⟨93, _⟩ => ⟨S64x2048, .f32⟩
  | .hbm, ⟨94, _⟩ => ⟨S4x2048x6144, .f32⟩
  | .hbm, ⟨95, _⟩ => ⟨S8192x6144, .f32⟩
  | .hbm, ⟨96, _⟩ => ⟨S8192x6x1024, .f32⟩
  | .hbm, ⟨97, _⟩ => ⟨S6x8192x1024, .f32⟩
  | .hbm, ⟨98, _⟩ => ⟨S64x6144, .f32⟩
  | .hbm, ⟨99, _⟩ => ⟨S64x6x1024, .f32⟩
  | .hbm, ⟨100, _⟩ => ⟨S6x64x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c : Ref sig .tc := ⟨.hbm, 63, rfl⟩
abbrev main_call0_v0 : Ref sig .tc := ⟨.hbm, 64, rfl⟩
abbrev main_call0_c : Ref sig .tc := ⟨.hbm, 65, rfl⟩
abbrev main_call0_v1 : Ref sig .tc := ⟨.hbm, 66, rfl⟩
abbrev main_call0_c_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_c_1 : Ref sig .tc := ⟨.hbm, 71, rfl⟩
abbrev main_call0_v5 : Ref sig .tc := ⟨.hbm, 72, rfl⟩
abbrev main_call0_v6 : Ref sig .tc := ⟨.hbm, 73, rfl⟩
abbrev main_call0_c_2 : Ref sig .tc := ⟨.hbm, 74, rfl⟩
abbrev main_call0_v7 : Ref sig .tc := ⟨.hbm, 75, rfl⟩
abbrev main_call0_v8 : Ref sig .tc := ⟨.hbm, 76, rfl⟩
abbrev main_call0_c_3 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_v12 : Ref sig .tc := ⟨.hbm, 81, rfl⟩
abbrev main_call0_v13 : Ref sig .tc := ⟨.hbm, 82, rfl⟩
abbrev main_call0_v14 : Ref sig .tc := ⟨.hbm, 83, rfl⟩
abbrev main_v48 : Ref sig .tc := ⟨.hbm, 84, rfl⟩
abbrev main_c_7 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_8 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩

abbrev nD : Nat := 1
abbrev τ : Topo := Topo.v7x

variable {F : FTy → Type} [FloatOps F]
-- ==== Proof.RetTrip.lean ====
module

public import proofs.«01_k».proof.Proof.Gen.KernelIdeal.Loops
public import proofs.«01_k».proof.Proof.Gen.KernelIdeal.Launch
public import Idealize.ShloMosaic.Lib.WritesUnit
public import Idealize.ShloMosaic.Lib.VecWindow
public import Idealize.ShloMosaic.Lib.WholeRead

@[expose] public section

set_option maxRecDepth 16384

noncomputable section

namespace Cert.KernelIdeal.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the chunks read -/

/-- Rows `128 k ..` of a rotation table's block. -/
def tabRows (x : Vec F S2048x128 .f32) (k : Fin k0_t1_loop.trips) : Vec F S128x128 .f32 :=
  fun y => x ((Rect.unit (s := S2048x128) (k0_off1 k) S128x128.size (k0_off1_inb k)).toLoadRect.idx y)
/-- Rows `128 k ..` of a block of queries or keys. -/
def qkRows (x : Vec F S1x2048x128 .f32) (k : Fin k0_t1_loop.trips) : Vec F S1x128x128 .f32 :=
  fun y => x ((Rect.unit (s := S1x2048x128) (k0_off2 k) S1x128x128.size (k0_off2_inb k)).toLoadRect.idx y)
/-- Rows `128 k ..` of a block of values or gates. -/
def vgRows (x : Vec F S1x2048x256 .f32) (k : Fin k0_t1_loop.trips) : Vec F S1x128x256 .f32 :=
  fun y => x ((Rect.unit (s := S1x2048x256) (k0_off3 k) S1x128x256.size (k0_off3_inb k)).toLoadRect.idx y)

/-- The state after a chunk, from the state `s` before it. -/
def nextSt (x0 : Vec F S1x2048x128 .f32) (x1 : Vec F S1x2048x128 .f32) (x2 : Vec F S1x2048x256 .f32) (x3 : Vec F S1x2048x256 .f32) (x4 : Vec F S2048x128 .f32) (x5 : Vec F S2048x128 .f32) (v4 : Vec F S1x128x128 .f32) (v6 : Vec F S1x128x128 .f32) (v8 : Vec F S1x128x128 .f32) (v10 : Vec F S1x1x1 .f32) (v12 : Vec F S1x256 .f32) (k : Fin k0_t1_loop.trips) (s : Vec F S128x256 .f32) : Vec F S128x256 .f32 :=
  k0_pay5 v10 (k0_pay11 (vgRows x2 k)) s (k0_pay13 (k0_pay4 v8) (tabRows x4 k) (tabRows x5 k) (qkRows x1 k))
/-- A chunk's rows of the result, from the state `s` before it. -/
def rowsOut (x0 : Vec F S1x2048x128 .f32) (x1 : Vec F S1x2048x128 .f32) (x2 : Vec F S1x2048x256 .f32) (x3 : Vec F S1x2048x256 .f32) (x4 : Vec F S2048x128 .f32) (x5 : Vec F S2048x128 .f32) (v4 : Vec F S1x128x128 .f32) (v6 : Vec F S1x128x128 .f32) (v8 : Vec F S1x128x128 .f32) (v10 : Vec F S1x1x1 .f32) (v12 : Vec F S1x256 .f32) (k : Fin k0_t1_loop.trips) (s : Vec F S128x256 .f32) : Vec F S128x256 .bf16 :=
  k0_pay6 v12 (k0_pay12 (k0_pay2 v4) (k0_pay3 v6) (tabRows x4 k) (tabRows x5 k) (qkRows x0 k) (qkRows x1 k) (vgRows x2 k) s) (vgRows x3 k)

/-- The state before chunk `k`, `s0` before the first. -/
def st (x0 : Vec F S1x2048x128 .f32) (x1 : Vec F S1x2048x128 .f32) (x2 : Vec F S1x2048x256 .f32) (x3 : Vec F S1x2048x256 .f32) (x4 : Vec F S2048x128 .f32) (x5 : Vec F S2048x128 .f32) (v4 : Vec F S1x128x128 .f32) (v6 : Vec F S1x128x128 .f32) (v8 : Vec F S1x128x128 .f32) (v10 : Vec F S1x1x1 .f32) (v12 : Vec F S1x256 .f32) (s0 : Vec F S128x256 .f32) : ℕ → Vec F S128x256 .f32
  | 0 => s0
  | k + 1 => if h : k < k0_t1_loop.trips then nextSt x0 x1 x2 x3 x4 x5 v4 v6 v8 v10 v12 ⟨k, h⟩ (st x0 x1 x2 x3 x4 x5 v4 v6 v8 v10 v12 s0 k) else st x0 x1 x2 x3 x4 x5 v4 v6 v8 v10 v12 s0 k

/-- The pieces the chunks before `k` wrote into the result's block, last first. -/
def pcO (x0 : Vec F S1x2048x128 .f32) (x1 : Vec F S1x2048x128 .f32) (x2 : Vec F S1x2048x256 .f32) (x3 : Vec F S1x2048x256 .f32) (x4 : Vec F S2048x128 .f32) (x5 : Vec F S2048x128 .f32) (v4 : Vec F S1x128x128 .f32) (v6 : Vec F S1x128x128 .f32) (v8 : Vec F S1x128x128 .f32) (v10 : Vec F S1x1x1 .f32) (v12 : Vec F S1x256 .f32) (s0 : Vec F S128x256 .f32) : ℕ → List (View.Piece (Elt F) S2048x256 .bf16)
  | 0 => []
  | k + 1 => if h : k < k0_t1_loop.trips then
      ⟨Rect.unit (s := S2048x256) (k0_off4 ⟨k, h⟩) S128x256.size (k0_off4_inb ⟨k, h⟩), rowsOut x0 x1 x2 x3 x4 x5 v4 v6 v8 v10 v12 ⟨k, h⟩ (st x0 x1 x2 x3 x4 x5 v4 v6 v8 v10 v12 s0 k)⟩ :: pcO x0 x1 x2 x3 x4 x5 v4 v6 v8 v10 v12 s0 k
    else pcO x0 x1 x2 x3 x4 x5 v4 v6 v8 v10 v12 s0 k
/-- The pieces the chunks before `k` wrote into the state, last first. -/
def pcS (x0 : Vec F S1x2048x128 .f32) (x1 : Vec F S1x2048x128 .f32) (x2 : Vec F S1x2048x256 .f32) (x3 : Vec F S1x2048x256 .f32) (x4 : Vec F S2048x128 .f32) (x5 : Vec F S2048x128 .f32) (v4 : Vec F S1x128x128 .f32) (v6 : Vec F S1x128x128 .f32) (v8 : Vec F S1x128x128 .f32) (v10 : Vec F S1x1x1 .f32) (v12 : Vec F S1x256 .f32) (s0 : Vec F S128x256 .f32) : ℕ → List (View.Piece (Elt F) S128x256 .f32)
  | 0 => []
  | k + 1 => if h : k < k0_t1_loop.trips then
      ⟨Rect.unit (s := S128x256) ![0, 0] S128x256.size inb_S128x256_S128x256_0_0, nextSt x0 x1 x2 x3 x4 x5 v4 v6 v8 v10 v12 ⟨k, h⟩ (st x0 x1 x2 x3 x4 x5 v4 v6 v8 v10 v12 s0 k)⟩ :: pcS x0 x1 x2 x3 x4 x5 v4 v6 v8 v10 v12 s0 k
    else pcS x0 x1 x2 x3 x4 x5 v4 v6 v8 v10 v12 s0 k

theorem st_succ (x0 : Vec F S1x2048x128 .f32) (x1 : Vec F S1x2048x128 .f32) (x2 : Vec F S1x2048x256 .f32) (x3 : Vec F S1x2048x256 .f32) (x4 : Vec F S2048x128 .f32) (x5 : Vec F S2048x128 .f32) (v4 : Vec F S1x128x128 .f32) (v6 : Vec F S1x128x128 .f32) (v8 : Vec F S1x128x128 .f32) (v10 : Vec F S1x1x1 .f32) (v12 : Vec F S1x256 .f32) (s0 : Vec F S128x256 .f32) (k : Fin k0_t1_loop.trips) :
    st x0 x1 x2 x3 x4 x5 v4 v6 v8 v10 v12 s0 (k.val + 1) = nextSt x0 x1 x2 x3 x4 x5 v4 v6 v8 v10 v12 k (st x0 x1 x2 x3 x4 x5 v4 v6 v8 v10 v12 s0 k.val) := by
  rw [st.eq_2]; exact dif_pos k.isLt
theorem pcO_succ (x0 : Vec F S1x2048x128 .f32) (x1 : Vec F S1x2048x128 .f32) (x2 : Vec F S1x2048x256 .f32) (x3 : Vec F S1x2048x256 .f32) (x4 : Vec F S2048x128 .f32) (x5 : Vec F S2048x128 .f32) (v4 : Vec F S1x128x128 .f32) (v6 : Vec F S1x128x128 .f32) (v8 : Vec F S1x128x128 .f32) (v10 : Vec F S1x1x1 .f32) (v12 : Vec F S1x256 .f32) (s0 : Vec F S128x256 .f32) (k : Fin k0_t1_loop.trips) :
    pcO x0 x1 x2 x3 x4 x5 v4 v6 v8 v10 v12 s0 (k.val + 1) = ⟨Rect.unit (s := S2048x256) (k0_off4 k) S128x256.size (k0_off4_inb k), rowsOut x0 x1 x2 x3 x4 x5 v4 v6 v8 v10 v12 k (st x0 x1 x2 x3 x4 x5 v4 v6 v8 v10 v12 s0 k.val)⟩ :: pcO x0 x1 x2 x3 x4 x5 v4 v6 v8 v10 v12 s0 k.val := by
  rw [pcO.eq_2]; exact dif_pos k.isLt
theorem pcS_succ (x0 : Vec F S1x2048x128 .f32) (x1 : Vec F S1x2048x128 .f32) (x2 : Vec F S1x2048x256 .f32) (x3 : Vec F S1x2048x256 .f32) (x4 : Vec F S2048x128 .f32) (x5 : Vec F S2048x128 .f32) (v4 : Vec F S1x128x128 .f32) (v6 : Vec F S1x128x128 .f32) (v8 : Vec F S1x128x128 .f32) (v10 : Vec F S1x1x1 .f32) (v12 : Vec F S1x256 .f32) (s0 : Vec F S128x256 .f32) (k : Fin k0_t1_loop.trips) :
    pcS x0 x1 x2 x3 x4 x5 v4 v6 v8 v10 v12 s0 (k.val + 1) = ⟨Rect.unit (s := S128x256) ![0, 0] S128x256.size inb_S128x256_S128x256_0_0, nextSt x0 x1 x2 x3 x4 x5 v4 v6 v8 v10 v12 k (st x0 x1 x2 x3 x4 x5 v4 v6 v8 v10 v12 s0 k.val)⟩ :: pcS x0 x1 x2 x3 x4 x5 v4 v6 v8 v10 v12 s0 k.val := by
  rw [pcS.eq_2]; exact dif_pos k.isLt

/-- The state read back before chunk `k`. -/
theorem read_pcS (x0 : Vec F S1x2048x128 .f32) (x1 : Vec F S1x2048x128 .f32) (x2 : Vec F S1x2048x256 .f32) (x3 : Vec F S1x2048x256 .f32) (x4 : Vec F S2048x128 .f32) (x5 : Vec F S2048x128 .f32) (v4 : Vec F S1x128x128 .f32) (v6 : Vec F S1x128x128 .f32) (v8 : Vec F S1x128x128 .f32) (v10 : Vec F S1x1x1 .f32) (v12 : Vec F S1x256 .f32) (arg15 : Memref sig .tc .vmem S128x256 .f32) (G : BufTy.Contents (Elt F) arg15.view.ty) :
    ∀ k, k ≤ k0_t1_loop.trips → arg15.view.read (Elt F) (arg15.view.writes (Elt F) G (pcS x0 x1 x2 x3 x4 x5 v4 v6 v8 v10 v12 (arg15.view.read (Elt F) G) k)) = st x0 x1 x2 x3 x4 x5 v4 v6 v8 v10 v12 (arg15.view.read (Elt F) G) k
  | 0, _ => rfl
  | k + 1, h => by
    rw [show k + 1 = (⟨k, h⟩ : Fin k0_t1_loop.trips).val + 1 from rfl, pcS_succ, st_succ, View.read_writes_full]

/-! ## One chunk -/

/-- What a chunk reads, at its contents, and what it writes. -/
abbrev TripR (c : Dev nD) (arg2 : Memref sig .tc .vmem S1x2048x128 .f32) (harg2 : arg2.IsWhole) (arg3 : Memref sig .tc .vmem S1x2048x128 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x8x128 .f32) (harg11 : arg11.IsWhole) (arg12 : Memref sig .tc .vmem S1x256 .f32) (harg12 : arg12.IsWhole) (arg13 : Memref sig .tc .vmem S2048x256 .bf16) (harg13 : arg13.IsWhole) (arg14 : Memref sig .tc .vmem S1x1x128x256 .f32) (harg14 : arg14.IsWhole) (arg15 : Memref sig .tc .vmem S128x256 .f32) (harg15 : arg15.IsWhole) (x0 : Vec F S1x2048x128 .f32) (x1 : Vec F S1x2048x128 .f32) (x2 : Vec F S1x2048x256 .f32) (x3 : Vec F S1x2048x256 .f32) (x4 : Vec F S2048x128 .f32) (x5 : Vec F S2048x128 .f32) (f13 : BufTy.Contents (Elt F) arg13.view.ty) (f15 : BufTy.Contents (Elt F) arg15.view.ty) : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg13.view.loc (c : Thread nD τ) ↦[arg13.view.set]{fullShare} f13) ∗ (arg15.view.loc (c : Thread nD τ) ↦[arg15.view.set]{fullShare} f15))

theorem trip (𝒱 : Variants) (c : Dev nD) (bd : Option 𝒱.V) (E : Set ℕ) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x8x128 .f32) (harg11 : arg11.IsWhole) (arg12 : Memref sig .tc .vmem S1x256 .f32) (harg12 : arg12.IsWhole) (arg13 : Memref sig .tc .vmem S2048x256 .bf16) (harg13 : arg13.IsWhole) (arg14 : Memref sig .tc .vmem S1x1x128x256 .f32) (harg14 : arg14.IsWhole) (arg15 : Memref sig .tc .vmem S128x256 .f32) (harg15 : arg15.IsWhole) (v4 : Vec F S1x128x128 .f32) (v6 : Vec F S1x128x128 .f32) (v8 : Vec F S1x128x128 .f32) (v10 : Vec F S1x1x1 .f32) (v12 : Vec F S1x256 .f32) (x0 : Vec F S1x2048x128 .f32) (x1 : Vec F S1x2048x128 .f32) (x2 : Vec F S1x2048x256 .f32) (x3 : Vec F S1x2048x256 .f32) (x4 : Vec F S2048x128 .f32) (x5 : Vec F S2048x128 .f32) (k : Fin k0_t1_loop.trips)
    (f13 : BufTy.Contents (Elt F) arg13.view.ty) (f15 : BufTy.Contents (Elt F) arg15.view.ty) :
    TripR (F := F) c arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f13 f15
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v4 v6 v8 v10 v12 k PUnit.unit)
          (fun _ => TripR (F := F) c arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5
            (arg13.view.writes (Elt F) f13 [⟨Rect.unit (s := S2048x256) (k0_off4 k) S128x256.size (k0_off4_inb k), rowsOut x0 x1 x2 x3 x4 x5 v4 v6 v8 v10 v12 k (arg15.view.read (Elt F) f15)⟩])
            (arg15.view.writes (Elt F) f15 [⟨Rect.unit (s := S128x256) ![0, 0] S128x256.size inb_S128x256_S128x256_0_0, nextSt x0 x1 x2 x3 x4 x5 v4 v6 v8 v10 v12 k (arg15.view.read (Elt F) f15)⟩])) := by
  have hk : k.val < 16 := Nat.lt_of_lt_of_le k.isLt k0_t1_abs.2.1
  have e2 : ∀ x : Vec F S1x2048x128 .f32, View.readAt (Elt F) arg2.view (Rect.unit (s := S1x2048x128) (k0_off2 k) S1x128x128.size (k0_off2_inb k)).toLoadRect (harg2.unread x) = qkRows x k := fun x => funext fun y => harg2.readAt_unread x _ y
  have e3 : ∀ x : Vec F S1x2048x128 .f32, View.readAt (Elt F) arg3.view (Rect.unit (s := S1x2048x128) (k0_off2 k) S1x128x128.size (k0_off2_inb k)).toLoadRect (harg3.unread x) = qkRows x k := fun x => funext fun y => harg3.readAt_unread x _ y
  have e4 : ∀ x : Vec F S1x2048x256 .f32, View.readAt (Elt F) arg4.view (Rect.unit (s := S1x2048x256) (k0_off3 k) S1x128x256.size (k0_off3_inb k)).toLoadRect (harg4.unread x) = vgRows x k := fun x => funext fun y => harg4.readAt_unread x _ y
  have e5 : ∀ x : Vec F S1x2048x256 .f32, View.readAt (Elt F) arg5.view (Rect.unit (s := S1x2048x256) (k0_off3 k) S1x128x256.size (k0_off3_inb k)).toLoadRect (harg5.unread x) = vgRows x k := fun x => funext fun y => harg5.readAt_unread x _ y
  have e6 : ∀ x : Vec F S2048x128 .f32, View.readAt (Elt F) arg6.view (Rect.unit (s := S2048x128) (k0_off1 k) S128x128.size (k0_off1_inb k)).toLoadRect (harg6.unread x) = tabRows x k := fun x => funext fun y => harg6.readAt_unread x _ y
  have e7 : ∀ x : Vec F S2048x128 .f32, View.readAt (Elt F) arg7.view (Rect.unit (s := S2048x128) (k0_off1 k) S128x128.size (k0_off1_inb k)).toLoadRect (harg7.unread x) = tabRows x k := fun x => funext fun y => harg7.readAt_unread x _ y
  have e15 : View.readAt (Elt F) arg15.view (Rect.unit (s := S128x256) ![0, 0] S128x256.size inb_S128x256_S128x256_0_0).toLoadRect f15 = arg15.view.read (Elt F) f15 := View.readAt_full _ _ _
  unfold k0_t1_body
  iintro ⟨HR2, HR3, HR4, HR5, HR6, HR7, HW13, HW15⟩
  sl_exec
  sl_step
  delta trip.sl.r trip.sl.r_1 trip.sl.r_2 trip.sl.r_3
  clear e2 e3 e4 e5 e6 e7
  isplitl [HR2]; · iexact HR2
  isplitl [HR3]; · iexact HR3
  isplitl [HR4]; · iexact HR4
  isplitl [HR5]; · iexact HR5
  isplitl [HR6]; · iexact HR6
  isplitl [HR7]; · iexact HR7
  isplitl [HW13]; · iexact HW13
  iexact HW15

/-! ## The loop by its invariant -/

/-- Before chunk `k`: what is read at its contents, the result's block and the state with the pieces of the chunks before. -/
abbrev invR (c : Dev nD) (arg2 : Memref sig .tc .vmem S1x2048x128 .f32) (harg2 : arg2.IsWhole) (arg3 : Memref sig .tc .vmem S1x2048x128 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x8x128 .f32) (harg11 : arg11.IsWhole) (arg12 : Memref sig .tc .vmem S1x256 .f32) (harg12 : arg12.IsWhole) (arg13 : Memref sig .tc .vmem S2048x256 .bf16) (harg13 : arg13.IsWhole) (arg14 : Memref sig .tc .vmem S1x1x128x256 .f32) (harg14 : arg14.IsWhole) (arg15 : Memref sig .tc .vmem S128x256 .f32) (harg15 : arg15.IsWhole) (v4 : Vec F S1x128x128 .f32) (v6 : Vec F S1x128x128 .f32) (v8 : Vec F S1x128x128 .f32) (v10 : Vec F S1x1x1 .f32) (v12 : Vec F S1x256 .f32) (x0 : Vec F S1x2048x128 .f32) (x1 : Vec F S1x2048x128 .f32) (x2 : Vec F S1x2048x256 .f32) (x3 : Vec F S1x2048x256 .f32) (x4 : Vec F S2048x128 .f32) (x5 : Vec F S2048x128 .f32) (G13 : BufTy.Contents (Elt F) arg13.view.ty) (G15 : BufTy.Contents (Elt F) arg15.view.ty) (k : ℕ) (_ : Unit) : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (∃ f, (arg13.view.loc (c : Thread nD τ) ↦[arg13.view.set]{fullShare} f) ∗ ⌜f = arg13.view.writes (Elt F) G13 (pcO x0 x1 x2 x3 x4 x5 v4 v6 v8 v10 v12 (arg15.view.read (Elt F) G15) k)⌝)
    ∗ (∃ f, (arg15.view.loc (c : Thread nD τ) ↦[arg15.view.set]{fullShare} f) ∗ ⌜f = arg15.view.writes (Elt F) G15 (pcS x0 x1 x2 x3 x4 x5 v4 v6 v8 v10 v12 (arg15.view.read (Elt F) G15) k)⌝))

set_option warn.classDefReducibility false in
/-- The loop over the chunks, by its invariant. -/
@[sl_loop] def loopInvR (𝒱 : Variants) (c : Dev nD) (bd : Option 𝒱.V) (E : Set ℕ) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x8x128 .f32) (harg11 : arg11.IsWhole) (arg12 : Memref sig .tc .vmem S1x256 .f32) (harg12 : arg12.IsWhole) (arg13 : Memref sig .tc .vmem S2048x256 .bf16) (harg13 : arg13.IsWhole) (arg14 : Memref sig .tc .vmem S1x1x128x256 .f32) (harg14 : arg14.IsWhole) (arg15 : Memref sig .tc .vmem S128x256 .f32) (harg15 : arg15.IsWhole) (v4 : Vec F S1x128x128 .f32) (v6 : Vec F S1x128x128 .f32) (v8 : Vec F S1x128x128 .f32) (v10 : Vec F S1x1x1 .f32) (v12 : Vec F S1x256 .f32) (x0 : Vec F S1x2048x128 .f32) (x1 : Vec F S1x2048x128 .f32) (x2 : Vec F S1x2048x256 .f32) (x3 : Vec F S1x2048x256 .f32) (x4 : Vec F S2048x128 .f32) (x5 : Vec F S2048x128 .f32) (G13 : BufTy.Contents (Elt F) arg13.view.ty) (G15 : BufTy.Contents (Elt F) arg15.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v4 v6 v8 v10 v12 where
  inv := invR (F := F) c arg2 harg2 arg3 harg3 arg4 harg4 arg5 harg5 arg6 harg6 arg7 harg7 arg8 harg8 arg9 harg9 arg10 harg10 arg11 harg11 arg12 harg12 arg13 harg13 arg14 harg14 arg15 harg15 v4 v6 v8 v10 v12 x0 x1 x2 x3 x4 x5 G13 G15
  step k acc := by
    iintro ⟨HR2, HR3, HR4, HR5, HR6, HR7, ⟨%f13, HW13, %h13⟩, ⟨%f15, HW15, %h15⟩⟩
    iapply (wp_wand_r Idealize.ShloMosaic.frame (wpE (defs₀ (F := F)) 𝒱 (c : Thread nD τ) bd) E)
    isplitl [HR2 HR3 HR4 HR5 HR6 HR7 HW13 HW15]
    · iapply (trip (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 v4 v6 v8 v10 v12 x0 x1 x2 x3 x4 x5 k f13 f15)
      isplitl [HR2]; · iexact HR2
      isplitl [HR3]; · iexact HR3
      isplitl [HR4]; · iexact HR4
      isplitl [HR5]; · iexact HR5
      isplitl [HR6]; · iexact HR6
      isplitl [HR7]; · iexact HR7
      isplitl [HW13]; · iexact HW13
      iexact HW15
    · iintro %_ ⟨HR2, HR3, HR4, HR5, HR6, HR7, HW13, HW15⟩
      isplitl [HR2]; · iexact HR2
      isplitl [HR3]; · iexact HR3
      isplitl [HR4]; · iexact HR4
      isplitl [HR5]; · iexact HR5
      isplitl [HR6]; · iexact HR6
      isplitl [HR7]; · iexact HR7
      rw [pcO_succ, pcS_succ]
      have e : arg15.view.read (Elt F) f15 = st x0 x1 x2 x3 x4 x5 v4 v6 v8 v10 v12 (arg15.view.read (Elt F) G15) k.val := by
        rw [h15]; exact read_pcS x0 x1 x2 x3 x4 x5 v4 v6 v8 v10 v12 arg15 G15 k.val (Nat.le_of_lt k.isLt)
      rw [e]
      isplitl [HW13]
      · iexists _; isplitl [HW13]; · iexact HW13
        ipureintro; rw [h13, ← View.writes_append]; rfl
      iexists _; isplitl [HW15]; · iexact HW15
      ipureintro; rw [h15, ← View.writes_append]; rfl

/-! ## The whole body -/

/-- The chunk decay, the one entry of its block that is read. -/
def gc1 (x : Vec F S1x8x128 .f32) : Vec F S1x1x1 .f32 :=
  fun y => x ((Rect.unit (s := S1x8x128) ![0, 0, 0] S1x1x1.size inb_S1x8x128_S1x1x1_0_0_0).toLoadRect.idx y)

theorem trips16 : k0_t1_loop.trips = 16 := by decide +kernel

/-- The state before chunk `k` of the block's rows. -/
def stB (x0 : Vec F S1x2048x128 .f32) (x1 : Vec F S1x2048x128 .f32) (x2 : Vec F S1x2048x256 .f32) (x3 : Vec F S1x2048x256 .f32) (x4 : Vec F S2048x128 .f32) (x5 : Vec F S2048x128 .f32) (x6 : Vec F S1x128x128 .f32) (x7 : Vec F S1x128x128 .f32) (x8 : Vec F S1x128x128 .f32) (x9 : Vec F S1x8x128 .f32) (x10 : Vec F S1x256 .f32) (k : ℕ) : Vec F S128x256 .f32 := st x0 x1 x2 x3 x4 x5 x6 x7 x8 (gc1 x9) x10 (k0_pay1 (F := F)) k

theorem chunk_lt (y : S2048x256.Idx) : (y (0 : Fin 2)).val / 128 < k0_t1_loop.trips := by
  have h : (y (0 : Fin 2)).val < 2048 := (y (0 : Fin 2)).isLt
  rw [trips16]; omega

theorem chunk_mem (y : S2048x256.Idx) : ∀ a : Fin 2, (![128 * ((y (0 : Fin 2)).val / 128), 0] : Fin 2 → ℕ) a ≤ (y a).val ∧ (y a).val < (![128 * ((y (0 : Fin 2)).val / 128), 0] : Fin 2 → ℕ) a + S128x256.size a := by
  have h1 : (y (1 : Fin 2)).val < 256 := (y (1 : Fin 2)).isLt
  refine Fin.forall_fin_two.mpr ⟨?_, ?_⟩
  · show 128 * ((y (0 : Fin 2)).val / 128) ≤ (y (0 : Fin 2)).val ∧ (y (0 : Fin 2)).val < 128 * ((y (0 : Fin 2)).val / 128) + 128
    omega
  · show 0 ≤ (y (1 : Fin 2)).val ∧ (y (1 : Fin 2)).val < 0 + 256
    omega

/-- The result's block. -/
def outO (x0 : Vec F S1x2048x128 .f32) (x1 : Vec F S1x2048x128 .f32) (x2 : Vec F S1x2048x256 .f32) (x3 : Vec F S1x2048x256 .f32) (x4 : Vec F S2048x128 .f32) (x5 : Vec F S2048x128 .f32) (x6 : Vec F S1x128x128 .f32) (x7 : Vec F S1x128x128 .f32) (x8 : Vec F S1x128x128 .f32) (x9 : Vec F S1x8x128 .f32) (x10 : Vec F S1x256 .f32) : Vec F S2048x256 .bf16 := fun y =>
  rowsOut x0 x1 x2 x3 x4 x5 x6 x7 x8 (gc1 x9) x10 ⟨(y (0 : Fin 2)).val / 128, chunk_lt y⟩ (stB x0 x1 x2 x3 x4 x5 x6 x7 x8 x9 x10 ((y (0 : Fin 2)).val / 128))
    (Rect.unitLocal (s := S2048x256) (off := ![128 * ((y (0 : Fin 2)).val / 128), 0]) (size := S128x256.size) y (chunk_mem y))

/-- The last state. -/
def outS (x0 : Vec F S1x2048x128 .f32) (x1 : Vec F S1x2048x128 .f32) (x2 : Vec F S1x2048x256 .f32) (x3 : Vec F S1x2048x256 .f32) (x4 : Vec F S2048x128 .f32) (x5 : Vec F S2048x128 .f32) (x6 : Vec F S1x128x128 .f32) (x7 : Vec F S1x128x128 .f32) (x8 : Vec F S1x128x128 .f32) (x9 : Vec F S1x8x128 .f32) (x10 : Vec F S1x256 .f32) : Vec F S1x1x128x256 .f32 := k0_pay7 (stB x0 x1 x2 x3 x4 x5 x6 x7 x8 x9 x10 16)

theorem read_pcO (x0 : Vec F S1x2048x128 .f32) (x1 : Vec F S1x2048x128 .f32) (x2 : Vec F S1x2048x256 .f32) (x3 : Vec F S1x2048x256 .f32) (x4 : Vec F S2048x128 .f32) (x5 : Vec F S2048x128 .f32) (v4 : Vec F S1x128x128 .f32) (v6 : Vec F S1x128x128 .f32) (v8 : Vec F S1x128x128 .f32) (v10 : Vec F S1x1x1 .f32) (v12 : Vec F S1x256 .f32) (s0 : Vec F S128x256 .f32) (arg13 : Memref sig .tc .vmem S2048x256 .bf16) (G : BufTy.Contents (Elt F) arg13.view.ty) (y : S2048x256.Idx) :
    ∀ k, k ≤ k0_t1_loop.trips → (y (0 : Fin 2)).val < 128 * k →
      arg13.view.read (Elt F) (arg13.view.writes (Elt F) G (pcO x0 x1 x2 x3 x4 x5 v4 v6 v8 v10 v12 s0 k)) y
        = rowsOut x0 x1 x2 x3 x4 x5 v4 v6 v8 v10 v12 ⟨(y (0 : Fin 2)).val / 128, chunk_lt y⟩ (st x0 x1 x2 x3 x4 x5 v4 v6 v8 v10 v12 s0 ((y (0 : Fin 2)).val / 128))
          (Rect.unitLocal (s := S2048x256) (off := ![128 * ((y (0 : Fin 2)).val / 128), 0]) (size := S128x256.size) y (chunk_mem y))
  | 0, _, h => absurd h (Nat.not_lt_zero _)
  | k + 1, hk, h => by
    have e := pcO_succ x0 x1 x2 x3 x4 x5 v4 v6 v8 v10 v12 s0 ⟨k, hk⟩
    by_cases hl : (y (0 : Fin 2)).val < 128 * k
    · rw [e, View.read_writes_cons_rows_of_not_mem (d := ![2048, 256]) arg13.view G _ _ _ y (k0_off4_eq ⟨k, hk⟩) rfl (Or.inl hl)]
      exact read_pcO x0 x1 x2 x3 x4 x5 v4 v6 v8 v10 v12 s0 arg13 G y k (Nat.le_of_lt hk) hl
    · have hq : (y (0 : Fin 2)).val / 128 = k := by omega
      have key : ∀ q (hq' : q = k) (hlt : q < k0_t1_loop.trips) (hm : ∀ a : Fin 2, (![128 * q, 0] : Fin 2 → ℕ) a ≤ (y a).val ∧ (y a).val < (![128 * q, 0] : Fin 2 → ℕ) a + S128x256.size a),
          arg13.view.read (Elt F) (arg13.view.writes (Elt F) G (pcO x0 x1 x2 x3 x4 x5 v4 v6 v8 v10 v12 s0 (k + 1))) y
            = rowsOut x0 x1 x2 x3 x4 x5 v4 v6 v8 v10 v12 ⟨q, hlt⟩ (st x0 x1 x2 x3 x4 x5 v4 v6 v8 v10 v12 s0 q) (Rect.unitLocal (s := S2048x256) (off := ![128 * q, 0]) (size := S128x256.size) y hm) := by
        intro q hq' hlt hm
        subst hq'
        rw [e]
        exact (View.read_writes_cons_unit arg13.view G _ _ _ y (k0_off4_eq ⟨q, hk⟩)).trans (dif_pos hm)
      exact key _ hq (chunk_lt y) (chunk_mem y)

end Cert.KernelIdeal.Ret

end
-- ==== Proof.RetBody.lean ====
module

public import proofs.«01_k».proof.Proof.RetTrip
public import proofs.«01_k».proof.Proof.Gen.KernelIdeal.Launch
public import Idealize.ShloMosaic.Lib.WritesUnit
public import Idealize.ShloMosaic.Lib.VecWindow
public import Idealize.ShloMosaic.Lib.WholeRead

@[expose] public section

set_option maxRecDepth 16384

noncomputable section

namespace Cert.KernelIdeal.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The state as it is before the first chunk, over nothing. -/
abbrev G0 (arg15 : Memref sig .tc .vmem S128x256 .f32) : BufTy.Contents (Elt F) arg15.view.ty :=
  arg15.view.writes (Elt F) arg15.view.junk [⟨Rect.unit (s := S128x256) ![0, 0] S128x256.size inb_S128x256_S128x256_0_0, k0_pay1 (F := F)⟩]

theorem read_G0 (arg15 : Memref sig .tc .vmem S128x256 .f32) : arg15.view.read (Elt F) (G0 arg15) = k0_pay1 (F := F) :=
  View.read_writes_full _ _ _ _ _

/-- The state read after the last chunk. -/
theorem last_state (x0 : Vec F S1x2048x128 .f32) (x1 : Vec F S1x2048x128 .f32) (x2 : Vec F S1x2048x256 .f32) (x3 : Vec F S1x2048x256 .f32) (x4 : Vec F S2048x128 .f32) (x5 : Vec F S2048x128 .f32) (x6 : Vec F S1x128x128 .f32) (x7 : Vec F S1x128x128 .f32) (x8 : Vec F S1x128x128 .f32) (x9 : Vec F S1x8x128 .f32) (x10 : Vec F S1x256 .f32) (arg15 : Memref sig .tc .vmem S128x256 .f32) :
    arg15.view.readCov (pcS x0 x1 x2 x3 x4 x5 x6 x7 x8 (gc1 x9) x10 (arg15.view.read (Elt F) (G0 arg15)) 16 ++ [⟨Rect.unit (s := S128x256) ![0, 0] S128x256.size inb_S128x256_S128x256_0_0, k0_pay1 (F := F)⟩])
      (Rect.unit (s := S128x256) ![0, 0] S128x256.size inb_S128x256_S128x256_0_0).toLoadRect = stB x0 x1 x2 x3 x4 x5 x6 x7 x8 x9 x10 16 := by
  show arg15.view.readAt (Elt F) _ (arg15.view.writes (Elt F) arg15.view.junk _) = _
  rw [View.readAt_full, View.writes_append]
  refine (read_pcS x0 x1 x2 x3 x4 x5 x6 x7 x8 (gc1 x9) x10 arg15 (G0 arg15) 16 (Nat.le_of_eq trips16.symm)).trans ?_
  rw [read_G0]; rfl

/-- The result's block read after the last chunk. -/
theorem block_out (x0 : Vec F S1x2048x128 .f32) (x1 : Vec F S1x2048x128 .f32) (x2 : Vec F S1x2048x256 .f32) (x3 : Vec F S1x2048x256 .f32) (x4 : Vec F S2048x128 .f32) (x5 : Vec F S2048x128 .f32) (x6 : Vec F S1x128x128 .f32) (x7 : Vec F S1x128x128 .f32) (x8 : Vec F S1x128x128 .f32) (x9 : Vec F S1x8x128 .f32) (x10 : Vec F S1x256 .f32) (arg13 : Memref sig .tc .vmem S2048x256 .bf16) (arg15 : Memref sig .tc .vmem S128x256 .f32) (G : BufTy.Contents (Elt F) arg13.view.ty) :
    arg13.view.read (Elt F) (arg13.view.writes (Elt F) G (pcO x0 x1 x2 x3 x4 x5 x6 x7 x8 (gc1 x9) x10 (arg15.view.read (Elt F) (G0 arg15)) 16)) = outO x0 x1 x2 x3 x4 x5 x6 x7 x8 x9 x10 := by
  funext y
  rw [read_G0]
  exact read_pcO x0 x1 x2 x3 x4 x5 x6 x7 x8 (gc1 x9) x10 (k0_pay1 (F := F)) arg13 G y 16 (Nat.le_of_eq trips16.symm) (by have h : (y (0 : Fin 2)).val < 2048 := (y (0 : Fin 2)).isLt; omega)

set_option maxHeartbeats 1000000 in
/-- The body: the result's block at `outO`, the last state's at `outS`. -/
theorem body (c : Dev nD) (E : Set ℕ) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x8x128 .f32) (harg11 : arg11.IsWhole) (arg12 : Memref sig .tc .vmem S1x256 .f32) (harg12 : arg12.IsWhole) (arg13 : Memref sig .tc .vmem S2048x256 .bf16) (harg13 : arg13.IsWhole) (arg14 : Memref sig .tc .vmem S1x1x128x256 .f32) (harg14 : arg14.IsWhole) (arg15 : Memref sig .tc .vmem S128x256 .f32) (harg15 : arg15.IsWhole) (x0 : Vec F S1x2048x128 .f32) (x1 : Vec F S1x2048x128 .f32) (x2 : Vec F S1x2048x256 .f32) (x3 : Vec F S1x2048x256 .f32) (x4 : Vec F S2048x128 .f32) (x5 : Vec F S2048x128 .f32) (x6 : Vec F S1x128x128 .f32) (x7 : Vec F S1x128x128 .f32) (x8 : Vec F S1x128x128 .f32) (x9 : Vec F S1x8x128 .f32) (x10 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (outO x0 x1 x2 x3 x4 x5 x6 x7 x8 x9 x10) ∗ owns (c : Thread nD τ) arg14 fullShare (outS x0 x1 x2 x3 x4 x5 x6 x7 x8 x9 x10) ∗ (∃ d, owns (c : Thread nD τ) arg15 fullShare d)) -∗ K ⟨⟩))
      ⊢ wp frame (wpE (defs₀ (F := F)) Variants.none c none) E (cc0_ret_prompt i arg2 harg2 arg3 harg3 arg4 harg4 arg5 harg5 arg6 harg6 arg7 harg7 arg8 harg8 arg9 harg9 arg10 harg10 arg11 harg11 arg12 harg12 arg13 harg13 arg14 harg14 arg15 harg15) K := by
  have e8 : ∀ x : Vec F S1x128x128 .f32, View.readAt (Elt F) arg8.view (Rect.unit (s := S1x128x128) ![0, 0, 0] S1x128x128.size inb_S1x128x128_S1x128x128_0_0_0).toLoadRect (harg8.unread x) = x := fun x => (View.readAt_full _ _ _).trans (harg8.read_unread x)
  have e9 : ∀ x : Vec F S1x128x128 .f32, View.readAt (Elt F) arg9.view (Rect.unit (s := S1x128x128) ![0, 0, 0] S1x128x128.size inb_S1x128x128_S1x128x128_0_0_0).toLoadRect (harg9.unread x) = x := fun x => (View.readAt_full _ _ _).trans (harg9.read_unread x)
  have e10 : ∀ x : Vec F S1x128x128 .f32, View.readAt (Elt F) arg10.view (Rect.unit (s := S1x128x128) ![0, 0, 0] S1x128x128.size inb_S1x128x128_S1x128x128_0_0_0).toLoadRect (harg10.unread x) = x := fun x => (View.readAt_full _ _ _).trans (harg10.read_unread x)
  have e11 : ∀ x : Vec F S1x8x128 .f32, View.readAt (Elt F) arg11.view (Rect.unit (s := S1x8x128) ![0, 0, 0] S1x1x1.size inb_S1x8x128_S1x1x1_0_0_0).toLoadRect (harg11.unread x) = gc1 x := fun x => funext fun y => harg11.readAt_unread x _ y
  have e12 : ∀ x : Vec F S1x256 .f32, View.readAt (Elt F) arg12.view (Rect.unit (s := S1x256) ![0, 0] S1x256.size inb_S1x256_S1x256_0_0).toLoadRect (harg12.unread x) = x := fun x => (View.readAt_full _ _ _).trans (harg12.read_unread x)
  simp only [cc0_ret_prompt_eq_skeleton]; unfold cc0_ret_prompt_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec
  sl_step
  delta body.sl.v14 body.sl.HS0_1
  have e0 : arg15.view.read (Elt F) (arg15.view.writes (Elt F) arg15.view.junk [⟨Rect.unit (s := S128x256) ![0, 0] S128x256.size inb_S128x256_S128x256_0_0, k0_pay1 (F := F)⟩]) = k0_pay1 (F := F) :=
    View.read_writes_full _ _ _ _ _
  have et : Scf.trips k0_t1_loop.lb k0_t1_loop.ub k0_t1_loop.st = 16 := trips16
  have hv := last_state x0 x1 x2 x3 x4 x5 x6 x7 x8 x9 x10 arg15
  have ho := block_out x0 x1 x2 x3 x4 x5 x6 x7 x8 x9 x10 arg13 arg15 f11
  rw [et]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10

  isplitl [H11]
  · iexists _; isplitr
    swap; · iexact H11
    ipureintro; exact ho
  isplitl [H12]
  · iexists _; isplitr
    swap; · iexact H12
    ipureintro; exact (View.read_writes_full _ _ _ _ _).trans (congrArg k0_pay7 hv)
  iexists _; iexists _; isplitr
  swap; · iexact HS0
  ipureintro; rfl

end Cert.KernelIdeal.Ret

end
-- ==== Proof.RetRun.lean ====
module

public import proofs.«01_k».proof.Proof.RetBody
public import proofs.«01_k».proof.Proof.Gen.KernelIdeal.Frame.Runs
public import Idealize.ShloMosaic.Lib.Claim

@[expose] public section

set_option maxRecDepth 16384

noncomputable section

namespace Cert.KernelIdeal.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's block at a grid point, from the input blocks there. -/
def oAt (c : Dev nD) (t : Fin cfg0.N) : Vec F S2048x256 .bf16 := outO (iblk m c 0 t) (iblk m c 1 t) (iblk m c 2 t) (iblk m c 3 t) (iblk m c 4 t) (iblk m c 5 t) (iblk m c 6 t) (iblk m c 7 t) (iblk m c 8 t) (iblk m c 9 t) (iblk m c 10 t)
/-- The last state's block at a grid point. -/
def sAt (c : Dev nD) (t : Fin cfg0.N) : Vec F S1x1x128x256 .f32 := outS (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- What every window's buffer holds after the body: an input its block, the two results `oAt` and `sAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => oAt m c t
    | ⟨12, _⟩ => sAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = oAt m c t := by dsimp only [dats]
theorem after_12 (c : Dev nD) (t : Fin cfg0.N) : (dats m 0 c).after 12 t = sAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- What the body is called with at a point. -/
def preAt (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What it leaves. -/
def postAt (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1200000 in
theorem sound (c : Dev nD) (t : Fin cfg0.N) :
    preAt m c t ⊢ wp frame (wpE (defs₀ (F := F)) Variants.none c none) Set.univ (bodyAt0 t) (fun _ => postAt m c t) := by
  unfold preAt postAt bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HS0]; · iexact HS0
  iintro ⟨H0, H1, H2, H3, H4, H5, H6, H7, H8, H9, H10, H11, H12, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem bodyRow (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, bodyRow]
  exact triple_restated (sound m c t) rfl .rfl fun _ => .rfl

set_option backward.isDefEq.respectTransparency.types false in
theorem runQ : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem runF : θ_run defs (onTc (τ := τ) (main (F := F))) (s₀ m ρ) (Pipeline.FramePost cfgs (dats m) 0 (V m)) :=
  (θ_run defs _ _).mono (fun _ h => h.1) (runQ m ρ)

/-- The arguments are left as they were and every semaphore ends at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (runF m ρ)) ((θ_run defs _ _).mono (fun _ h => h.2) (runQ m ρ))

end Cert.KernelIdeal.Ret

end
-- ==== Proof.RetMath.lean ====
module

public import Idealize.ShloMosaic.Lib.Pipeline.ValueKit
public import Idealize.ShloMosaic.Lib.Pointwise

/-! # The retention in numbers

The two programs' results, as functions of the projection `X` and the gain `g`: the rotated queries and keys, the decays,
the state before every chunk, a chunk's rows before and after the head's normalisation. -/

@[expose] public section

set_option maxRecDepth 16384

noncomputable section

namespace Cert.RetM

open Idealize.ShloMosaic Idealize.ShloMosaic.TcCoe Idealize.SL.Sem

/-- The projection's entry, `0` outside the array. -/
def at3 (X : (⟨3, ![6, 8192, 1024]⟩ : Shape).Idx → EReal) (g r c : ℕ) : EReal :=
  if h : g < 6 ∧ r < 8192 ∧ c < 1024 then X (ix3 ⟨g, h.1⟩ ⟨r, h.2.1⟩ ⟨c, h.2.2⟩) else 0
theorem at3_eq (X : (⟨3, ![6, 8192, 1024]⟩ : Shape).Idx → EReal) (g : Fin 6) (r : Fin 8192) (c : Fin 1024) :
    X (ix3 g r c) = at3 X g.val r.val c.val := by
  unfold at3; rw [dif_pos ⟨g.isLt, r.isLt, c.isLt⟩]
/-- The gain's entry. -/
def at2 (X : (⟨2, ![1, 1024]⟩ : Shape).Idx → EReal) (c : ℕ) : EReal :=
  if h : c < 1024 then X (ix2 0 ⟨c, h⟩) else 0
theorem at2_eq (X : (⟨2, ![1, 1024]⟩ : Shape).Idx → EReal) (c : Fin 1024) :
    X (ix2 0 c) = at2 X c.val := by
  unfold at2; rw [dif_pos c.isLt]

def ang (r d : ℕ) : EReal :=
  FloatOps.sitofp (F := Ideal) FTy.f32 (BitVec.ofNat 32 r) *
    Ideal.pow (Ideal.ofBits FTy.f32 1176256512#32) (Ideal.div (-FloatOps.sitofp (F := Ideal) FTy.f32 (BitVec.ofNat 32 d)) (Ideal.ofBits FTy.f32 1115684864#32))
def csn (r d : ℕ) : EReal := Ideal.cos (ang r d)
def sn (r d : ℕ) : EReal := Ideal.sin (ang r d)
/-- The logarithm of a head's decay. -/
def lg (h : ℕ) : EReal :=
  Ideal.log1p (-Ideal.pow (Ideal.ofBits FTy.f32 1073741824#32) (Ideal.ofBits FTy.f32 3231711232#32 - FloatOps.sitofp (F := Ideal) FTy.f32 (BitVec.ofNat 32 h)))
def qdT (h i : ℕ) : EReal := Ideal.exp ((FloatOps.sitofp (F := Ideal) FTy.f32 (BitVec.ofNat 32 i) + 1) * lg h)
def kdT (h i : ℕ) : EReal := Ideal.exp ((Ideal.ofBits FTy.f32 1123942400#32 - FloatOps.sitofp (F := Ideal) FTy.f32 (BitVec.ofNat 32 i)) * lg h)
def gcT (h : ℕ) : EReal := Ideal.exp (Ideal.ofBits FTy.f32 1124073472#32 * lg h)
/-- The decay between a chunk's rows `i` and `j`. -/
def decT (h i j : ℕ) : EReal :=
  if (0 : EReal) ≤ FloatOps.sitofp (F := Ideal) FTy.f32 (BitVec.ofNat 32 i) - FloatOps.sitofp (F := Ideal) FTy.f32 (BitVec.ofNat 32 j) then
    Ideal.exp (max (FloatOps.sitofp (F := Ideal) FTy.f32 (BitVec.ofNat 32 i) - FloatOps.sitofp (F := Ideal) FTy.f32 (BitVec.ofNat 32 j)) 0 * lg h)
  else 0
/-- A row rotated. -/
def rot (x : ℕ → EReal) (r d : ℕ) : EReal :=
  if d < 64 then x d * csn r d - x (64 + d) * sn r d else x (d - 64) * sn r (d - 64) + x d * csn r (d - 64)
def Qr (X : (⟨3, ![6, 8192, 1024]⟩ : Shape).Idx → EReal) (b h r d : ℕ) : EReal :=
  rot (fun d => at3 X 3 (b * 2048 + r) (h * 128 + d)) r d
def Kr (X : (⟨3, ![6, 8192, 1024]⟩ : Shape).Idx → EReal) (b h r d : ℕ) : EReal :=
  rot (fun d => at3 X 3 (b * 2048 + r) (512 + (h * 128 + d))) r d * Ideal.ofBits FTy.f32 1035273459#32
def Vr (X : (⟨3, ![6, 8192, 1024]⟩ : Shape).Idx → EReal) (b h r e : ℕ) : EReal := at3 X 4 (b * 2048 + r) (h * 256 + e)
def Gr (X : (⟨3, ![6, 8192, 1024]⟩ : Shape).Idx → EReal) (b h r e : ℕ) : EReal := at3 X 5 (b * 2048 + r) (h * 256 + e)
/-- The state before chunk `n`. -/
def S (X : (⟨3, ![6, 8192, 1024]⟩ : Shape).Idx → EReal) (b h : ℕ) : ℕ → ℕ → ℕ → EReal
  | 0 => fun _ _ => 0
  | n + 1 => fun d e => gcT h * S X b h n d e + ∑ j : Fin 128, Kr X b h (n * 128 + j.val) d * kdT h j.val * Vr X b h (n * 128 + j.val) e
theorem S_succ (X : (⟨3, ![6, 8192, 1024]⟩ : Shape).Idx → EReal) (b h n d e : ℕ) :
    S X b h (n + 1) d e = gcT h * S X b h n d e + ∑ j : Fin 128, Kr X b h (n * 128 + j.val) d * kdT h j.val * Vr X b h (n * 128 + j.val) e := rfl
/-- A chunk's rows. -/
def O (X : (⟨3, ![6, 8192, 1024]⟩ : Shape).Idx → EReal) (b h n i e : ℕ) : EReal :=
  (∑ x : Fin 128, (∑ y : Fin 128, Qr X b h (n * 128 + i) y.val * Kr X b h (n * 128 + x.val) y.val) * decT h i x.val * Vr X b h (n * 128 + x.val) e)
    + ∑ x : Fin 128, Qr X b h (n * 128 + i) x.val * qdT h i * S X b h n x.val e
/-- A row normalised. -/
def norm (o : ℕ → EReal) (e : ℕ) : EReal :=
  (o e - Ideal.div (∑ x : Fin 256, o x.val) (Ideal.ofBits FTy.f32 1132462080#32)) *
    Ideal.rsqrt (Ideal.div (∑ x : Fin 256,
        (o x.val - Ideal.div (∑ x : Fin 256, o x.val) (Ideal.ofBits FTy.f32 1132462080#32)) *
          (o x.val - Ideal.div (∑ x : Fin 256, o x.val) (Ideal.ofBits FTy.f32 1132462080#32)))
        (Ideal.ofBits FTy.f32 1132462080#32) + Ideal.ofBits FTy.f32 897988541#32)
/-- A chunk's rows of the result. -/
def R (X : (⟨3, ![6, 8192, 1024]⟩ : Shape).Idx → EReal) (g : (⟨2, ![1, 1024]⟩ : Shape).Idx → EReal) (b h n i e : ℕ) : EReal :=
  norm (fun e => O X b h n i e) e * at2 g (h * 256 + e) * (Gr X b h (n * 128 + i) e * Ideal.logistic (Gr X b h (n * 128 + i) e))

/-- The rotation as a product with the row and with the row moved by half a head. -/
theorem rot_eq (x : ℕ → EReal) (r : ℕ) (d : ℕ) (hd : d < 128) :
    x d * (if d < 64 then csn r d else csn r (d - 64)) + x ((d + 128 - 64) % 128) * (if d < 64 then -sn r d else sn r (d - 64)) = rot x r d := by
  unfold rot
  by_cases h : d < 64
  · rw [if_pos h, if_pos h, if_pos h, show (d + 128 - 64) % 128 = 64 + d by omega, mul_neg, sub_eq_add_neg]
  · rw [if_neg h, if_neg h, if_neg h, show (d + 128 - 64) % 128 = d - 64 by omega, add_comm]

end Cert.RetM
-- ==== Proof.RetKer.lean ====
module

public import proofs.«01_k».proof.Proof.RetRun
public import proofs.«01_k».proof.Proof.RetMath
public import Idealize.ShloMosaic.Lib.Claim

/-! # The kernel's results in numbers -/

@[expose] public section

set_option maxRecDepth 16384

noncomputable section

namespace Cert.KernelIdeal.Ret

open Cert.KernelIdeal Cert.KernelIdeal.Gen Cert.RetM
open Idealize.ShloMosaic Idealize.ShloMosaic.TcCoe Idealize.SL.Sem
open Idealize.ShloMosaic.StableHlo
open Idealize.ShloMosaic.Pipeline (Dat)

/-! ## A chunk -/

theorem nextSt_at (v10 : FVec Ideal S1x1x1 .f32) (v : FVec Ideal S1x128x256 .f32) (s : FVec Ideal S128x256 .f32) (v8 : FVec Ideal S1x128x128 .f32)
    (co si : FVec Ideal S128x128 .f32) (kk : FVec Ideal S1x128x128 .f32) (d : Fin 128) (e : Fin 256) :
    k0_pay5 (F := Ideal) v10 (k0_pay11 v) s (k0_pay13 (k0_pay4 v8) co si kk) (ix2 d e)
      = v10 (ix3 0 0 0) * s (ix2 d e) + ∑ x : Fin 128,
        (kk (ix3 0 x d) * co (ix2 x d) + kk (ix3 0 x ⟨(d.val + 128 - 64) % 128, Nat.mod_lt _ (by omega)⟩) * si (ix2 x d)) *
          Ideal.ofBits FTy.f32 1035273459#32 * v8 (ix3 0 x d) * v (ix3 0 x e) := by
  pointwise [k0_pay5, k0_pay11, k0_pay13, k0_pay4, k0_pay10, k0_pay8, k0_pay9]
theorem core_at (v4 v6 : FVec Ideal S1x128x128 .f32) (v : FVec Ideal S1x128x256 .f32) (s : FVec Ideal S128x256 .f32) (co si : FVec Ideal S128x128 .f32)
    (qq kk : FVec Ideal S1x128x128 .f32) (d : Fin 128) (e : Fin 256) :
    k0_pay12 (F := Ideal) (k0_pay2 v4) (k0_pay3 v6) co si qq kk v s (ix2 d e)
      = ∑ x : Fin 128, (∑ y : Fin 128,
            (qq (ix3 0 d y) * co (ix2 d y) + qq (ix3 0 d ⟨(y.val + 128 - 64) % 128, Nat.mod_lt _ (by omega)⟩) * si (ix2 d y)) *
              ((kk (ix3 0 x y) * co (ix2 x y) + kk (ix3 0 x ⟨(y.val + 128 - 64) % 128, Nat.mod_lt _ (by omega)⟩) * si (ix2 x y)) *
                Ideal.ofBits FTy.f32 1035273459#32)) * v4 (ix3 0 d x) * v (ix3 0 x e)
        + ∑ x : Fin 128, (qq (ix3 0 d x) * co (ix2 d x) + qq (ix3 0 d ⟨(x.val + 128 - 64) % 128, Nat.mod_lt _ (by omega)⟩) * si (ix2 d x)) * v6 (ix3 0 d x) *
          s (ix2 x e) := by
  pointwise [k0_pay12, k0_pay2, k0_pay3, k0_pay4, k0_pay10, k0_pay8, k0_pay9, k0_pay11]
theorem norm_at (v12 : FVec Ideal S1x256 .f32) (o : FVec Ideal S128x256 .f32) (g : FVec Ideal S1x128x256 .f32) (f : ℕ → EReal) (d : Fin 128) (e : Fin 256)
    (hf : ∀ e : Fin 256, o (ix2 d e) = f e.val) :
    k0_pay6 (F := Ideal) v12 o g (ix2 d e) = norm f e.val * v12 (ix2 0 e) * (g (ix3 0 d e) * Ideal.logistic (g (ix3 0 d e))) := by
  pointwise [k0_pay6]
  simp only [hf]
  rfl
theorem last_at (v : FVec Ideal S128x256 .f32) (d : Fin 128) (e : Fin 256) :
    k0_pay7 (F := Ideal) v (ix4 0 0 d e) = v (ix2 d e) := by
  pointwise [k0_pay7]
theorem zero_at (d : Fin 128) (e : Fin 256) : k0_pay1 (F := Ideal) (ix2 d e) = (0 : EReal) := by
  pointwise [k0_pay1]

theorem off1 : ∀ k : Fin k0_t1_loop.trips, k0_off1 k = ![k.val * 128, 0] := by decide +kernel
theorem off2 : ∀ k : Fin k0_t1_loop.trips, k0_off2 k = ![0, k.val * 128, 0] := by decide +kernel
theorem off3 : ∀ k : Fin k0_t1_loop.trips, k0_off3 k = ![0, k.val * 128, 0] := by decide +kernel

theorem row_lt (k : Fin k0_t1_loop.trips) (i : Fin 128) : k.val * 128 + i.val < 2048 := by
  have := k.isLt; have := trips16; omega

theorem tab_at (x : FVec Ideal S2048x128 .f32) (k : Fin k0_t1_loop.trips) (i d : Fin 128) :
    tabRows (F := Ideal) x k (ix2 i d) = x (ix2 ⟨k.val * 128 + i.val, row_lt k i⟩ d) := by
  unfold tabRows
  refine congrArg x (funext fun a => Fin.ext ?_)
  fin_cases a <;> simp [Rect.unit, LoadRect.idx, off1]
theorem qk_at (x : FVec Ideal S1x2048x128 .f32) (k : Fin k0_t1_loop.trips) (i d : Fin 128) :
    qkRows (F := Ideal) x k (ix3 0 i d) = x (ix3 0 ⟨k.val * 128 + i.val, row_lt k i⟩ d) := by
  unfold qkRows
  refine congrArg x (funext fun a => Fin.ext ?_)
  fin_cases a <;> simp [Rect.unit, LoadRect.idx, off2]
theorem vg_at (x : FVec Ideal S1x2048x256 .f32) (k : Fin k0_t1_loop.trips) (i : Fin 128) (d : Fin 256) :
    vgRows (F := Ideal) x k (ix3 0 i d) = x (ix3 0 ⟨k.val * 128 + i.val, row_lt k i⟩ d) := by
  unfold vgRows
  refine congrArg x (funext fun a => Fin.ext ?_)
  fin_cases a <;> simp [Rect.unit, LoadRect.idx, off3]
theorem gc1_at (x : FVec Ideal S1x8x128 .f32) : gc1 (F := Ideal) x (ix3 0 0 0) = x (ix3 0 0 0) := by
  unfold gc1
  refine congrArg x (funext fun a => Fin.ext ?_)
  fin_cases a <;> simp [Rect.unit, LoadRect.idx]

/-! ## The tables -/

section Tables
variable (m : (ℓ : Loc nD τ sig) → Buf (Elt Ideal) ℓ)

theorem cos_at (c : Dev nD) (r : Fin 2048) (d : Fin 128) :
    (V m c main_v15 : FVec Ideal S2048x128 .f32) (ix2 r d) = if d.val < 64 then csn r.val d.val else csn r.val (d.val - 64) := by
  simp only [V, hostOps0, hostOps0_1, hostOps0_2, List.flatten_cons, List.flatten_nil, List.append_nil, List.cons_append, List.nil_append]
  entry_read; pointwise; simp only [csn, ang, dite_eq_ite]
theorem sin_at (c : Dev nD) (r : Fin 2048) (d : Fin 128) :
    (V m c main_v19 : FVec Ideal S2048x128 .f32) (ix2 r d) = if d.val < 64 then -sn r.val d.val else sn r.val (d.val - 64) := by
  simp only [V, hostOps0, hostOps0_1, hostOps0_2, List.flatten_cons, List.flatten_nil, List.append_nil, List.cons_append, List.nil_append]
  entry_read; pointwise; simp only [sn, ang, dite_eq_ite]
set_option maxHeartbeats 1600000 in
theorem dec_at (c : Dev nD) (h : Fin 4) (i j : Fin 128) :
    (V m c main_v43 : FVec Ideal S4x128x128 .f32) (ix3 h i j) = decT h.val i.val j.val := by
  simp only [V, hostOps0, hostOps0_1, hostOps0_2, List.flatten_cons, List.flatten_nil, List.append_nil, List.cons_append, List.nil_append]
  entry_read
  simp only [TRef.ofBuf_toBuf]
  dsimp only [TRef.toBuf, TRef.ofBuf]
  repeat erw [cast_eq]
  pointwise
  simp only [decT, lg]
theorem qd_at (c : Dev nD) (h : Fin 4) (i j : Fin 128) :
    (V m c main_v55 : FVec Ideal S4x128x128 .f32) (ix3 h i j) = qdT h.val i.val := by
  simp only [V, hostOps0, hostOps0_1, hostOps0_2, List.flatten_cons, List.flatten_nil, List.append_nil, List.cons_append, List.nil_append]
  entry_read; pointwise; simp only [qdT, lg]
theorem kd_at (c : Dev nD) (h : Fin 4) (i j : Fin 128) :
    (V m c main_v66 : FVec Ideal S4x128x128 .f32) (ix3 h i j) = kdT h.val i.val := by
  simp only [V, hostOps0, hostOps0_1, hostOps0_2, List.flatten_cons, List.flatten_nil, List.append_nil, List.cons_append, List.nil_append]
  entry_read; pointwise; simp only [kdT, lg]
theorem gc_at (c : Dev nD) (h : Fin 4) (i : Fin 8) (j : Fin 128) :
    (V m c main_v74 : FVec Ideal S4x8x128 .f32) (ix3 h i j) = gcT h.val := by
  simp only [V, hostOps0, hostOps0_1, hostOps0_2, List.flatten_cons, List.flatten_nil, List.append_nil, List.cons_append, List.nil_append]
  entry_read; pointwise; simp only [gcT, lg]
end Tables

end Cert.KernelIdeal.Ret
-- ==== Proof.RetArr.lean ====
module

public import proofs.«01_k».proof.Proof.RetKer
public import Idealize.ShloMosaic.Lib.Claim

/-! # The kernel's arrays in numbers -/

@[expose] public section

set_option maxRecDepth 16384

noncomputable section

namespace Cert.KernelIdeal.Ret

open Cert.KernelIdeal Cert.KernelIdeal.Gen Cert.RetM
open Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ)

/-- The projection and the gain as launched. -/
abbrev Xa (c : Dev nD) : FVec Ideal S6x8192x1024 .f32 := m ((c : Thread nD τ).loc main_arg0)
abbrev Ga (c : Dev nD) : FVec Ideal S1x1024 .f32 := m ((c : Thread nD τ).loc main_arg1)

theorem idx : ∀ t : Fin cfg0.N, win0_0.index t = ![3, t.val / 4, t.val % 4] ∧ win0_1.index t = ![3, t.val / 4, 4 + t.val % 4]
    ∧ win0_2.index t = ![4, t.val / 4, t.val % 4] ∧ win0_3.index t = ![5, t.val / 4, t.val % 4]
    ∧ win0_4.index t = ![0, 0] ∧ win0_5.index t = ![0, 0]
    ∧ win0_6.index t = ![t.val % 4, 0, 0] ∧ win0_7.index t = ![t.val % 4, 0, 0] ∧ win0_8.index t = ![t.val % 4, 0, 0] ∧ win0_9.index t = ![t.val % 4, 0, 0]
    ∧ win0_10.index t = ![0, t.val % 4] ∧ win0_11.index t = ![t.val / 4, t.val % 4] ∧ win0_12.index t = ![t.val / 4, t.val % 4, 0, 0] :=
  (by decide +kernel : ∀ t : Fin grid0.N, _)
theorem t_lt (t : Fin cfg0.N) : t.val < 16 := t.isLt
theorem hd_lt (t : Fin cfg0.N) : t.val % 4 < 4 := Nat.mod_lt _ (by omega)

/-! ## The blocks -/

theorem blk0 (c : Dev nD) (t : Fin cfg0.N) (r : Fin 2048) (d : Fin 128) :
    (iblk m c 0 t : FVec Ideal S1x2048x128 .f32) (ix3 0 r d) = at3 (Xa m c) 3 (t.val / 4 * 2048 + r.val) (t.val % 4 * 128 + d.val) := by
  have := t_lt t
  refine Eq.trans ?_ (at3_eq (Xa m c) 3 ⟨t.val / 4 * 2048 + r.val, by omega⟩ ⟨t.val % 4 * 128 + d.val, by omega⟩)
  blk_ext [iblk, V_main_arg0 m c, idx t]
theorem blk1 (c : Dev nD) (t : Fin cfg0.N) (r : Fin 2048) (d : Fin 128) :
    (iblk m c 1 t : FVec Ideal S1x2048x128 .f32) (ix3 0 r d) = at3 (Xa m c) 3 (t.val / 4 * 2048 + r.val) (512 + (t.val % 4 * 128 + d.val)) := by
  have := t_lt t
  refine Eq.trans ?_ (at3_eq (Xa m c) 3 ⟨t.val / 4 * 2048 + r.val, by omega⟩ ⟨512 + (t.val % 4 * 128 + d.val), by omega⟩)
  blk_ext [iblk, V_main_arg0 m c, idx t]
theorem blk2 (c : Dev nD) (t : Fin cfg0.N) (r : Fin 2048) (d : Fin 256) :
    (iblk m c 2 t : FVec Ideal S1x2048x256 .f32) (ix3 0 r d) = at3 (Xa m c) 4 (t.val / 4 * 2048 + r.val) (t.val % 4 * 256 + d.val) := by
  have := t_lt t
  refine Eq.trans ?_ (at3_eq (Xa m c) 4 ⟨t.val / 4 * 2048 + r.val, by omega⟩ ⟨t.val % 4 * 256 + d.val, by omega⟩)
  blk_ext [iblk, V_main_arg0 m c, idx t]
theorem blk3 (c : Dev nD) (t : Fin cfg0.N) (r : Fin 2048) (d : Fin 256) :
    (iblk m c 3 t : FVec Ideal S1x2048x256 .f32) (ix3 0 r d) = at3 (Xa m c) 5 (t.val / 4 * 2048 + r.val) (t.val % 4 * 256 + d.val) := by
  have := t_lt t
  refine Eq.trans ?_ (at3_eq (Xa m c) 5 ⟨t.val / 4 * 2048 + r.val, by omega⟩ ⟨t.val % 4 * 256 + d.val, by omega⟩)
  blk_ext [iblk, V_main_arg0 m c, idx t]
theorem blk4 (c : Dev nD) (t : Fin cfg0.N) (r : Fin 2048) (d : Fin 128) :
    (iblk m c 4 t : FVec Ideal S2048x128 .f32) (ix2 r d) = if d.val < 64 then csn r.val d.val else csn r.val (d.val - 64) := by
  refine Eq.trans ?_ (cos_at m c r d)
  blk_ext [iblk, idx t]
theorem blk5 (c : Dev nD) (t : Fin cfg0.N) (r : Fin 2048) (d : Fin 128) :
    (iblk m c 5 t : FVec Ideal S2048x128 .f32) (ix2 r d) = if d.val < 64 then -sn r.val d.val else sn r.val (d.val - 64) := by
  refine Eq.trans ?_ (sin_at m c r d)
  blk_ext [iblk, idx t]
theorem blk6 (c : Dev nD) (t : Fin cfg0.N) (i j : Fin 128) :
    (iblk m c 6 t : FVec Ideal S1x128x128 .f32) (ix3 0 i j) = decT (t.val % 4) i.val j.val := by
  refine Eq.trans ?_ (dec_at m c ⟨t.val % 4, hd_lt t⟩ i j)
  blk_ext [iblk, idx t]
theorem blk7 (c : Dev nD) (t : Fin cfg0.N) (i j : Fin 128) :
    (iblk m c 7 t : FVec Ideal S1x128x128 .f32) (ix3 0 i j) = qdT (t.val % 4) i.val := by
  refine Eq.trans ?_ (qd_at m c ⟨t.val % 4, hd_lt t⟩ i j)
  blk_ext [iblk, idx t]
theorem blk8 (c : Dev nD) (t : Fin cfg0.N) (i j : Fin 128) :
    (iblk m c 8 t : FVec Ideal S1x128x128 .f32) (ix3 0 i j) = kdT (t.val % 4) i.val := by
  refine Eq.trans ?_ (kd_at m c ⟨t.val % 4, hd_lt t⟩ i j)
  blk_ext [iblk, idx t]
theorem blk9 (c : Dev nD) (t : Fin cfg0.N) (i : Fin 8) (j : Fin 128) :
    (iblk m c 9 t : FVec Ideal S1x8x128 .f32) (ix3 0 i j) = gcT (t.val % 4) := by
  refine Eq.trans ?_ (gc_at m c ⟨t.val % 4, hd_lt t⟩ i j)
  blk_ext [iblk, idx t]
theorem blk10 (c : Dev nD) (t : Fin cfg0.N) (e : Fin 256) :
    (iblk m c 10 t : FVec Ideal S1x256 .f32) (ix2 0 e) = at2 (Ga m c) (t.val % 4 * 256 + e.val) := by
  refine Eq.trans ?_ (at2_eq (Ga m c) ⟨t.val % 4 * 256 + e.val, by omega⟩)
  blk_ext [iblk, V_main_arg1 m c, idx t]

/-! ## The rotated rows -/

/-- A chunk's queries, rotated. -/
theorem q_row (c : Dev nD) (t : Fin cfg0.N) (k : Fin k0_t1_loop.trips) (i d : Fin 128) :
    (show EReal from qkRows (F := Ideal) (iblk m c 0 t) k (ix3 0 i d)) * tabRows (F := Ideal) (iblk m c 4 t) k (ix2 i d)
      + (show EReal from qkRows (F := Ideal) (iblk m c 0 t) k (ix3 0 i ⟨(d.val + 128 - 64) % 128, Nat.mod_lt _ (by omega)⟩)) * tabRows (F := Ideal) (iblk m c 5 t) k (ix2 i d)
      = Qr (Xa m c) (t.val / 4) (t.val % 4) (k.val * 128 + i.val) d.val := by
  rw [qk_at, qk_at, tab_at, tab_at]
  refine Eq.trans (congrArg₂ (· + ·) (congrArg₂ (· * ·) (blk0 m c t _ d) (blk4 m c t _ d)) (congrArg₂ (· * ·) (blk0 m c t _ _) (blk5 m c t _ d))) ?_
  exact rot_eq (fun d => at3 (Xa m c) 3 (t.val / 4 * 2048 + (k.val * 128 + i.val)) (t.val % 4 * 128 + d)) (k.val * 128 + i.val) d.val d.isLt
/-- A chunk's keys, rotated. -/
theorem k_row (c : Dev nD) (t : Fin cfg0.N) (k : Fin k0_t1_loop.trips) (i d : Fin 128) :
    ((show EReal from qkRows (F := Ideal) (iblk m c 1 t) k (ix3 0 i d)) * tabRows (F := Ideal) (iblk m c 4 t) k (ix2 i d)
      + (show EReal from qkRows (F := Ideal) (iblk m c 1 t) k (ix3 0 i ⟨(d.val + 128 - 64) % 128, Nat.mod_lt _ (by omega)⟩)) * tabRows (F := Ideal) (iblk m c 5 t) k (ix2 i d))
      * Ideal.ofBits FTy.f32 1035273459#32
      = Kr (Xa m c) (t.val / 4) (t.val % 4) (k.val * 128 + i.val) d.val := by
  rw [qk_at, qk_at, tab_at, tab_at]
  refine congrArg (· * Ideal.ofBits FTy.f32 1035273459#32) (Eq.trans (congrArg₂ (· + ·) (congrArg₂ (· * ·) (blk1 m c t _ d) (blk4 m c t _ d)) (congrArg₂ (· * ·) (blk1 m c t _ _) (blk5 m c t _ d))) ?_)
  exact rot_eq (fun d => at3 (Xa m c) 3 (t.val / 4 * 2048 + (k.val * 128 + i.val)) (512 + (t.val % 4 * 128 + d))) (k.val * 128 + i.val) d.val d.isLt

/-! ## The states and the rows -/

/-- The state before a chunk, at a grid point. -/
abbrev stAt (c : Dev nD) (t : Fin cfg0.N) (n : ℕ) : FVec Ideal S128x256 .f32 :=
  stB (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) n

theorem state_at (c : Dev nD) (t : Fin cfg0.N) : ∀ n, n ≤ 16 → ∀ (d : Fin 128) (e : Fin 256),
    stAt m c t n (ix2 d e) = S (Xa m c) (t.val / 4) (t.val % 4) n d.val e.val
  | 0, _, d, e => zero_at d e
  | n + 1, hn, d, e => by
    have hk : n < k0_t1_loop.trips := by rw [trips16]; omega
    have h := st_succ (F := Ideal) (iblk m c 0 t) (iblk m c 1 t) (iblk m c 2 t) (iblk m c 3 t) (iblk m c 4 t) (iblk m c 5 t) (iblk m c 6 t) (iblk m c 7 t) (iblk m c 8 t) (gc1 (iblk m c 9 t)) (iblk m c 10 t) (k0_pay1 (F := Ideal)) ⟨n, hk⟩
    refine (congrFun h (ix2 d e)).trans ?_
    unfold nextSt
    refine (nextSt_at _ _ _ _ _ _ _ d e).trans ?_
    rw [S_succ]
    refine congrArg₂ (· + ·) (congrArg₂ (· * ·) ((gc1_at _).trans (blk9 m c t 0 0)) (state_at c t n (by omega) d e)) (Finset.sum_congr rfl fun x _ => ?_)
    refine congrArg₂ (· * ·) (congrArg₂ (· * ·) (k_row m c t ⟨n, hk⟩ x d) (blk8 m c t x d)) ?_
    rw [vg_at]
    exact blk2 m c t _ e

theorem rows_at (c : Dev nD) (t : Fin cfg0.N) (k : Fin k0_t1_loop.trips) (i : Fin 128) (e : Fin 256) :
    rowsOut (F := Ideal) (iblk m c 0 t) (iblk m c 1 t) (iblk m c 2 t) (iblk m c 3 t) (iblk m c 4 t) (iblk m c 5 t) (iblk m c 6 t) (iblk m c 7 t) (iblk m c 8 t) (gc1 (iblk m c 9 t)) (iblk m c 10 t) k (stAt m c t k.val) (ix2 i e)
      = R (Xa m c) (Ga m c) (t.val / 4) (t.val % 4) k.val i.val e.val := by
  unfold rowsOut R
  refine (norm_at _ _ _ (fun e => O (Xa m c) (t.val / 4) (t.val % 4) k.val i.val e) i e fun e => ?_).trans ?_
  · refine (core_at _ _ _ _ _ _ _ _ i e).trans ?_
    unfold O
    refine congrArg₂ (· + ·) (Finset.sum_congr rfl fun x _ => ?_) (Finset.sum_congr rfl fun x _ => ?_)
    · refine congrArg₂ (· * ·) (congrArg₂ (· * ·) (Finset.sum_congr rfl fun y _ => ?_) (blk6 m c t i x)) ?_
      · exact congrArg₂ (· * ·) (q_row m c t k i y) (k_row m c t k x y)
      · rw [vg_at]; exact blk2 m c t _ e
    · exact congrArg₂ (· * ·) (congrArg₂ (· * ·) (q_row m c t k i x) (blk7 m c t i x)) (state_at m c t k.val (by have := k.isLt; have := trips16; omega) x e)
  · refine congrArg₂ (· * ·) (congrArg₂ (· * ·) rfl (blk10 m c t e)) ?_
    rw [vg_at]
    exact congrArg (fun g : EReal => g * Ideal.logistic g) (blk3 m c t _ e)

/-! ## The two arrays -/

/-- The first result. -/
def G11 (c : Dev nD) : FVec Ideal S8192x1024 .bf16 := fun y =>
  R (Xa m c) (Ga m c) ((y 0).val / 2048) ((y 1).val / 256) ((y 0).val % 2048 / 128) ((y 0).val % 128) ((y 1).val % 256)
/-- The second result. -/
def G12 (c : Dev nD) : FVec Ideal S4x4x128x256 .f32 := fun y => S (Xa m c) (y 0).val (y 1).val 16 (y 2).val (y 3).val

theorem oAt_at (c : Dev nD) (t : Fin cfg0.N) (r : Fin 2048) (e : Fin 256) :
    oAt m c t (ix2 r e) = R (Xa m c) (Ga m c) (t.val / 4) (t.val % 4) (r.val / 128) (r.val % 128) e.val := by
  unfold oAt outO
  have hk : r.val / 128 < k0_t1_loop.trips := by rw [trips16]; omega
  refine Eq.trans (congrArg _ ?_) (rows_at m c t ⟨r.val / 128, hk⟩ ⟨r.val % 128, Nat.mod_lt _ (by omega)⟩ e)
  refine funext fun a => Fin.ext ?_
  rw [Rect.unitLocal_val]
  fin_cases a
  · show r.val - 128 * (r.val / 128) = r.val % 128
    omega
  · show e.val - 0 = e.val
    omega

theorem final11 (c : Dev nD) : (dats m 0 c).arrAt 11 (cfgs 0).N = G11 m c := by
  refine (dats m 0 c).arrAt_eq_of_covers 11 _ (by decide +kernel) fun t _ y => ?_
  blk_simp
  rw [after_11]
  idx_vars y
  refine (oAt_at m c t y0 y1).trans ?_
  have := t_lt t
  unfold G11
  blk_simp [idx t]
  congr 1 <;> omega

theorem final12 (c : Dev nD) : (dats m 0 c).arrAt 12 (cfgs 0).N = G12 m c := by
  refine (dats m 0 c).arrAt_eq_of_covers 12 _ (by decide +kernel) fun t _ y => ?_
  blk_simp
  rw [after_12]
  idx_vars y
  unfold sAt outS
  have := t_lt t
  rw [show y0 = 0 from Subsingleton.elim _ _, show y1 = 0 from Subsingleton.elim _ _]
  refine (last_at _ y2 y3).trans ((state_at m c t 16 (le_refl _) y2 y3).trans ?_)
  unfold G12
  blk_simp [idx t]
  congr 1 <;> omega

end Cert.KernelIdeal.Ret
-- ==== Proof.RetRef.lean ====
module

public import proofs.«01_k».proof.Proof.Gen.ReferenceIdeal.Run
public import proofs.«01_k».proof.Proof.RetMath
public import Idealize.ShloMosaic.Lib.Claim
public import Idealize.ShloMosaic.Lib.StableHlo.ReadAt

/-! # The reference's retention in numbers: what its loop starts from -/

@[expose] public section

set_option maxRecDepth 16384

noncomputable section

namespace Cert.ReferenceIdeal.Ret

open Cert.ReferenceIdeal Cert.ReferenceIdeal.Gen Cert.ReferenceIdeal.Value Cert.RetM
open Idealize.ShloMosaic Idealize.ShloMosaic.TcCoe Idealize.SL.Sem
open Idealize.ShloMosaic.StableHlo

theorem cut (L : List (HloOp τ sig (Elt Ideal))) (k : ℕ) (σ : Valuation τ sig (Elt Ideal)) :
    StableHlo.after L σ = StableHlo.after (L.drop k) (StableHlo.after (L.take k) σ) := by
  conv_lhs => rw [← List.take_append_drop k L]
  exact StableHlo.after_append _ _ _
abbrev L0 : List (HloOp τ sig (Elt Ideal)) := hostOps0 ++ (hostOps0_1 ++ hostOps0_2)

theorem batch_at (y : FVec Ideal S8192x1024 .f32) (h1) (b : Fin 4) (s : Fin 2048) (e : Fin 1024) :
    shapeCast S4x2048x1024 y h1 (ix3 b s e) = y (ix2 ⟨b.val * 2048 + s.val, by omega⟩ e) := by
  pointwise
theorem group3_at (y : FVec Ideal S6x8192x1024 .f32) (h1) (h2) (r : Fin 8192) (e : Fin 1024) :
    shapeCast S8192x1024 (extractStridedSlice S1x8192x1024 ![3, 0, 0] y h1) h2 (ix2 r e) = y (ix3 3 r e) := by
  pointwise
theorem group4_at (y : FVec Ideal S6x8192x1024 .f32) (h1) (h2) (r : Fin 8192) (e : Fin 1024) :
    shapeCast S8192x1024 (extractStridedSlice S1x8192x1024 ![4, 0, 0] y h1) h2 (ix2 r e) = y (ix3 4 r e) := by
  pointwise

theorem q_rows (σ : Valuation τ sig (Elt Ideal)) (b : Fin 4) (s : Fin 2048) (e : Fin 1024) :
    (StableHlo.after (L0.take 4) σ (Proc.devRef .tc main_v3) : FVec Ideal S4x2048x1024 .f32) (ix3 b s e)
      = (σ (Proc.devRef .tc main_arg0) : FVec Ideal S6x8192x1024 .f32) (ix3 3 ⟨b.val * 2048 + s.val, by omega⟩ e) := by
  after_reads_simp
  clean_types
  refine (batch_at _ _ b s e).trans (group3_at _ _ _ _ _)

theorem k_rows (σ : Valuation τ sig (Elt Ideal)) (b : Fin 4) (s : Fin 2048) (e : Fin 1024) :
    (StableHlo.after (L0.take 44) σ (Proc.devRef .tc main_v41) : FVec Ideal S4x2048x1024 .f32) (ix3 b s e)
      = (σ (Proc.devRef .tc main_arg0) : FVec Ideal S6x8192x1024 .f32) (ix3 3 ⟨b.val * 2048 + s.val, by omega⟩ e) := by
  after_reads_simp
  clean_types
  refine (batch_at _ _ b s e).trans (group3_at _ _ _ _ _)

theorem v_rows (σ : Valuation τ sig (Elt Ideal)) (b : Fin 4) (s : Fin 2048) (e : Fin 1024) :
    (StableHlo.after (L0.take 84) σ (Proc.devRef .tc main_v79) : FVec Ideal S4x2048x1024 .f32) (ix3 b s e)
      = (σ (Proc.devRef .tc main_arg0) : FVec Ideal S6x8192x1024 .f32) (ix3 4 ⟨b.val * 2048 + s.val, by omega⟩ e) := by
  after_reads_simp
  clean_types
  refine (batch_at _ _ b s e).trans (group4_at _ _ _ _ _)

theorem q_rot (σ : Valuation τ sig (Elt Ideal)) (h0 : σ (Proc.devRef .tc main_v0) = iotaInDim S2048 32 0) (b : Fin 4) (s : Fin 2048) (h : Fin 4) (d : Fin 128)
    (x : ℕ → ℕ → EReal) (hx : ∀ (s : Fin 2048) (e : Fin 1024), (σ (Proc.devRef .tc main_v3) : FVec Ideal S4x2048x1024 .f32) (ix3 b s e) = x s.val e.val) :
    (StableHlo.after ((L0.drop 4).take 37) σ (Proc.devRef .tc main_v38) : FVec Ideal S4x2048x4x128 .f32) (ix4 b s h d)
      = rot (fun d => x s.val (h.val * 128 + d)) s.val d.val := by
  after_reads_simp
  clean_types
  pointwise
  try after_reads_simp
  try clean_types
  try simp only [h0]
  pointwise
  simp only [hx]
  unfold rot csn sn ang
  by_cases hd : d.val < 64
  · rw [dif_pos hd, if_pos hd]
  · rw [dif_neg hd, if_neg hd]
    have e : 64 + (d.val - 64) = d.val := by omega
    simp only [e]

theorem k_rot (σ : Valuation τ sig (Elt Ideal)) (h0 : σ (Proc.devRef .tc main_v0) = iotaInDim S2048 32 0) (b : Fin 4) (s : Fin 2048) (h : Fin 4) (d : Fin 128)
    (x : ℕ → ℕ → EReal) (hx : ∀ (s : Fin 2048) (e : Fin 1024), (σ (Proc.devRef .tc main_v41) : FVec Ideal S4x2048x1024 .f32) (ix3 b s e) = x s.val e.val) :
    (StableHlo.after ((L0.drop 44).take 37) σ (Proc.devRef .tc main_v76) : FVec Ideal S4x2048x4x128 .f32) (ix4 b s h d)
      = rot (fun d => x s.val (512 + (h.val * 128 + d))) s.val d.val := by
  after_reads_simp
  clean_types
  pointwise
  try after_reads_simp
  try clean_types
  try simp only [h0]
  pointwise
  simp only [hx]
  unfold rot csn sn ang
  by_cases hd : d.val < 64
  · rw [dif_pos hd, if_pos hd]
  · rw [dif_neg hd, if_neg hd]
    have e : 64 + (d.val - 64) = d.val := by omega
    simp only [e]

theorem q_cut (σ : Valuation τ sig (Elt Ideal)) (n : Fin 16) (b : Fin 4) (i : Fin 128) (h : Fin 4) (d : Fin 128) :
    (StableHlo.after ((L0.drop 4).drop 37) σ (Proc.devRef .tc main_v135_0) : FVec Ideal S16x4x128x4x128 .f32) (ix5 n b i h d)
      = ((σ (Proc.devRef .tc main_v38) : FVec Ideal S4x2048x4x128 .f32) (ix4 b ⟨n.val * 128 + i.val, by omega⟩ h d)) := by
  after_reads_simp
  clean_types
  simp only [id_eq]
  pointwise

theorem k_cut (σ : Valuation τ sig (Elt Ideal)) (n : Fin 16) (b : Fin 4) (i : Fin 128) (h : Fin 4) (d : Fin 128) :
    (StableHlo.after ((L0.drop 44).drop 37) σ (Proc.devRef .tc main_v135_1) : FVec Ideal S16x4x128x4x128 .f32) (ix5 n b i h d)
      = HMul.hMul (α := EReal) (β := EReal) (γ := EReal) ((σ (Proc.devRef .tc main_v76) : FVec Ideal S4x2048x4x128 .f32) (ix4 b ⟨n.val * 128 + i.val, by omega⟩ h d)) (Ideal.ofBits FTy.f32 1035273459#32) := by
  after_reads_simp
  clean_types
  simp only [id_eq]
  pointwise

theorem cut_at (y : FVec Ideal S4x2048x4x256 .f32) (h1) (h2) (n : Fin 16) (b : Fin 4) (i : Fin 128) (h : Fin 4) (d : Fin 256) :
    transpose S16x4x128x4x256 [1, 0, 2, 3, 4] (shapeCast S4x16x128x4x256 y h1) h2 (ix5 n b i h d)
      = y (ix4 b ⟨n.val * 128 + i.val, by omega⟩ h d) := by
  pointwise
theorem heads_at (y : FVec Ideal S4x2048x1024 .f32) (h1) (b : Fin 4) (s : Fin 2048) (h : Fin 4) (d : Fin 256) :
    shapeCast S4x2048x4x256 y h1 (ix4 b s h d) = y (ix3 b s ⟨h.val * 256 + d.val, by omega⟩) := by
  pointwise
theorem v_from (σ : Valuation τ sig (Elt Ideal)) (n : Fin 16) (b : Fin 4) (i : Fin 128) (h : Fin 4) (d : Fin 256) :
    (StableHlo.after (L0.drop 84) σ (Proc.devRef .tc main_v135_2) : FVec Ideal S16x4x128x4x256 .f32) (ix5 n b i h d)
      = (σ (Proc.devRef .tc main_v79) : FVec Ideal S4x2048x1024 .f32) (ix3 b ⟨n.val * 128 + i.val, by omega⟩ ⟨h.val * 256 + d.val, by omega⟩) := by
  after_reads_simp
  clean_types
  refine (cut_at _ _ _ n b i h d).trans (heads_at _ _ b _ h d)

theorem iotaA (σ : Valuation τ sig (Elt Ideal)) : (StableHlo.after (L0.take 4) σ (Proc.devRef .tc main_v0) : IVec S2048 32) = iotaInDim S2048 32 0 := by
  after_reads_simp
theorem iotaB (σ : Valuation τ sig (Elt Ideal)) : (StableHlo.after (L0.take 44) σ (Proc.devRef .tc main_v0) : IVec S2048 32) = iotaInDim S2048 32 0 := by
  after_reads_simp

variable (m : (ℓ : Loc nD τ sig) → Buf (Elt Ideal) ℓ)

/-- The projection and the gain as launched. -/
abbrev Xa (c : Dev nD) : FVec Ideal S6x8192x1024 .f32 := m ((c : Thread nD τ).loc main_arg0)
abbrev Ga (c : Dev nD) : FVec Ideal S1x1024 .f32 := m ((c : Thread nD τ).loc main_arg1)

theorem entry_eq (c : Dev nD) : entryContents preI m c = StableHlo.after (hostOps0 ++ (hostOps0_1 ++ hostOps0_2)) (fun b => m (c, b)) := by
  rw [StableHlo.after_append, StableHlo.after_append]; rfl

theorem q_at (c : Dev nD) (n : Fin 16) (b : Fin 4) (i : Fin 128) (h : Fin 4) (d : Fin 128) :
    (entryContents preI m c (Proc.devRef .tc main_v135_0) : FVec Ideal S16x4x128x4x128 .f32) (ix5 n b i h d)
      = Qr (Xa m c) b.val h.val (n.val * 128 + i.val) d.val := by
  rw [entry_eq, cut _ 4, cut (L0.drop 4) 37]
  refine (q_cut _ n b i h d).trans ((q_rot _ (iotaA _) b _ h d (fun s e => at3 (Xa m c) 3 (b.val * 2048 + s) e) fun s e => ?_).trans rfl)
  exact (q_rows _ b s e).trans (at3_eq (Xa m c) 3 ⟨b.val * 2048 + s.val, by omega⟩ e)
theorem k_at (c : Dev nD) (n : Fin 16) (b : Fin 4) (i : Fin 128) (h : Fin 4) (d : Fin 128) :
    (entryContents preI m c (Proc.devRef .tc main_v135_1) : FVec Ideal S16x4x128x4x128 .f32) (ix5 n b i h d)
      = Kr (Xa m c) b.val h.val (n.val * 128 + i.val) d.val := by
  rw [entry_eq, cut _ 44, cut (L0.drop 44) 37]
  refine (k_cut _ n b i h d).trans (congrArg (HMul.hMul (α := EReal) (β := EReal) (γ := EReal) · (Ideal.ofBits FTy.f32 1035273459#32)) (k_rot _ (iotaB _) b ⟨n.val * 128 + i.val, by omega⟩ h d (fun s e => at3 (Xa m c) 3 (b.val * 2048 + s) e) fun s e => ?_))
  exact (k_rows _ b s e).trans (at3_eq (Xa m c) 3 ⟨b.val * 2048 + s.val, by omega⟩ e)
theorem v_at (c : Dev nD) (n : Fin 16) (b : Fin 4) (i : Fin 128) (h : Fin 4) (d : Fin 256) :
    (entryContents preI m c (Proc.devRef .tc main_v135_2) : FVec Ideal S16x4x128x4x256 .f32) (ix5 n b i h d)
      = Vr (Xa m c) b.val h.val (n.val * 128 + i.val) d.val := by
  rw [entry_eq, cut _ 84]
  refine (v_from _ n b i h d).trans ((v_rows _ b _ _).trans ?_)
  exact at3_eq (Xa m c) 4 ⟨b.val * 2048 + (n.val * 128 + i.val), by omega⟩ ⟨h.val * 256 + d.val, by omega⟩
theorem dec_at (c : Dev nD) (h : Fin 4) (i j : Fin 128) :
    (entryContents preI m c (Proc.devRef .tc main_v135_3) : FVec Ideal S4x128x128 .f32) (ix3 h i j) = decT h.val i.val j.val := by
  rw [entry_eq]; simp only [hostOps0, hostOps0_1, hostOps0_2, List.cons_append, List.nil_append]
  entry_read
  simp only [TRef.ofBuf_toBuf]
  dsimp only [TRef.toBuf, TRef.ofBuf]
  repeat erw [cast_eq]
  pointwise
  simp only [decT, lg]
theorem qd_at (c : Dev nD) (i : Fin 128) (h : Fin 4) :
    (entryContents preI m c (Proc.devRef .tc main_v135_4) : FVec Ideal S128x4 .f32) (ix2 i h) = qdT h.val i.val := by
  rw [entry_eq]; simp only [hostOps0, hostOps0_1, hostOps0_2, List.cons_append, List.nil_append]
  entry_read; pointwise; simp only [qdT, lg]
theorem kd_at (c : Dev nD) (i : Fin 128) (h : Fin 4) :
    (entryContents preI m c (Proc.devRef .tc main_v135_5) : FVec Ideal S128x4 .f32) (ix2 i h) = kdT h.val i.val := by
  rw [entry_eq]; simp only [hostOps0, hostOps0_1, hostOps0_2, List.cons_append, List.nil_append]
  entry_read; pointwise; simp only [kdT, lg]
theorem gc_at (c : Dev nD) (h : Fin 4) :
    (entryContents preI m c (Proc.devRef .tc main_v135_6) : FVec Ideal S1x4x1x1 .f32) (ix4 0 h 0 0) = gcT h.val := by
  rw [entry_eq]; simp only [hostOps0, hostOps0_1, hostOps0_2, List.cons_append, List.nil_append]
  entry_read; pointwise; simp only [gcT, lg]
theorem s_at (c : Dev nD) (b h : Fin 4) (d : Fin 128) (e : Fin 256) :
    (entryContents preI m c (Proc.devRef .tc main_v135_8) : FVec Ideal S4x4x128x256 .f32) (ix4 b h d e) = (0:EReal) := by
  rw [entry_eq]; simp only [hostOps0, hostOps0_1, hostOps0_2, List.cons_append, List.nil_append]
  entry_read; pointwise

end Cert.ReferenceIdeal.Ret
-- ==== Proof.RetRef2.lean ====
module

public import proofs.«01_k».proof.Proof.RetRef
public import Idealize.ShloMosaic.Lib.WordCmp

/-! # The reference's retention in numbers: its loop and its result -/

@[expose] public section

set_option maxRecDepth 16384

noncomputable section

namespace Cert.ReferenceIdeal.Ret

open Cert.ReferenceIdeal Cert.ReferenceIdeal.Gen Cert.ReferenceIdeal.Value Cert.RetM
open Idealize.ShloMosaic Idealize.ShloMosaic.TcCoe Idealize.SL.Sem
open Idealize.ShloMosaic.StableHlo Idealize.ShloMosaic.WordCmp

abbrev Val := Valuation τ sig (Elt Ideal)

/-- Where the trip's slices start: at the counter's chunk. -/
abbrev starts (ct : IVec S_ 32) : Fin 5 → Int :=
  fun k => (((![ct, constantI S_ 32 0#32, constantI S_ 32 0#32, constantI S_ 32 0#32, constantI S_ 32 0#32] : Fin 5 → IVec S_ 32)) k (Shape.Idx.first h_S_)).toInt
theorem starts_eq (n : ℕ) (hn : n < 16) (a : Fin 5) : starts (fun _ => BitVec.ofNat 32 n) a = ((![n, 0, 0, 0, 0] : Fin 5 → ℕ) a : Int) := by
  fin_cases a
  · exact toInt_ofNat_of_lt (by omega)
  all_goals rfl
/-- A chunk of the queries or keys. -/
theorem chunk_at (y : FVec Ideal S16x4x128x4x128 .f32) (h1) (h2) (n : ℕ) (hn : n < 16) (b : Fin 4) (i : Fin 128) (h : Fin 4) (d : Fin 128) :
    shapeCast S4x128x4x128 (Host.dynamicSlice S1x4x128x4x128 y (starts (fun _ => BitVec.ofNat 32 n)) h1) h2 (ix4 b i h d) = y (ix5 ⟨n, hn⟩ b i h d) := by
  rw [dynamicSlice_eq_extract S1x4x128x4x128 y _ h1 ![n, 0, 0, 0, 0] (by
    refine ⟨rfl, fun a => ?_⟩; fin_cases a
    · show n + 1 ≤ 16; omega
    all_goals exact Nat.le_refl _) (starts_eq n hn)]
  pointwise
theorem chunkV_at (y : FVec Ideal S16x4x128x4x256 .f32) (h1) (h2) (n : ℕ) (hn : n < 16) (b : Fin 4) (i : Fin 128) (h : Fin 4) (d : Fin 256) :
    shapeCast S4x128x4x256 (Host.dynamicSlice S1x4x128x4x256 y (starts (fun _ => BitVec.ofNat 32 n)) h1) h2 (ix4 b i h d) = y (ix5 ⟨n, hn⟩ b i h d) := by
  rw [dynamicSlice_eq_extract S1x4x128x4x256 y _ h1 ![n, 0, 0, 0, 0] (by
    refine ⟨rfl, fun a => ?_⟩; fin_cases a
    · show n + 1 ≤ 16; omega
    all_goals exact Nat.le_refl _) (starts_eq n hn)]
  pointwise
/-- The rows written back. -/
theorem put_at (y : FVec Ideal S16x4x128x4x256 .f32) (u : FVec Ideal S1x4x128x4x256 .f32) (h1) (n : ℕ) (hn : n < 16) (n' : Fin 16) (b : Fin 4) (i : Fin 128) (h : Fin 4) (e : Fin 256) :
    Host.dynamicUpdateSlice y u (starts (fun _ => BitVec.ofNat 32 n)) h1 (ix5 n' b i h e) = if n'.val = n then u (ix5 0 b i h e) else y (ix5 n' b i h e) := by
  rw [dynamicUpdateSlice_eq_update y u _ h1 ![n, 0, 0, 0, 0] (by
    refine ⟨rfl, fun a => ?_⟩; fin_cases a
    · show n + 1 ≤ 16; omega
    all_goals exact Nat.le_refl _) (starts_eq n hn)]
  pointwise
  by_cases hh : n'.val = n
  · rw [dif_pos (show n ≤ n'.val ∧ n'.val < n + 1 by omega), if_pos hh]
    exact congrArg (fun z : Fin 1 => u (ix5 z b i h e)) (Subsingleton.elim _ _)
  · rw [dif_neg (show ¬(n ≤ n'.val ∧ n'.val < n + 1) by omega), if_neg hh]
theorem r168 (V : Val) (n : ℕ) (hn : n < 16) (h7 : V (Proc.devRef .tc main_v135_7) = fun _ => BitVec.ofNat 32 n) (b : Fin 4) (i : Fin 128) (h : Fin 4) (d : Fin 128) :
    (res_main_while0b_v168 V : FVec Ideal S4x128x4x128 .f32) (ix4 b i h d) = (V (Proc.devRef .tc main_v135_0) : FVec Ideal S16x4x128x4x128 .f32) (ix5 ⟨n, hn⟩ b i h d) := by
  unfold res_main_while0b_v168
  rw [h7]
  exact chunk_at _ _ _ n hn b i h d
theorem r169 (V : Val) (n : ℕ) (hn : n < 16) (h7 : V (Proc.devRef .tc main_v135_7) = fun _ => BitVec.ofNat 32 n) (b : Fin 4) (i : Fin 128) (h : Fin 4) (d : Fin 128) :
    (res_main_while0b_v169 V : FVec Ideal S4x128x4x128 .f32) (ix4 b i h d) = (V (Proc.devRef .tc main_v135_1) : FVec Ideal S16x4x128x4x128 .f32) (ix5 ⟨n, hn⟩ b i h d) := by
  unfold res_main_while0b_v169
  rw [h7]
  exact chunk_at _ _ _ n hn b i h d
theorem r170 (V : Val) (n : ℕ) (hn : n < 16) (h7 : V (Proc.devRef .tc main_v135_7) = fun _ => BitVec.ofNat 32 n) (b : Fin 4) (i : Fin 128) (h : Fin 4) (d : Fin 256) :
    (res_main_while0b_v170 V : FVec Ideal S4x128x4x256 .f32) (ix4 b i h d) = (V (Proc.devRef .tc main_v135_2) : FVec Ideal S16x4x128x4x256 .f32) (ix5 ⟨n, hn⟩ b i h d) := by
  unfold res_main_while0b_v170
  rw [h7]
  exact chunkV_at _ _ _ n hn b i h d
theorem step8 (V : Val) (b : Fin 4) (h : Fin 4) (d : Fin 128) (e : Fin 256) (gc s8 : EReal) (kd : ℕ → EReal) (kk vv : ℕ → EReal)
    (h6 : (V (Proc.devRef .tc main_v135_6) : FVec Ideal S1x4x1x1 .f32) (ix4 0 h 0 0) = gc)
    (h8 : (V (Proc.devRef .tc main_v135_8) : FVec Ideal S4x4x128x256 .f32) (ix4 b h d e) = s8)
    (h5 : ∀ j : Fin 128, (V (Proc.devRef .tc main_v135_5) : FVec Ideal S128x4 .f32) (ix2 j h) = kd j.val)
    (hk : ∀ j : Fin 128, (res_main_while0b_v169 V : FVec Ideal S4x128x4x128 .f32) (ix4 b j h d) = kk j.val)
    (hv : ∀ j : Fin 128, (res_main_while0b_v170 V : FVec Ideal S4x128x4x256 .f32) (ix4 b j h e) = vv j.val) :
    (step_main_v135_8 V : FVec Ideal S4x4x128x256 .f32) (ix4 b h d e) = gc * s8 + ∑ j : Fin 128, kk j.val * kd j.val * vv j.val := by
  unfold step_main_v135_8
  rw [id_eq]
  revert hk hv
  generalize (res_main_while0b_v169 V : FVec Ideal S4x128x4x128 .f32) = k
  generalize (res_main_while0b_v170 V : FVec Ideal S4x128x4x256 .f32) = v
  intro hk hv
  pointwise
  refine congrArg₂ (· + ·) (congrArg₂ (· * ·) h6 h8) (Finset.sum_congr rfl fun j _ => congrArg₂ (· * ·) (congrArg₂ (· * ·) (hk j) (h5 j)) (hv j))
/-- What the trip writes. -/
theorem rows9 (V : Val) (b : Fin 4) (i : Fin 128) (h : Fin 4) (e : Fin 256) (q : ℕ → EReal) (kk : ℕ → ℕ → EReal) (vv dec s : ℕ → EReal) (qd : EReal)
    (h3 : ∀ j : Fin 128, (V (Proc.devRef .tc main_v135_3) : FVec Ideal S4x128x128 .f32) (ix3 h i j) = dec j.val)
    (h4 : (V (Proc.devRef .tc main_v135_4) : FVec Ideal S128x4 .f32) (ix2 i h) = qd)
    (h8 : ∀ d : Fin 128, (V (Proc.devRef .tc main_v135_8) : FVec Ideal S4x4x128x256 .f32) (ix4 b h d e) = s d.val)
    (hq : ∀ d : Fin 128, (res_main_while0b_v168 V : FVec Ideal S4x128x4x128 .f32) (ix4 b i h d) = q d.val)
    (hk : ∀ j d : Fin 128, (res_main_while0b_v169 V : FVec Ideal S4x128x4x128 .f32) (ix4 b j h d) = kk j.val d.val)
    (hv : ∀ j : Fin 128, (res_main_while0b_v170 V : FVec Ideal S4x128x4x256 .f32) (ix4 b j h e) = vv j.val)
    (n : ℕ) (hn : n < 16) (h7 : V (Proc.devRef .tc main_v135_7) = fun _ => BitVec.ofNat 32 n) (n' : Fin 16) :
    (step_main_v135_9 V : FVec Ideal S16x4x128x4x256 .f32) (ix5 n' b i h e)
      = if n'.val = n then (∑ x : Fin 128, (∑ y : Fin 128, q y.val * kk x.val y.val) * dec x.val * vv x.val) + ∑ x : Fin 128, q x.val * qd * s x.val
        else (V (Proc.devRef .tc main_v135_9) : FVec Ideal S16x4x128x4x256 .f32) (ix5 n' b i h e) := by
  unfold step_main_v135_9
  rw [id_eq, h7]
  refine (put_at _ _ _ n hn n' b i h e).trans ?_
  refine if_congr Iff.rfl ?_ rfl
  revert hq hk hv
  generalize (res_main_while0b_v168 V : FVec Ideal S4x128x4x128 .f32) = q'
  generalize (res_main_while0b_v169 V : FVec Ideal S4x128x4x128 .f32) = k
  generalize (res_main_while0b_v170 V : FVec Ideal S4x128x4x256 .f32) = v
  intro hq hk hv
  pointwise
  refine congrArg₂ (· + ·) (Finset.sum_congr rfl fun j _ => ?_) (Finset.sum_congr rfl fun j _ => ?_)
  · rw [mul_comm]
    refine congrArg₂ (· * ·) (congrArg₂ (· * ·) (Finset.sum_congr rfl fun d _ => congrArg₂ (· * ·) (hq d) (hk j d)) (h3 j)) (hv j)
  · rw [mul_comm]
    exact congrArg₂ (· * ·) (congrArg₂ (· * ·) (hq j) h4) (h8 j)

variable (m : (ℓ : Loc nD τ sig) → Buf (Elt Ideal) ℓ)

/-- The contents before trip `n`. -/
abbrev It (c : Dev nD) (n : ℕ) : Val := STEP^[n] (entryContents preI m c)
theorem It_succ (c : Dev nD) (n : ℕ) : It m c (n + 1) = STEP (It m c n) := Function.iterate_succ_apply' _ _ _
theorem it0 (c : Dev nD) (n : ℕ) : It m c n (Proc.devRef .tc main_v135_0) = entryContents preI m c (Proc.devRef .tc main_v135_0) := by
  induction n with
  | zero => rfl
  | succ n ih => rw [It_succ, STEP_main_v135_0, ih]
theorem it1 (c : Dev nD) (n : ℕ) : It m c n (Proc.devRef .tc main_v135_1) = entryContents preI m c (Proc.devRef .tc main_v135_1) := by
  induction n with
  | zero => rfl
  | succ n ih => rw [It_succ, STEP_main_v135_1, ih]
theorem it2 (c : Dev nD) (n : ℕ) : It m c n (Proc.devRef .tc main_v135_2) = entryContents preI m c (Proc.devRef .tc main_v135_2) := by
  induction n with
  | zero => rfl
  | succ n ih => rw [It_succ, STEP_main_v135_2, ih]
theorem it3 (c : Dev nD) (n : ℕ) : It m c n (Proc.devRef .tc main_v135_3) = entryContents preI m c (Proc.devRef .tc main_v135_3) := by
  induction n with
  | zero => rfl
  | succ n ih => rw [It_succ, STEP_main_v135_3, ih]
theorem it4 (c : Dev nD) (n : ℕ) : It m c n (Proc.devRef .tc main_v135_4) = entryContents preI m c (Proc.devRef .tc main_v135_4) := by
  induction n with
  | zero => rfl
  | succ n ih => rw [It_succ, STEP_main_v135_4, ih]
theorem it5 (c : Dev nD) (n : ℕ) : It m c n (Proc.devRef .tc main_v135_5) = entryContents preI m c (Proc.devRef .tc main_v135_5) := by
  induction n with
  | zero => rfl
  | succ n ih => rw [It_succ, STEP_main_v135_5, ih]
theorem it6 (c : Dev nD) (n : ℕ) : It m c n (Proc.devRef .tc main_v135_6) = entryContents preI m c (Proc.devRef .tc main_v135_6) := by
  induction n with
  | zero => rfl
  | succ n ih => rw [It_succ, STEP_main_v135_6, ih]
theorem it7 (c : Dev nD) (n : ℕ) : It m c n (Proc.devRef .tc main_v135_7) = fun _ => BitVec.ofNat 32 n := by
  induction n with
  | zero => exact ctr_entry m c
  | succ n ih =>
    rw [It_succ, STEP_main_v135_7]
    unfold step_main_v135_7
    rw [ih]
    funext i
    show BitVec.ofNat 32 n + 1#32 = BitVec.ofNat 32 (n + 1)
    rw [BitVec.ofNat_add]
theorem qI (c : Dev nD) (n : ℕ) (hn : n < 16) (b : Fin 4) (i : Fin 128) (h : Fin 4) (d : Fin 128) :
    (res_main_while0b_v168 (It m c n) : FVec Ideal S4x128x4x128 .f32) (ix4 b i h d) = Qr (Xa m c) b.val h.val (n * 128 + i.val) d.val := by
  refine (r168 _ n hn (it7 m c n) b i h d).trans ?_
  rw [it0]; exact q_at m c ⟨n, hn⟩ b i h d
theorem kI (c : Dev nD) (n : ℕ) (hn : n < 16) (b : Fin 4) (i : Fin 128) (h : Fin 4) (d : Fin 128) :
    (res_main_while0b_v169 (It m c n) : FVec Ideal S4x128x4x128 .f32) (ix4 b i h d) = Kr (Xa m c) b.val h.val (n * 128 + i.val) d.val := by
  refine (r169 _ n hn (it7 m c n) b i h d).trans ?_
  rw [it1]; exact k_at m c ⟨n, hn⟩ b i h d
theorem vI (c : Dev nD) (n : ℕ) (hn : n < 16) (b : Fin 4) (i : Fin 128) (h : Fin 4) (d : Fin 256) :
    (res_main_while0b_v170 (It m c n) : FVec Ideal S4x128x4x256 .f32) (ix4 b i h d) = Vr (Xa m c) b.val h.val (n * 128 + i.val) d.val := by
  refine (r170 _ n hn (it7 m c n) b i h d).trans ?_
  rw [it2]; exact v_at m c ⟨n, hn⟩ b i h d
theorem stateI (c : Dev nD) (n : ℕ) (hn : n ≤ 16) (b h : Fin 4) (d : Fin 128) (e : Fin 256) :
    (It m c n (Proc.devRef .tc main_v135_8) : FVec Ideal S4x4x128x256 .f32) (ix4 b h d e) = S (Xa m c) b.val h.val n d.val e.val := by
  induction n with
  | zero => exact s_at m c b h d e
  | succ n ih =>
    rw [It_succ, STEP_main_v135_8, S_succ]
    exact step8 (It m c n) b h d e _ _ (kdT h.val) (fun j => Kr (Xa m c) b.val h.val (n * 128 + j) d.val) (fun j => Vr (Xa m c) b.val h.val (n * 128 + j) e.val)
      (by rw [it6]; exact gc_at m c h) (ih (by omega)) (fun j => by rw [it5]; exact kd_at m c j h)
      (fun j => kI m c n (by omega) b j h d) (fun j => vI m c n (by omega) b j h e)
theorem rowsI (c : Dev nD) (n : ℕ) (hn : n ≤ 16) (n' : Fin 16) (hn' : n'.val < n) (b : Fin 4) (i : Fin 128) (h : Fin 4) (e : Fin 256) :
    (It m c n (Proc.devRef .tc main_v135_9) : FVec Ideal S16x4x128x4x256 .f32) (ix5 n' b i h e) = O (Xa m c) b.val h.val n'.val i.val e.val := by
  induction n with
  | zero => omega
  | succ n ih =>
    rw [It_succ, STEP_main_v135_9]
    refine (rows9 (It m c n) b i h e (fun d => Qr (Xa m c) b.val h.val (n * 128 + i.val) d) (fun j d => Kr (Xa m c) b.val h.val (n * 128 + j) d)
      (fun j => Vr (Xa m c) b.val h.val (n * 128 + j) e.val) (decT h.val i.val) (fun d => S (Xa m c) b.val h.val n d e.val) (qdT h.val i.val)
      (fun j => by rw [it3]; exact dec_at m c h i j) (by rw [it4]; exact qd_at m c i h) (fun d => stateI m c n (by omega) b h d e)
      (fun d => qI m c n (by omega) b i h d) (fun j d => kI m c n (by omega) b j h d) (fun j => vI m c n (by omega) b j h e)
      n (by omega) (it7 m c n) n').trans ?_
    by_cases hh : n'.val = n
    · rw [if_pos hh, hh]; rfl
    · rw [if_neg hh]; exact ih (by omega) (by omega)

end Cert.ReferenceIdeal.Ret
-- ==== Proof.RetOut.lean ====
module

public import proofs.«01_k».proof.Proof.RetRef2
public import Idealize.ShloMosaic.Lib.WordCmp

/-! # The reference's retention in numbers: its result -/

@[expose] public section

set_option maxRecDepth 16384

noncomputable section

namespace Cert.ReferenceIdeal.Ret

open Cert.ReferenceIdeal Cert.ReferenceIdeal.Gen Cert.ReferenceIdeal.Value Cert.RetM
open Idealize.ShloMosaic Idealize.ShloMosaic.TcCoe Idealize.SL.Sem
open Idealize.ShloMosaic.StableHlo Idealize.ShloMosaic.WordCmp

theorem o_at (y : FVec Ideal S16x4x128x4x256 .f32) (h1) (h2) (b : Fin 4) (s : Fin 2048) (h : Fin 4) (e : Fin 256) :
    shapeCast S4x2048x4x256 (transpose S4x16x128x4x256 [1, 0, 2, 3, 4] y h1) h2 (ix4 b s h e)
      = y (ix5 ⟨s.val / 128, by omega⟩ b ⟨s.val % 128, by omega⟩ h e) := by
  pointwise
theorem group5_at (y : FVec Ideal S6x8192x1024 .f32) (h1) (h2) (r : Fin 8192) (e : Fin 1024) :
    shapeCast S8192x1024 (extractStridedSlice S1x8192x1024 ![5, 0, 0] y h1) h2 (ix2 r e) = y (ix3 5 r e) := by
  pointwise
theorem flat_at (y : FVec Ideal S4x2048x4x256 .f32) (h1) (r : Fin 8192) (c : Fin 1024) :
    shapeCast S8192x1024 y h1 (ix2 r c) = y (ix4 ⟨r.val / 2048, by omega⟩ ⟨r.val % 2048, by omega⟩ ⟨c.val / 256, by omega⟩ ⟨c.val % 256, by omega⟩) := by
  pointwise
theorem gain_at (y : FVec Ideal S1x1024 .f32) (h1) (h : Fin 4) (e : Fin 256) :
    shapeCast S4x256 y h1 (ix2 h e) = y (ix2 0 ⟨h.val * 256 + e.val, by omega⟩) := by
  pointwise
theorem out_at (V : Valuation τ sig (Elt Ideal)) (r : Fin 8192) (c : Fin 1024) (b : Fin 4) (s : Fin 2048) (h : Fin 4) (e : Fin 256)
    (hb : b.val = r.val / 2048) (hs : s.val = r.val % 2048) (hh : h.val = c.val / 256) (he : e.val = c.val % 256)
    (oF : ℕ → EReal) (gv wv : EReal)
    (h9 : ∀ e : Fin 256, (V (Proc.devRef .tc main_v135_9) : FVec Ideal S16x4x128x4x256 .f32) (ix5 ⟨s.val / 128, by omega⟩ b ⟨s.val % 128, by omega⟩ h e) = oF e.val)
    (hx : (V (Proc.devRef .tc main_arg0) : FVec Ideal S6x8192x1024 .f32) (ix3 5 r c) = gv)
    (hy : (V (Proc.devRef .tc main_arg1) : FVec Ideal S1x1024 .f32) (ix2 0 c) = wv) :
    (out_main_v167 V : FVec Ideal S8192x1024 .bf16) (ix2 r c) = norm oF e.val * wv * (gv * Ideal.logistic gv) := by
  unfold out_main_v167
  generalize ho : (shapeCast S4x2048x4x256 (transpose S4x16x128x4x256 [1, 0, 2, 3, 4] (V (Proc.devRef .tc main_v135_9) : FVec Ideal S16x4x128x4x256 .f32) transposes_S16x4x128x4x256_S4x16x128x4x256_1_0_2_3_4) shapeCasts_S4x16x128x4x256_S4x2048x4x256 : FVec Ideal S4x2048x4x256 .f32) = o
  generalize hg : (shapeCast S4x2048x4x256 (shapeCast S4x2048x1024 (shapeCast S8192x1024 (extractStridedSlice S1x8192x1024 ![5, 0, 0] (V (Proc.devRef .tc main_arg0) : FVec Ideal S6x8192x1024 .f32) slices_S6x8192x1024_S1x8192x1024_5_0_0) shapeCasts_S1x8192x1024_S8192x1024) shapeCasts_S8192x1024_S4x2048x1024) shapeCasts_S4x2048x1024_S4x2048x4x256 : FVec Ideal S4x2048x4x256 .f32) = g
  generalize hw : (shapeCast S4x256 (V (Proc.devRef .tc main_arg1) : FVec Ideal S1x1024 .f32) shapeCasts_S1x1024_S4x256 : FVec Ideal S4x256 .f32) = w
  have ho' : ∀ x : Fin 256, o (ix4 b s h x) = oF x.val := fun x => by rw [← ho]; exact (o_at _ _ _ b s h x).trans (h9 x)
  have hg' : g (ix4 b s h e) = gv := by
    rw [← hg]
    refine (heads_at _ _ b s h e).trans ((batch_at _ _ _ _ _).trans ((group5_at _ _ _ _ _).trans ?_))
    rw [← hx]
    exact congrArg₂ (fun p q => (V (Proc.devRef .tc main_arg0) : FVec Ideal S6x8192x1024 .f32) (ix3 5 p q)) (Fin.ext (by show b.val * 2048 + s.val = r.val; omega)) (Fin.ext (by show h.val * 256 + e.val = c.val; omega))
  have hw' : w (ix2 h e) = wv := by
    rw [← hw]
    refine (gain_at _ _ h e).trans ?_
    rw [← hy]
    exact congrArg (fun q => (V (Proc.devRef .tc main_arg1) : FVec Ideal S1x1024 .f32) (ix2 0 q)) (Fin.ext (by show h.val * 256 + e.val = c.val; omega))
  rw [truncf_apply]
  refine (flat_at _ _ r c).trans ?_
  simp only [← hb, ← hs, ← hh, ← he, Fin.eta]
  clear ho hg hw hb hs hh he h9 hx hy
  pointwise
  simp only [ho', hg', hw']
  rfl

variable (m : (ℓ : Loc nD τ sig) → Buf (Elt Ideal) ℓ)

/-- The mixer's rows, in numbers. -/
theorem out_eq (c : Dev nD) (r : Fin 8192) (k : Fin 1024) :
    (out_main_v167 (STEP^[16] (entryContents preI m c)) : FVec Ideal S8192x1024 .bf16) (ix2 r k)
      = R (Xa m c) (Ga m c) (r.val / 2048) (k.val / 256) (r.val % 2048 / 128) (r.val % 128) (k.val % 256) := by
  refine (out_at (It m c 16) r k ⟨r.val / 2048, by omega⟩ ⟨r.val % 2048, by omega⟩ ⟨k.val / 256, by omega⟩ ⟨k.val % 256, by omega⟩ rfl rfl rfl rfl
    (fun e => O (Xa m c) (r.val / 2048) (k.val / 256) (r.val % 2048 / 128) (r.val % 2048 % 128) e) (at3 (Xa m c) 5 r.val k.val) (at2 (Ga m c) k.val)
    (fun e => rowsI m c 16 le_rfl _ (by show r.val % 2048 / 128 < 16; omega) _ _ _ e) ?_ ?_).trans ?_
  · refine (congrFun (iter_main_arg0 m c 16) _).trans (at3_eq (Xa m c) 5 r k)
  · refine (congrFun (iter_main_arg1 m c 16) _).trans (at2_eq (Ga m c) k)
  · unfold R Gr
    rw [show r.val % 2048 % 128 = r.val % 128 by omega, show k.val / 256 * 256 + k.val % 256 = k.val by omega,
      show r.val / 2048 * 2048 + (r.val % 2048 / 128 * 128 + r.val % 128) = r.val by omega]
/-- The state after the last chunk. -/
theorem last_eq (c : Dev nD) (b h : Fin 4) (d : Fin 128) (e : Fin 256) :
    ((STEP^[16] (entryContents preI m c)) (Proc.devRef .tc main_v135_8) : FVec Ideal S4x4x128x256 .f32) (ix4 b h d e) = S (Xa m c) b.val h.val 16 d.val e.val :=
  stateI m c 16 le_rfl b h d e

end Cert.ReferenceIdeal.Ret
-- ==== Proof.RetEq.lean ====
module

public import proofs.«01_k».proof.Defs
public import proofs.«01_k».proof.Proof.RetArr
public import proofs.«01_k».proof.Proof.RetOut

/-! # The retention kernel computes the reference's retention -/

@[expose] public section

set_option maxRecDepth 16384

noncomputable section

namespace Cert.RetEq

open Idealize.ShloMosaic Idealize.ShloMosaic.StableHlo Idealize.ShloMosaic.TcCoe Idealize.SL.Sem

instance : Cert.KernelIdeal.Facts := Cert.KernelIdeal.Gen.facts
instance : Cert.ReferenceIdeal.Facts := Cert.ReferenceIdeal.Gen.facts

theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem frame_pi : Cert.quiescent_KernelIdeal := fun m ρ _ => Cert.KernelIdeal.Ret.frame_all m ρ

theorem rows (m : (ℓ : Loc Cert.ReferenceIdeal.nD Cert.ReferenceIdeal.τ Cert.ReferenceIdeal.sig) → Buf (Elt Ideal) ℓ)
    (m' : (ℓ : Loc Cert.KernelIdeal.nD Cert.KernelIdeal.τ Cert.KernelIdeal.sig) → Buf (Elt Ideal) ℓ) (c : Dev Cert.KernelIdeal.nD)
    (hx : Cert.ReferenceIdeal.Ret.Xa m c = Cert.KernelIdeal.Ret.Xa m' c) (hg : Cert.ReferenceIdeal.Ret.Ga m c = Cert.KernelIdeal.Ret.Ga m' c) :
    Cert.ReferenceIdeal.Value.out_main_v167 (Cert.ReferenceIdeal.Value.STEP^[16] (entryContents Cert.ReferenceIdeal.Value.preI m c))
      = Cert.KernelIdeal.Ret.G11 m' c := by
  funext y
  idx_vars y
  refine (Cert.ReferenceIdeal.Ret.out_eq m c y0 y1).trans ?_
  unfold Cert.KernelIdeal.Ret.G11
  rw [hx, hg]
  rfl

theorem states (m : (ℓ : Loc Cert.ReferenceIdeal.nD Cert.ReferenceIdeal.τ Cert.ReferenceIdeal.sig) → Buf (Elt Ideal) ℓ)
    (m' : (ℓ : Loc Cert.KernelIdeal.nD Cert.KernelIdeal.τ Cert.KernelIdeal.sig) → Buf (Elt Ideal) ℓ) (c : Dev Cert.KernelIdeal.nD)
    (hx : Cert.ReferenceIdeal.Ret.Xa m c = Cert.KernelIdeal.Ret.Xa m' c) :
    (Cert.ReferenceIdeal.Value.STEP^[16] (entryContents Cert.ReferenceIdeal.Value.preI m c)) (Proc.devRef .tc Cert.ReferenceIdeal.main_v135_8)
      = Cert.KernelIdeal.Ret.G12 m' c := by
  funext y
  idx_vars y
  refine (Cert.ReferenceIdeal.Ret.last_eq m c y0 y1 y2 y3).trans ?_
  unfold Cert.KernelIdeal.Ret.G12
  rw [hx]
  rfl

/-- The kernel's run, with its two results in closed form. -/
theorem run_kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v75_0) = Cert.KernelIdeal.Ret.G11 m c
      ∧ r.2.mem ((c.tc : Thread Cert.KernelIdeal.nD Cert.KernelIdeal.τ).loc Cert.KernelIdeal.main_v75_1) = Cert.KernelIdeal.Ret.G12 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono
    (fun r h c => ⟨((h.1 c).1 11).trans (Cert.KernelIdeal.Ret.final11 m c), ((h.1 c).1 12).trans (Cert.KernelIdeal.Ret.final12 m c), h.2.1 c⟩)
    (θ_run_and (Cert.KernelIdeal.Ret.runF m g) (Cert.KernelIdeal.Ret.frame_all m g))

theorem equal : Cert.algebraic_KernelIdeal_ReferenceIdeal := by
  intro m g m' g' _ hagree
  refine ⟨fun c => Cert.KernelIdeal.Ret.G11 m c, fun c => Cert.KernelIdeal.Ret.G12 m c, run_kernel m g, ?_⟩
  refine (θ_run Cert.ReferenceIdeal.defs _ _).mono (fun r h c => ?_) (Cert.ReferenceIdeal.Value.run (F := Ideal) m' g')
  have hx : Cert.ReferenceIdeal.Ret.Xa m' c = Cert.KernelIdeal.Ret.Xa m c := (hagree c).1
  have hg : Cert.ReferenceIdeal.Ret.Ga m' c = Cert.KernelIdeal.Ret.Ga m c := (hagree c).2
  exact ⟨(h c).1.trans (rows m' m c hx hg), (h c).2.1.trans (states m' m c hx), (h c).2.2⟩

end Cert.RetEq

end
-- ==== Proof.ExpBody.lean ====
module

public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.FrameBody
public import Idealize.ShloMosaic.Lib.Writes
public import Idealize.ShloMosaic.Lib.Exec
public import Idealize.ShloMosaic.Lib.Affine
public import Idealize.ShloMosaic.Lib.Tactic
public import Idealize.ShloMosaic.Lib.WritesUnit
public import Idealize.ShloMosaic.Lib.VecWindow
public import Idealize.ShloMosaic.Lib.WholeRead
public import Idealize.ShloMosaic.PureOps.Ideal

/-! # The experts' body, by what it decides from the tables -/

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The two tables and the two scratch buffers, whole. -/
abbrev teM : Memref sig .tc .smem S81 .i32 := Memref.whole main_arg1
abbrev nvM : Memref sig .tc .smem S1 .i32 := Memref.whole main_arg2
abbrev wiM : Memref sig .tc .vmem S2048x1024 .bf16 := Memref.whole cc0_scratch0
abbrev woM : Memref sig .tc .vmem S512x2048 .bf16 := Memref.whole cc0_scratch1

/-- The words the body reads: its tile's expert, the expert of the tile before, the count of tiles in use. -/
abbrev wHere (i : grid0.Coords) (T0 : S81.Idx → Elt Ideal .i32) : BitVec 32 :=
  View.readAt (Elt Ideal) teM.view (Rect.unit (s := S81) (k0_off1 i) S1.size (k0_off1_inb i)).toLoadRect T0 (Shape.Idx.first (numel1_S1.symm ▸ Nat.one_pos))
abbrev wBefore (i : grid0.Coords) (T0 : S81.Idx → Elt Ideal .i32) : BitVec 32 :=
  View.readAt (Elt Ideal) teM.view (Rect.unit (s := S81) (k0_off2 i) S1.size (k0_off2_inb i)).toLoadRect T0 (Shape.Idx.first (numel1_S1.symm ▸ Nat.one_pos))
abbrev wCount (T1 : S1.Idx → Elt Ideal .i32) : BitVec 32 :=
  View.readAt (Elt Ideal) nvM.view (Rect.unit (s := S1) ![0] S1.size inb_S1_S1_0).toLoadRect T1 (Shape.Idx.first (numel1_S1.symm ▸ Nat.one_pos))

/-- The tile is in use and its expert is not the one before it. -/
abbrev freshC (i : grid0.Coords) (T0 : S81.Idx → Elt Ideal .i32) (T1 : S1.Idx → Elt Ideal .i32) : Prop :=
  Scalar.cmpi .ne (Scalar.extui (Scalar.andi (Scalar.cmpi .slt (BitVec.ofNat 32 (i 0).val) (wCount T1)) (Scalar.ori (Scalar.cmpi .eq (BitVec.ofNat 32 (i 0).val) 0#32) (Scalar.cmpi .ne (wHere i T0) (wBefore i T0))))) 0#32 = 1#1

/-- What the body is handed: the row tile, the expert's weights, the tables, the result's buffer, the weights kept. -/
abbrev Pre (c : Dev nD) (arg3 : Memref sig .tc .vmem S256x2048 .bf16) (arg4 : Memref sig .tc .vmem S1x1x2048x1024 .f32) (arg5 : Memref sig .tc .vmem S1x1x512x2048 .f32) (T0 : S81.Idx → Elt Ideal .i32) (T1 : S1.Idx → Elt Ideal .i32)
    (x : Vec Ideal S256x2048 .bf16) (wi : Vec Ideal S1x1x2048x1024 .f32) (wo : Vec Ideal S1x1x512x2048 .f32) (R : sProp 𝕄) : sProp 𝕄 :=
  iprop(owns (c : Thread nD τ) arg3 fullShare x ∗ owns (c : Thread nD τ) arg4 fullShare wi ∗ owns (c : Thread nD τ) arg5 fullShare wo
    ∗ (teM.view.loc (c : Thread nD τ) ↦{fullShare.right} T0) ∗ (nvM.view.loc (c : Thread nD τ) ↦{fullShare.right} T1) ∗ R)

set_option maxHeartbeats 1000000 in
/-- A tile in use at a new expert: the weights are kept, and the tile's result is of them. -/
theorem bodyNew (c : Dev nD) (i : grid0.Coords) (arg3 : Memref sig .tc .vmem S256x2048 .bf16) (harg3 : arg3.IsWhole) (arg4 : Memref sig .tc .vmem S1x1x2048x1024 .f32) (harg4 : arg4.IsWhole) (arg5 : Memref sig .tc .vmem S1x1x512x2048 .f32) (harg5 : arg5.IsWhole) (arg6 : Memref sig .tc .vmem S256x2048 .bf16) (harg6 : arg6.IsWhole) (T0 : S81.Idx → Elt Ideal .i32) (T1 : S1.Idx → Elt Ideal .i32)
    (x : Vec Ideal S256x2048 .bf16) (wi : Vec Ideal S1x1x2048x1024 .f32) (wo : Vec Ideal S1x1x512x2048 .f32)
    (hc0 : freshC i T0 T1) (k0_h2 : k0_cond2 i (wCount T1) = 1#1) (k0_h3 : ¬(k0_cond3 i (wCount T1) = 1#1)) (K : PUnit → sProp 𝕄) :
    iprop(Pre c arg3 arg4 arg5 T0 T1 x wi wo iprop((∃ d, owns (c : Thread nD τ) arg6 fullShare d) ∗ (∃ d, owns (c : Thread nD τ) wiM fullShare d) ∗ (∃ d, owns (c : Thread nD τ) woM fullShare d))
        ∗ (iprop(Pre c arg3 arg4 arg5 T0 T1 x wi wo iprop(owns (c : Thread nD τ) arg6 fullShare (k0_pay3 x (k0_pay1 wi) (k0_pay2 wo)) ∗ owns (c : Thread nD τ) wiM fullShare (k0_pay1 wi) ∗ owns (c : Thread nD τ) woM fullShare (k0_pay2 wo))) -∗ K ⟨⟩))
      ⊢ wp frame (wpE (defs₀ (F := Ideal)) Variants.none c none) Set.univ (cc0_experts i teM (Memref.isWhole_whole _) nvM (Memref.isWhole_whole _) arg3 harg3 arg4 harg4 arg5 harg5 arg6 harg6 wiM (Memref.isWhole_whole _) woM (Memref.isWhole_whole _)) K := by
  have e3 : ∀ x : Vec Ideal S256x2048 .bf16, View.readAt (Elt Ideal) arg3.view (Rect.unit (s := S256x2048) ![0, 0] S256x2048.size inb_S256x2048_S256x2048_0_0).toLoadRect (harg3.unread x) = x := fun x => (View.readAt_full _ _ _).trans (harg3.read_unread x)
  have e4 : ∀ x : Vec Ideal S1x1x2048x1024 .f32, View.readAt (Elt Ideal) arg4.view (Rect.unit (s := S1x1x2048x1024) ![0, 0, 0, 0] S1x1x2048x1024.size inb_S1x1x2048x1024_S1x1x2048x1024_0_0_0_0).toLoadRect (harg4.unread x) = x := fun x => (View.readAt_full _ _ _).trans (harg4.read_unread x)
  have e5 : ∀ x : Vec Ideal S1x1x512x2048 .f32, View.readAt (Elt Ideal) arg5.view (Rect.unit (s := S1x1x512x2048) ![0, 0, 0, 0] S1x1x512x2048.size inb_S1x1x512x2048_S1x1x512x2048_0_0_0_0).toLoadRect (harg5.unread x) = x := fun x => (View.readAt_full _ _ _).trans (harg5.read_unread x)
  unfold Pre owns
  rw [cc0_experts_eq_skeleton]; unfold cc0_experts_skel
  iintro ⟨⟨⟨%f0, %hf0, H0⟩, ⟨%f1, %hf1, H1⟩, ⟨%f2, %hf2, H2⟩, HT0, HT1, ⟨%d3, %f3, -, HO⟩, ⟨%d4, %f4, -, HS0⟩, ⟨%d5, %f5, -, HS1⟩⟩, Hk⟩
  obtain rfl := harg3.eq_unread hf0; obtain rfl := harg4.eq_unread hf1; obtain rfl := harg5.eq_unread hf2
  have hS0 : wiM.IsWhole := Memref.isWhole_whole _
  have hS1 : woM.IsWhole := Memref.isWhole_whole _
  have hT0 : teM.IsWhole := Memref.isWhole_whole _
  have hT1 : nvM.IsWhole := Memref.isWhole_whole _
  sl_exec! (disch := first | (guard_target = Scalar.cmpi = _; exact hc0) | (guard_target = k0_cond2 _ _ = _; exact k0_h2) | (guard_target = ¬(k0_cond3 _ _ = _); exact k0_h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HT0]; · iexact HT0
  isplitl [HT1]; · iexact HT1
  isplitl [HO]
  · iexists _; isplitr
    swap; · iexact HO
    ipureintro
    refine (View.read_writes_full _ _ _ _ _).trans ?_
    unfold bodyNew.sl.v23 bodyNew.sl.v31
    exact congrArg₂ (k0_pay3 x) ((View.readAt_full _ _ _).trans (View.read_writes_full _ _ _ _ _)) ((View.readAt_full _ _ _).trans (View.read_writes_full _ _ _ _ _))
  isplitl [HS0]
  · iexists _; isplitr
    swap; · iexact HS0
    ipureintro
    exact View.read_writes_full _ _ _ _ _
  iexists _; isplitr
  swap; · iexact HS1
  ipureintro
  exact View.read_writes_full _ _ _ _ _

set_option maxHeartbeats 1000000 in
/-- A tile in use at the expert of the tile before: its result is of the weights kept. -/
theorem bodySame (c : Dev nD) (i : grid0.Coords) (arg3 : Memref sig .tc .vmem S256x2048 .bf16) (harg3 : arg3.IsWhole) (arg4 : Memref sig .tc .vmem S1x1x2048x1024 .f32) (harg4 : arg4.IsWhole) (arg5 : Memref sig .tc .vmem S1x1x512x2048 .f32) (harg5 : arg5.IsWhole) (arg6 : Memref sig .tc .vmem S256x2048 .bf16) (harg6 : arg6.IsWhole) (T0 : S81.Idx → Elt Ideal .i32) (T1 : S1.Idx → Elt Ideal .i32)
    (x : Vec Ideal S256x2048 .bf16) (wi : Vec Ideal S1x1x2048x1024 .f32) (wo : Vec Ideal S1x1x512x2048 .f32)
    (vi : Vec Ideal S2048x1024 .bf16) (vo : Vec Ideal S512x2048 .bf16) (hc0 : ¬(freshC i T0 T1)) (k0_h2 : k0_cond2 i (wCount T1) = 1#1) (k0_h3 : ¬(k0_cond3 i (wCount T1) = 1#1)) (K : PUnit → sProp 𝕄) :
    iprop(Pre c arg3 arg4 arg5 T0 T1 x wi wo iprop((∃ d, owns (c : Thread nD τ) arg6 fullShare d) ∗ owns (c : Thread nD τ) wiM fullShare vi ∗ owns (c : Thread nD τ) woM fullShare vo)
        ∗ (iprop(Pre c arg3 arg4 arg5 T0 T1 x wi wo iprop(owns (c : Thread nD τ) arg6 fullShare (k0_pay3 x vi vo) ∗ owns (c : Thread nD τ) wiM fullShare vi ∗ owns (c : Thread nD τ) woM fullShare vo)) -∗ K ⟨⟩))
      ⊢ wp frame (wpE (defs₀ (F := Ideal)) Variants.none c none) Set.univ (cc0_experts i teM (Memref.isWhole_whole _) nvM (Memref.isWhole_whole _) arg3 harg3 arg4 harg4 arg5 harg5 arg6 harg6 wiM (Memref.isWhole_whole _) woM (Memref.isWhole_whole _)) K := by
  have e3 : ∀ x : Vec Ideal S256x2048 .bf16, View.readAt (Elt Ideal) arg3.view (Rect.unit (s := S256x2048) ![0, 0] S256x2048.size inb_S256x2048_S256x2048_0_0).toLoadRect (harg3.unread x) = x := fun x => (View.readAt_full _ _ _).trans (harg3.read_unread x)
  have e4 : ∀ x : Vec Ideal S1x1x2048x1024 .f32, View.readAt (Elt Ideal) arg4.view (Rect.unit (s := S1x1x2048x1024) ![0, 0, 0, 0] S1x1x2048x1024.size inb_S1x1x2048x1024_S1x1x2048x1024_0_0_0_0).toLoadRect (harg4.unread x) = x := fun x => (View.readAt_full _ _ _).trans (harg4.read_unread x)
  have e5 : ∀ x : Vec Ideal S1x1x512x2048 .f32, View.readAt (Elt Ideal) arg5.view (Rect.unit (s := S1x1x512x2048) ![0, 0, 0, 0] S1x1x512x2048.size inb_S1x1x512x2048_S1x1x512x2048_0_0_0_0).toLoadRect (harg5.unread x) = x := fun x => (View.readAt_full _ _ _).trans (harg5.read_unread x)
  unfold Pre owns
  rw [cc0_experts_eq_skeleton]; unfold cc0_experts_skel
  iintro ⟨⟨⟨%f0, %hf0, H0⟩, ⟨%f1, %hf1, H1⟩, ⟨%f2, %hf2, H2⟩, HT0, HT1, ⟨%d3, %f3, -, HO⟩, ⟨%f4, %hf4, HS0⟩, ⟨%f5, %hf5, HS1⟩⟩, Hk⟩
  obtain rfl := harg3.eq_unread hf0; obtain rfl := harg4.eq_unread hf1; obtain rfl := harg5.eq_unread hf2
  have hS0 : wiM.IsWhole := Memref.isWhole_whole _
  have hS1 : woM.IsWhole := Memref.isWhole_whole _
  have hT0 : teM.IsWhole := Memref.isWhole_whole _
  have hT1 : nvM.IsWhole := Memref.isWhole_whole _
  obtain rfl := hS0.eq_unread hf4; obtain rfl := hS1.eq_unread hf5
  sl_exec! (disch := first | (guard_target = ¬(Scalar.cmpi = _); exact hc0) | (guard_target = k0_cond2 _ _ = _; exact k0_h2) | (guard_target = ¬(k0_cond3 _ _ = _); exact k0_h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HT0]; · iexact HT0
  isplitl [HT1]; · iexact HT1
  isplitl [HO]
  · iexists _; isplitr
    swap; · iexact HO
    ipureintro
    refine (View.read_writes_full _ _ _ _ _).trans ?_
    exact congrArg₂ (k0_pay3 x) ((View.readAt_full _ _ _).trans (hS0.read_unread _)) ((View.readAt_full _ _ _).trans (hS1.read_unread _))
  isplitl [HS0]
  · iexists _; isplitr
    swap; · iexact HS0
    ipureintro
    exact hS0.read_unread _
  iexists _; isplitr
  swap; · iexact HS1
  ipureintro
  exact hS1.read_unread _

set_option maxHeartbeats 1000000 in
/-- A tile not in use: zeros. -/
theorem bodyIdle (c : Dev nD) (i : grid0.Coords) (arg3 : Memref sig .tc .vmem S256x2048 .bf16) (harg3 : arg3.IsWhole) (arg4 : Memref sig .tc .vmem S1x1x2048x1024 .f32) (harg4 : arg4.IsWhole) (arg5 : Memref sig .tc .vmem S1x1x512x2048 .f32) (harg5 : arg5.IsWhole) (arg6 : Memref sig .tc .vmem S256x2048 .bf16) (harg6 : arg6.IsWhole) (T0 : S81.Idx → Elt Ideal .i32) (T1 : S1.Idx → Elt Ideal .i32)
    (x : Vec Ideal S256x2048 .bf16) (wi : Vec Ideal S1x1x2048x1024 .f32) (wo : Vec Ideal S1x1x512x2048 .f32)
    (vi : Vec Ideal S2048x1024 .bf16) (vo : Vec Ideal S512x2048 .bf16) (hc0 : ¬(freshC i T0 T1)) (k0_h2 : ¬(k0_cond2 i (wCount T1) = 1#1)) (k0_h3 : k0_cond3 i (wCount T1) = 1#1) (K : PUnit → sProp 𝕄) :
    iprop(Pre c arg3 arg4 arg5 T0 T1 x wi wo iprop((∃ d, owns (c : Thread nD τ) arg6 fullShare d) ∗ owns (c : Thread nD τ) wiM fullShare vi ∗ owns (c : Thread nD τ) woM fullShare vo)
        ∗ (iprop(Pre c arg3 arg4 arg5 T0 T1 x wi wo iprop(owns (c : Thread nD τ) arg6 fullShare (k0_pay4 (F := Ideal)) ∗ owns (c : Thread nD τ) wiM fullShare vi ∗ owns (c : Thread nD τ) woM fullShare vo)) -∗ K ⟨⟩))
      ⊢ wp frame (wpE (defs₀ (F := Ideal)) Variants.none c none) Set.univ (cc0_experts i teM (Memref.isWhole_whole _) nvM (Memref.isWhole_whole _) arg3 harg3 arg4 harg4 arg5 harg5 arg6 harg6 wiM (Memref.isWhole_whole _) woM (Memref.isWhole_whole _)) K := by
  have e3 : ∀ x : Vec Ideal S256x2048 .bf16, View.readAt (Elt Ideal) arg3.view (Rect.unit (s := S256x2048) ![0, 0] S256x2048.size inb_S256x2048_S256x2048_0_0).toLoadRect (harg3.unread x) = x := fun x => (View.readAt_full _ _ _).trans (harg3.read_unread x)
  have e4 : ∀ x : Vec Ideal S1x1x2048x1024 .f32, View.readAt (Elt Ideal) arg4.view (Rect.unit (s := S1x1x2048x1024) ![0, 0, 0, 0] S1x1x2048x1024.size inb_S1x1x2048x1024_S1x1x2048x1024_0_0_0_0).toLoadRect (harg4.unread x) = x := fun x => (View.readAt_full _ _ _).trans (harg4.read_unread x)
  have e5 : ∀ x : Vec Ideal S1x1x512x2048 .f32, View.readAt (Elt Ideal) arg5.view (Rect.unit (s := S1x1x512x2048) ![0, 0, 0, 0] S1x1x512x2048.size inb_S1x1x512x2048_S1x1x512x2048_0_0_0_0).toLoadRect (harg5.unread x) = x := fun x => (View.readAt_full _ _ _).trans (harg5.read_unread x)
  unfold Pre owns
  rw [cc0_experts_eq_skeleton]; unfold cc0_experts_skel
  iintro ⟨⟨⟨%f0, %hf0, H0⟩, ⟨%f1, %hf1, H1⟩, ⟨%f2, %hf2, H2⟩, HT0, HT1, ⟨%d3, %f3, -, HO⟩, ⟨%f4, %hf4, HS0⟩, ⟨%f5, %hf5, HS1⟩⟩, Hk⟩
  obtain rfl := harg3.eq_unread hf0; obtain rfl := harg4.eq_unread hf1; obtain rfl := harg5.eq_unread hf2
  have hS0 : wiM.IsWhole := Memref.isWhole_whole _
  have hS1 : woM.IsWhole := Memref.isWhole_whole _
  have hT0 : teM.IsWhole := Memref.isWhole_whole _
  have hT1 : nvM.IsWhole := Memref.isWhole_whole _
  obtain rfl := hS0.eq_unread hf4; obtain rfl := hS1.eq_unread hf5
  sl_exec! (disch := first | (guard_target = ¬(Scalar.cmpi = _); exact hc0) | (guard_target = ¬(k0_cond2 _ _ = _); exact k0_h2) | (guard_target = k0_cond3 _ _ = _; exact k0_h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HT0]; · iexact HT0
  isplitl [HT1]; · iexact HT1
  isplitl [HO]
  · iexists _; isplitr
    swap; · iexact HO
    ipureintro
    exact View.read_writes_full _ _ _ _ _
  isplitl [HS0]
  · iexists _; isplitr
    swap; · iexact HS0
    ipureintro
    exact hS0.read_unread _
  iexists _; isplitr
  swap; · iexact HS1
  ipureintro
  exact hS1.read_unread _

end Cert.Kernel2Ideal.Exp

end
-- ==== Proof.ExpWord.lean ====
module

public import proofs.«01_k».proof.Proof.ExpBody

/-! # The experts' decisions as facts of the tables -/

@[expose] public section

set_option maxRecDepth 16384

noncomputable section

namespace Cert.Kernel2Ideal.Exp

open Cert.Kernel2Ideal Cert.Kernel2Ideal.Gen
open Idealize.ShloMosaic Idealize.ShloMosaic.TcCoe

/-- Tile `k` is in use. -/
def inUse (k : ℕ) (n : BitVec 32) : Prop := (BitVec.ofNat 32 k).slt n = true
instance (k : ℕ) (n : BitVec 32) : Decidable (inUse k n) := inferInstanceAs (Decidable (_ = _))

theorem ofBool_one (b : Bool) : BitVec.ofBool b = 1#1 ↔ b = true := by cases b <;> decide
theorem guard_one (b : Bool) : Scalar.cmpi .ne (Scalar.extui (BitVec.ofBool b)) 0#32 = 1#1 ↔ b = true := by cases b <;> decide
theorem and_bool (p q : Bool) : Scalar.andi (BitVec.ofBool p) (BitVec.ofBool q) = BitVec.ofBool (p && q) := by cases p <;> cases q <;> decide
theorem or_bool (p q : Bool) : Scalar.ori (BitVec.ofBool p) (BitVec.ofBool q) = BitVec.ofBool (p || q) := by cases p <;> cases q <;> decide

theorem inUse_pred {k : ℕ} {n : BitVec 32} (hk : k < 81) (h : inUse k n) : inUse (k - 1) n := by
  unfold inUse at h ⊢
  rw [BitVec.slt_iff_toInt_lt] at h ⊢
  have e : ∀ j, j < 81 → (BitVec.ofNat 32 j).toInt = j := fun j hj => by
    rw [BitVec.toInt_eq_toNat_of_lt (by rw [BitVec.toNat_ofNat]; omega), BitVec.toNat_ofNat]; omega
  rw [e k hk] at h; rw [e (k - 1) (by omega)]; omega

theorem cond2_iff (i : grid0.Coords) (n : BitVec 32) : k0_cond2 i n = 1#1 ↔ inUse (i 0).val n := guard_one _
theorem cond3_iff (i : grid0.Coords) (n : BitVec 32) : k0_cond3 i n = 1#1 ↔ ¬inUse (i 0).val n := by
  refine (guard_one _).trans ?_
  unfold inUse
  show n.sle (BitVec.ofNat 32 (i 0).val) = true ↔ _
  rw [BitVec.slt_iff_toInt_lt, BitVec.sle_iff_toInt_le, not_lt]

theorem fresh_iff (i : grid0.Coords) (T0 : S81.Idx → Elt Ideal .i32) (T1 : S1.Idx → Elt Ideal .i32) :
    freshC i T0 T1 ↔ inUse (i 0).val (wCount T1) ∧ ((i 0).val = 0 ∨ wHere i T0 ≠ wBefore i T0) := by
  unfold freshC
  generalize wHere i T0 = a
  generalize wBefore i T0 = b
  generalize wCount T1 = n
  have h81 : (i 0).val < 81 := (i 0).isLt
  rw [show Scalar.cmpi .slt (BitVec.ofNat 32 (i 0).val) n = BitVec.ofBool ((BitVec.ofNat 32 (i 0).val).slt n) from rfl,
    show Scalar.cmpi .eq (BitVec.ofNat 32 (i 0).val) 0#32 = BitVec.ofBool (BitVec.ofNat 32 (i 0).val == 0#32) from rfl,
    show Scalar.cmpi .ne a b = BitVec.ofBool (a != b) from rfl, or_bool, and_bool, guard_one]
  have e : BitVec.ofNat 32 (i 0).val = 0#32 ↔ (i 0).val = 0 := by
    constructor
    · intro h
      have := congrArg BitVec.toNat h
      simp only [BitVec.toNat_ofNat] at this
      omega
    · intro h; rw [h]
  unfold inUse
  simp [e]

/-- The tables' indices. -/
def at81 (k : ℕ) (h : k < 81) : S81.Idx := fun a => ⟨k, by have ha : a = 0 := Subsingleton.elim (α := Fin 1) _ _; subst ha; exact h⟩
def at1 : S1.Idx := fun a => ⟨0, by have ha : a = 0 := Subsingleton.elim (α := Fin 1) _ _; subst ha; exact Nat.one_pos⟩

theorem here_eq (i : grid0.Coords) (T0 : S81.Idx → Elt Ideal .i32) : wHere i T0 = T0 (at81 (i 0).val (i 0).isLt) := by
  have h81 : (i 0).val < 81 := (i 0).isLt
  refine congrArg T0 (funext fun a => Fin.ext ?_)
  have ha : a = 0 := Subsingleton.elim (α := Fin 1) _ _
  subst ha
  have : (BitVec.ofNat 32 (i 0).val).toNat = (i 0).val := by rw [BitVec.toNat_ofNat]; omega
  exact this

theorem before_eq (i : grid0.Coords) (T0 : S81.Idx → Elt Ideal .i32) (h0 : (i 0).val ≠ 0) :
    wBefore i T0 = T0 (at81 ((i 0).val - 1) (lt_of_le_of_lt (Nat.sub_le _ _) (i 0).isLt)) := by
  have key : ∀ k : Fin 81, k.val ≠ 0 → (Scalar.maxsi (Scalar.subi (BitVec.ofNat 32 k.val) 1#32) 0#32).toNat = k.val - 1 := by decide +kernel
  refine congrArg T0 (funext fun a => Fin.ext ?_)
  have ha : a = 0 := Subsingleton.elim (α := Fin 1) _ _
  subst ha
  exact key (i 0) h0

theorem count_eq (T1 : S1.Idx → Elt Ideal .i32) : wCount T1 = T1 at1 := by
  refine congrArg T1 (funext fun a => Fin.ext (by
    have ha : a = 0 := Subsingleton.elim (α := Fin 1) _ _
    subst ha; rfl))
theorem atD_eq (pf : pre0.Contents (Elt Ideal)) : pf.atD 1 ![0] = wCount (pf 1) := by
  refine Eq.trans ?_ (count_eq _).symm
  refine (dif_pos (by decide)).trans ?_
  refine congrArg (pf 1) (funext fun (a : Fin 1) => Fin.ext (by
    have ha : a = 0 := Subsingleton.elim _ _
    subst ha; rfl))

theorem tr1_eq (pf : pre0.Contents (Elt Ideal)) (i : grid0.Coords) : cc0_transform_1 k0_off1_inb numel1_S1 pf i = ![0, (wHere i (pf 0)).toNat, 0, 0] := rfl
theorem tr2_eq (pf : pre0.Contents (Elt Ideal)) (i : grid0.Coords) : cc0_transform_2 k0_off1_inb numel1_S1 pf i = ![0, (wHere i (pf 0)).toNat, 0, 0] := rfl

/-- Never is a point idle for the result: its tile is in use or it is not. -/
theorem idle_no (pf : pre0.Contents (Elt Ideal)) (i : grid0.Coords) : idle0 pf 3 i = false := by
  show (!(k0_cond2 i (pf.atD 1 ![0]) == 1#1) && !(k0_cond3 i (pf.atD 1 ![0]) == 1#1)) = false
  by_cases h : inUse (i 0).val (pf.atD 1 ![0])
  · rw [(cond2_iff _ _).mpr h]; rfl
  · rw [(cond3_iff _ _).mpr h, Bool.and_eq_false_iff]; right; rfl

theorem coords_val : ∀ t : Fin grid0.N, ((grid0.coords t) 0).val = t.val := by decide +kernel

end Cert.Kernel2Ideal.Exp

end
-- ==== Proof.ExpRun.lean ====
module

public import proofs.«01_k».proof.Proof.ExpWord
public import Idealize.ShloMosaic.Lib.Pipeline.Quiescent
public import Idealize.ShloMosaic.Lib.Claim
public import Idealize.ShloMosaic.Lib.Pipeline.TableIdle
public import Idealize.ShloMosaic.Adequacy
public import Idealize.ShloMosaic.Init

/-! # The experts' call, run at any admissible tables -/

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

abbrev EP : Emb (UR sig nD τ) 𝕄 := emb₁

variable (a : (pcfg0 (F := Ideal)).Adm)
variable (m : (ℓ : Loc nD τ sig) → Buf (Elt Ideal) ℓ) (ρ : Dev nD → PrngReg)

abbrev cfgA : Pipeline.Cfg sig Λ₀ := cfg0 (F := Ideal) a
abbrev pcs : Fin 1 → Pipeline.Cfg sig Λ₀ := Pipeline.pin (pcfgs (F := Ideal)) fun _ => a
abbrev crd (t : Fin (cfgA a).N) : grid0.Coords := grid0.coords t
/-- The tables: each tile's expert, the count of tiles in use. -/
abbrev T0 : S81.Idx → Elt Ideal .i32 := a.1 0
abbrev T1 : S1.Idx → Elt Ideal .i32 := a.1 1
abbrev cnt : BitVec 32 := wCount (T1 a)

abbrev sg0 (t : Fin (cfgA a).N) : Memref sig .tc .vmem S256x2048 .bf16 := spec0_0.stage ((cfgA a).slots t (0 : Fin 4))
abbrev sw0 (t : Fin (cfgA a).N) : (sg0 a t).IsWhole := hstage0_0 (((cfgA a).slots t (0 : Fin 4)).cast nbuf0_0)
abbrev sg1 (t : Fin (cfgA a).N) : Memref sig .tc .vmem S1x1x2048x1024 .f32 := spec0_1.stage ((cfgA a).slots t (1 : Fin 4))
abbrev sw1 (t : Fin (cfgA a).N) : (sg1 a t).IsWhole := hstage0_1 (((cfgA a).slots t (1 : Fin 4)).cast nbuf0_1)
abbrev sg2 (t : Fin (cfgA a).N) : Memref sig .tc .vmem S1x1x512x2048 .f32 := spec0_2.stage ((cfgA a).slots t (2 : Fin 4))
abbrev sw2 (t : Fin (cfgA a).N) : (sg2 a t).IsWhole := hstage0_2 (((cfgA a).slots t (2 : Fin 4)).cast nbuf0_2)
abbrev sg3 (t : Fin (cfgA a).N) : Memref sig .tc .vmem S256x2048 .bf16 := spec0_3.stage ((cfgA a).slots t (3 : Fin 4))
abbrev sw3 (t : Fin (cfgA a).N) : (sg3 a t).IsWhole := hstage0_3 (((cfgA a).slots t (3 : Fin 4)).cast nbuf0_3)

/-- A window's block at a point, off its array as launched. -/
def iblk (c : Dev nD) (w : Fin (cfgA a).W) (t : Fin (cfgA a).N) : (((cfgA a).win w).xblock (crd a t)).Idx → Elt Ideal ((cfgA a).win w).elt :=
  (((cfgA a).win w).blk t).view.read (Elt Ideal) ((s₀ m ρ).mem (((cfgA a).win w).arr.view.loc (c : Thread nD τ)))

abbrev xAt (c : Dev nD) (t : Fin (cfgA a).N) : Vec Ideal S256x2048 .bf16 := iblk a m ρ c (0 : Fin 4) t
abbrev wiAt (c : Dev nD) (t : Fin (cfgA a).N) : Vec Ideal S1x1x2048x1024 .f32 := iblk a m ρ c (1 : Fin 4) t
abbrev woAt (c : Dev nD) (t : Fin (cfgA a).N) : Vec Ideal S1x1x512x2048 .f32 := iblk a m ρ c (2 : Fin 4) t

/-- The tile's result. -/
def res (c : Dev nD) (t : Fin (cfgA a).N) : Vec Ideal S256x2048 .bf16 :=
  if inUse t.val (cnt a) then k0_pay3 (xAt a m ρ c t) (k0_pay1 (wiAt a m ρ c t)) (k0_pay2 (woAt a m ρ c t)) else k0_pay4 (F := Ideal)

/-- Equal experts, equal weights. -/
theorem wi_same (c : Dev nD) (t u : Fin (cfgA a).N) (h : wHere (crd a t) (T0 a) = wHere (crd a u) (T0 a)) : wiAt a m ρ c t = wiAt a m ρ c u := by
  unfold wiAt iblk
  refine funext fun y => congrArg (m ((c : Thread nD τ).loc main_arg3)) (funext fun b => Fin.ext ?_)
  show cc0_transform_1 k0_off1_inb numel1_S1 a.1 (crd a t) b * S1x1x2048x1024.size b + 1 * (y b).val = cc0_transform_1 k0_off1_inb numel1_S1 a.1 (crd a u) b * S1x1x2048x1024.size b + 1 * (y b).val
  have h' : wHere (crd a t) (a.1 0) = wHere (crd a u) (a.1 0) := h
  rw [tr1_eq, tr1_eq, h']
theorem wo_same (c : Dev nD) (t u : Fin (cfgA a).N) (h : wHere (crd a t) (T0 a) = wHere (crd a u) (T0 a)) : woAt a m ρ c t = woAt a m ρ c u := by
  unfold woAt iblk
  refine funext fun y => congrArg (m ((c : Thread nD τ).loc main_arg4)) (funext fun b => Fin.ext ?_)
  show cc0_transform_2 k0_off1_inb numel1_S1 a.1 (crd a t) b * S1x1x512x2048.size b + 1 * (y b).val = cc0_transform_2 k0_off1_inb numel1_S1 a.1 (crd a u) b * S1x1x512x2048.size b + 1 * (y b).val
  have h' : wHere (crd a t) (a.1 0) = wHere (crd a u) (a.1 0) := h
  rw [tr2_eq, tr2_eq, h']

/-- Before point `t` the weights kept are those of the tile before, if that was in use. -/
def kept (c : Dev nD) (n : ℕ) (vi : Vec Ideal S2048x1024 .bf16) (vo : Vec Ideal S512x2048 .bf16) : Prop :=
  ∀ (h0 : n ≠ 0) (hn : n - 1 < (cfgA a).N), inUse (n - 1) (cnt a) → vi = k0_pay1 (wiAt a m ρ c ⟨n - 1, hn⟩) ∧ vo = k0_pay2 (woAt a m ρ c ⟨n - 1, hn⟩)

def Phi (c : Dev nD) (n : ℕ) : sProp 𝕄 :=
  iprop((∃ a0 a1, ⌜kept a m ρ c n (wiM.view.read (Elt Ideal) a0) (woM.view.read (Elt Ideal) a1)⌝ ∗ (wiM.view.loc (c : Thread nD τ) ↦{fullShare} a0) ∗ (woM.view.loc (c : Thread nD τ) ↦{fullShare} a1))
    ∗ (teM.view.loc (c : Thread nD τ) ↦{fullShare.right} (T0 a)) ∗ (nvM.view.loc (c : Thread nD τ) ↦{fullShare.right} (T1 a)))

def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 4) t
    | ⟨1, _⟩ => iblk a m ρ c (1 : Fin 4) t
    | ⟨2, _⟩ => iblk a m ρ c (2 : Fin 4) t
    | ⟨3, _⟩ => res a m ρ c t
  Φ t := Phi a m ρ c t.val
  q _ := fullShare
  owed _ := 0

theorem after_0 (c : Dev nD) (t : Fin (cfgA a).N) : (dats a m ρ 0 c).after (0 : Fin 4) t = iblk a m ρ c (0 : Fin 4) t := rfl
theorem after_1 (c : Dev nD) (t : Fin (cfgA a).N) : (dats a m ρ 0 c).after (1 : Fin 4) t = iblk a m ρ c (1 : Fin 4) t := rfl
theorem after_2 (c : Dev nD) (t : Fin (cfgA a).N) : (dats a m ρ 0 c).after (2 : Fin 4) t = iblk a m ρ c (2 : Fin 4) t := rfl
theorem after_3 (c : Dev nD) (t : Fin (cfgA a).N) : (dats a m ρ 0 c).after (3 : Fin 4) t = res a m ρ c t := rfl

theorem before_0 (c : Dev nD) (t : Fin (cfgA a).N) (d) : (dats a m ρ 0 c).before (0 : Fin 4) t d = iblk a m ρ c (0 : Fin 4) t :=
  ((dats a m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m ρ 0 c).before (1 : Fin 4) t d = iblk a m ρ c (1 : Fin 4) t :=
  ((dats a m ρ 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a m ρ 0 c).before (2 : Fin 4) t d = iblk a m ρ c (2 : Fin 4) t :=
  ((dats a m ρ 0 c).before_in_eq_fetched (2 : Fin 4) rfl (fun _ => rfl) (fun _ _ _ => rfl) (fun t => by rw [after_2]; unfold Dat.blockOf iblk; rfl) t d).trans
    (by unfold Dat.fetched Dat.blockOf iblk; rfl)

abbrev bodyAt (t : Fin (cfgA a).N) : Prog (TpuEff nD τ sig (Elt Ideal) Λ₀ .tc) PUnit :=
  cc0_experts (crd a t) teM (Memref.isWhole_whole _) nvM (Memref.isWhole_whole _) (sg0 a t) (sw0 a t) (sg1 a t) (sw1 a t) (sg2 a t) (sw2 a t) (sg3 a t) (sw3 a t) wiM (Memref.isWhole_whole _) woM (Memref.isWhole_whole _)

/-- The three bodies as one, with the weights kept. -/
theorem body (c : Dev nD) (t : Fin (cfgA a).N) (vi : Vec Ideal S2048x1024 .bf16) (vo : Vec Ideal S512x2048 .bf16) (hk : kept a m ρ c t.val vi vo) (K : PUnit → sProp 𝕄) :
    iprop(Pre c (sg0 a t) (sg1 a t) (sg2 a t) (T0 a) (T1 a) (xAt a m ρ c t) (wiAt a m ρ c t) (woAt a m ρ c t)
          iprop((∃ d, owns (c : Thread nD τ) (sg3 a t) fullShare d) ∗ owns (c : Thread nD τ) wiM fullShare vi ∗ owns (c : Thread nD τ) woM fullShare vo)
        ∗ (iprop(∃ ui uo, ⌜kept a m ρ c (t.val + 1) ui uo⌝ ∗ Pre c (sg0 a t) (sg1 a t) (sg2 a t) (T0 a) (T1 a) (xAt a m ρ c t) (wiAt a m ρ c t) (woAt a m ρ c t)
          iprop(owns (c : Thread nD τ) (sg3 a t) fullShare (res a m ρ c t) ∗ owns (c : Thread nD τ) wiM fullShare ui ∗ owns (c : Thread nD τ) woM fullShare uo)) -∗ K ⟨⟩))
      ⊢ wp frame (wpE (defs₀ (F := Ideal)) Variants.none c none) Set.univ (bodyAt a t) K := by
  have hv : ((crd a t) 0).val = t.val := coords_val t
  by_cases hu : inUse t.val (cnt a)
  · have h2 : k0_cond2 (crd a t) (wCount (T1 a)) = 1#1 := (cond2_iff _ _).mpr (by rw [hv]; exact hu)
    have h3 : ¬(k0_cond3 (crd a t) (wCount (T1 a)) = 1#1) := fun h => (cond3_iff _ _).mp h (by rw [hv]; exact hu)
    by_cases hf : freshC (crd a t) (T0 a) (T1 a)
    · iintro ⟨⟨H0, H1, H2, HT0, HT1, HO, HS0, HS1⟩, Hk⟩
      iapply (bodyNew c (crd a t) (sg0 a t) (sw0 a t) (sg1 a t) (sw1 a t) (sg2 a t) (sw2 a t) (sg3 a t) (sw3 a t) (T0 a) (T1 a) (xAt a m ρ c t) (wiAt a m ρ c t) (woAt a m ρ c t) hf h2 h3 K)
      isplitr [Hk]
      · unfold Pre
        isplitl [H0]; · iexact H0
        isplitl [H1]; · iexact H1
        isplitl [H2]; · iexact H2
        isplitl [HT0]; · iexact HT0
        isplitl [HT1]; · iexact HT1
        isplitl [HO]; · iexact HO
        isplitl [HS0]; · iexists _; iexact HS0
        iexists _; iexact HS1
      iintro HP
      iapply Hk
      iexists _, _
      isplitr
      swap
      · rw [show res a m ρ c t = _ from if_pos hu]
        iexact HP
      ipureintro
      exact fun _ _ _ => ⟨rfl, rfl⟩
    · have hd := fun h => hf ((fresh_iff _ _ _).mpr ⟨by rw [hv]; exact hu, h⟩)
      rw [hv] at hd
      have h0 : t.val ≠ 0 := fun h => hd (.inl h)
      have hw : wHere (crd a t) (T0 a) = wBefore (crd a t) (T0 a) := not_not.mp fun h => hd (.inr h)
      have hN : t.val - 1 < (cfgA a).N := lt_of_le_of_lt (Nat.sub_le _ _) t.isLt
      have hw' : wHere (crd a ⟨t.val - 1, hN⟩) (T0 a) = wHere (crd a t) (T0 a) := by
        rw [hw, before_eq _ _ (by rw [hv]; exact h0), here_eq]
        congr 1
        have := coords_val ⟨t.val - 1, hN⟩
        unfold at81
        funext b
        exact Fin.ext (this.trans (congrArg (fun n => n - 1) hv.symm))
      obtain ⟨e1, e2⟩ := hk h0 hN (inUse_pred t.isLt hu)
      rw [wi_same a m ρ c _ _ hw'] at e1
      rw [wo_same a m ρ c _ _ hw'] at e2
      iintro ⟨⟨H0, H1, H2, HT0, HT1, HO, HS0, HS1⟩, Hk⟩
      iapply (bodySame c (crd a t) (sg0 a t) (sw0 a t) (sg1 a t) (sw1 a t) (sg2 a t) (sw2 a t) (sg3 a t) (sw3 a t) (T0 a) (T1 a) (xAt a m ρ c t) (wiAt a m ρ c t) (woAt a m ρ c t) vi vo hf h2 h3 K)
      isplitr [Hk]
      · unfold Pre
        isplitl [H0]; · iexact H0
        isplitl [H1]; · iexact H1
        isplitl [H2]; · iexact H2
        isplitl [HT0]; · iexact HT0
        isplitl [HT1]; · iexact HT1
        isplitl [HO]; · iexact HO
        isplitl [HS0]; · iexact HS0
        iexact HS1
      iintro HP
      iapply Hk
      iexists vi, vo
      isplitr
      swap
      · rw [show res a m ρ c t = _ from if_pos hu, ← e1, ← e2]
        iexact HP
      ipureintro
      exact fun _ _ _ => ⟨e1, e2⟩
  · have h2 : ¬(k0_cond2 (crd a t) (wCount (T1 a)) = 1#1) := fun h => hu (by have := (cond2_iff _ _).mp h; rwa [hv] at this)
    have h3 : k0_cond3 (crd a t) (wCount (T1 a)) = 1#1 := (cond3_iff _ _).mpr (by rw [hv]; exact hu)
    have hf : ¬(freshC (crd a t) (T0 a) (T1 a)) := fun h => hu (by have := ((fresh_iff _ _ _).mp h).1; rwa [hv] at this)
    iintro ⟨⟨H0, H1, H2, HT0, HT1, HO, HS0, HS1⟩, Hk⟩
    iapply (bodyIdle c (crd a t) (sg0 a t) (sw0 a t) (sg1 a t) (sw1 a t) (sg2 a t) (sw2 a t) (sg3 a t) (sw3 a t) (T0 a) (T1 a) (xAt a m ρ c t) (wiAt a m ρ c t) (woAt a m ρ c t) vi vo hf h2 h3 K)
    isplitr [Hk]
    · unfold Pre
      isplitl [H0]; · iexact H0
      isplitl [H1]; · iexact H1
      isplitl [H2]; · iexact H2
      isplitl [HT0]; · iexact HT0
      isplitl [HT1]; · iexact HT1
      isplitl [HO]; · iexact HO
      isplitl [HS0]; · iexact HS0
      iexact HS1
    iintro HP
    iapply Hk
    iexists vi, vo
    isplitr
    swap
    · rw [show res a m ρ c t = _ from if_neg hu]
      iexact HP
    ipureintro
    exact fun _ _ h => absurd h hu

/-! ## The obligation and the launch -/

theorem idle_3 (t : Fin (cfgA a).N) : (cfgA a).idle (3 : Fin 4) ((cfgA a).grid.coords t) = false := idle_no a.1 _

theorem own_of {s : Shape} {e : EltTy} (M : Memref sig .tc .vmem s e) (hM : M.IsWhole) (c : Dev nD) (d : BufTy.Contents (Elt Ideal) M.view.ty) :
    (M.view.loc (c : Thread nD τ) ↦{fullShare} d : sProp 𝕄) ⊢ owns (c : Thread nD τ) M fullShare (M.view.read (Elt Ideal) d) := by
  unfold owns
  rw [hM.set_eq_univ]
  iintro H
  iexists d
  isplitr; · ipureintro; exact Eq.refl _
  iexact H
theorem of_own {s : Shape} {e : EltTy} (M : Memref sig .tc .vmem s e) (hM : M.IsWhole) (c : Dev nD) (v : s.Idx → Elt Ideal e) :
    (owns (c : Thread nD τ) M fullShare v : sProp 𝕄) ⊢ iprop(∃ d, ⌜M.view.read (Elt Ideal) d = v⌝ ∗ (M.view.loc (c : Thread nD τ) ↦{fullShare} d)) := by
  unfold owns
  rw [hM.set_eq_univ]

theorem sound (c : Dev nD) (t : Fin (cfgA a).N) :
    iprop((dats a m ρ 0 c).Φ t.castSucc ∗ (dats a m ρ 0 c).owesAt () t.castSucc
        ∗ (∃ d, owns (c : Thread nD τ) (sg0 a t) fullShare ((dats a m ρ 0 c).before (0 : Fin 4) t d))
        ∗ (∃ d, owns (c : Thread nD τ) (sg1 a t) fullShare ((dats a m ρ 0 c).before (1 : Fin 4) t d))
        ∗ (∃ d, owns (c : Thread nD τ) (sg2 a t) fullShare ((dats a m ρ 0 c).before (2 : Fin 4) t d))
        ∗ (∃ d, owns (c : Thread nD τ) (sg3 a t) fullShare ((dats a m ρ 0 c).before (3 : Fin 4) t d)))
      ⊢ wp frame (wpE (defs₀ (F := Ideal)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [idle_3]
  simp only [before_0, before_1, before_2, after_0, after_1, after_2, after_3]
  rewrite [show (dats a m ρ 0 c).Φ t.succ = Phi a m ρ c (t.val + 1) from rfl, show (dats a m ρ 0 c).Φ t.castSucc = Phi a m ρ c t.val from rfl,
    show (dats a m ρ 0 c).owesAt () t.succ = (dats a m ρ 0 c).owesAt () t.castSucc from rfl]
  unfold Phi
  iintro ⟨⟨⟨%a0, %a1, %hk, HS0, HS1⟩, HT0, HT1⟩, Ho, ⟨%d0, H0⟩, ⟨%d1, H1⟩, ⟨%d2, H2⟩, ⟨%d3, H3⟩⟩
  iapply (body a m ρ c t (wiM.view.read (Elt Ideal) a0) (woM.view.read (Elt Ideal) a1) hk _)
  isplitr [Ho]
  · isplitl [H0]; · iexact H0
    isplitl [H1]; · iexact H1
    isplitl [H2]; · iexact H2
    isplitl [HT0]; · iexact HT0
    isplitl [HT1]; · iexact HT1
    isplitl [H3]; · iexists _; iexact H3
    isplitl [HS0]; · iapply (own_of wiM (Memref.isWhole_whole _) c a0); iexact HS0
    iapply (own_of woM (Memref.isWhole_whole _) c a1); iexact HS1
  iintro ⟨%ui, %uo, %hk', H0, H1, H2, HT0, HT1, H3, HS0, HS1⟩
  ihave HS0 := (of_own wiM (Memref.isWhole_whole _) c ui) $$ HS0
  ihave HS1 := (of_own woM (Memref.isWhole_whole _) c uo) $$ HS1
  icases HS0 with ⟨%b0, %hb0, HS0⟩
  icases HS1 with ⟨%b1, %hb1, HS1⟩
  subst hb0; subst hb1
  isplitl [HS0 HS1 HT0 HT1]
  · isplitl [HS0 HS1]
    · iexists b0, b1
      isplitr; · ipureintro; exact hk'
      isplitl [HS0]; · iexact HS0
      iexact HS1
    isplitl [HT0]; · iexact HT0
    iexact HT1
  isplitl [Ho]; · iexact Ho
  isplitl [H0]; · iexact H0
  isplitl [H1]; · iexact H1
  isplitl [H2]; · iexact H2
  iexact H3

theorem obligation (c : Dev nD) : BodyObligation (dats a m ρ 0 c) (defs₀ (F := Ideal)) Variants.none () Set.univ := fun t => by
  rw [bigSep_W0]
  exact sound a m ρ c t

def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgA a).W) : (dats a m ρ 0 c).share w = fullShare := by unfold Dat.share; split <;> rfl

theorem tables_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem kept_zero (c : Dev nD) (vi : Vec Ideal S2048x1024 .bf16) (vo : Vec Ideal S512x2048 .bf16) : kept a m ρ c 0 vi vo := fun h => absurd rfl h

theorem phi_in (c : Dev nD) :
    iprop(BI.emp ∗ Pipeline.prefHeld pre0 c (fun _ => fullShare.right) a.1 ∗ Pipeline.scopedRest spec0 c) ⊢ (dats a m ρ 0 c).Φ 0 := by
  rw [tables_eq, scopedRest0_eq, show (dats a m ρ 0 c).Φ 0 = Phi a m ρ c 0 from rfl]
  unfold Phi
  iintro ⟨-, ⟨HT0, HT1⟩, ⟨%a0, HS0⟩, ⟨%a1, HS1⟩⟩
  isplitl [HS0 HS1]
  · iexists a0, a1
    isplitr
    swap
    · isplitl [HS0]; · iexact HS0
      iexact HS1
    ipureintro; exact kept_zero a m ρ c _ _
  isplitl [HT0]
  · iexact HT0
  iexact HT1

theorem phi_out (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (cfgA a).N from rfl]
  unfold Phi
  iintro ⟨⟨%a0, %a1, -, HS0, HS1⟩, -, -⟩
  isplitr; · iempintro
  isplitl [HS0]
  · iexists a0; iexact HS0
  iexists a1; iexact HS1

/-- Every array as computed, every table as it was. -/
def Post : PUnit × MemSt nD τ sig (Elt Ideal) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
theorem run (hp : ∀ (c : Dev nD) (j : Fin 2), m ((c : Thread nD τ).loc (pre0.ref j)) = a.1 j) :
    θ_run (defs (F := Ideal)) (onTc (τ := τ) (main (F := Ideal))) (s₀ m ρ) (fun r => Post a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Ideal)).win.arr_inj c (launch0 (F := Ideal)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_in a m ρ)
    (hout := phi_out a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were, every semaphore at zero; the result's array is as computed. -/
theorem frame (hp : ∀ (c : Dev nD) (j : Fin 2), m ((c : Thread nD τ).loc (pre0.ref j)) = a.1 j) :
    θ_run (defs (F := Ideal)) (onTc (τ := τ) (main (F := Ideal))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) ∧ ∀ c : Dev nD, r.2.mem (((cfgA a).win (3 : Fin 4)).arr.view.loc (c : Thread nD τ)) = (dats a m ρ 0 c).arrAt (3 : Fin 4) (cfgA a).N) :=
  (θ_run defs _ _).mono (fun _ h => ⟨⟨fun c => ⟨((h.1 c).1 (0 : Fin 4)).trans ((dats a m ρ 0 c).arrAt_in (0 : Fin 4) rfl _), ((h.1 c).2 0).trans (hp c 0).symm, ((h.1 c).2 1).trans (hp c 1).symm, ((h.1 c).1 (1 : Fin 4)).trans ((dats a m ρ 0 c).arrAt_in (1 : Fin 4) rfl _), ((h.1 c).1 (2 : Fin 4)).trans ((dats a m ρ 0 c).arrAt_in (2 : Fin 4) rfl _)⟩, h.2⟩, fun c => (h.1 c).1 (3 : Fin 4)⟩) (run a m ρ hp)

end Cert.Kernel2Ideal.Exp

end
-- ==== Proof.ExpPre.lean ====
module

public import proofs.«01_k».proof.Proof.ExpRun
public import proofs.«01_k».proof.Defs
public import proofs.«01_k».proof.Proof.Gen.Pre_expert_ids
public import Idealize.ShloMosaic.Lib.ReduceAll
public import Idealize.ShloMosaic.Lib.WordCmp
public import Idealize.ShloMosaic.PureOps.Ideal

/-! # Tables that name experts admit the experts' call -/

@[expose] public section

set_option maxRecDepth 16384

noncomputable section

namespace Cert.Kernel2Ideal.Exp

open Cert.Kernel2Ideal Cert.Kernel2Ideal.Gen
open Idealize.ShloMosaic Idealize.ShloMosaic.TcCoe Idealize.SL.Sem
open Idealize.ShloMosaic.StableHlo

instance : Cert.Kernel2Ideal.Facts := Cert.Kernel2Ideal.Gen.facts
instance : Cert.Pre_expert_ids.Facts := Cert.Pre_expert_ids.Gen.facts
instance : Subsingleton Cert.Pre_expert_ids.S_.Idx := ⟨fun x y => funext fun b => b.elim0⟩

variable (m : (ℓ : Loc nD τ sig) → Buf (Elt Ideal) ℓ)

abbrev d0 : Dev nD := ⟨0, by decide⟩
/-- The tables as launched. -/
abbrev Te (c : Dev nD) : S81.Idx → BitVec 32 := m ((c : Thread nD τ).loc main_arg1)
abbrev Nv (c : Dev nD) : S1.Idx → BitVec 32 := m ((c : Thread nD τ).loc main_arg2)

/-- The precondition is that every tile's expert is one of the sixteen. -/
theorem ids (hpre : Cert.Pre_Kernel2Ideal m) (c : Dev nD) (i : S81.Idx) : (Te m c i).toNat < 16 := by
  have h := congrFun (hpre c) (fun b => b.elim0)
  dsimp only [Cert.Pre_expert_ids.fn] at h
  have h1 := Host.reduce_andi_all _ _ _ _ _ h i
  have h2 : IntOp.andi (IntOp.cmpi .sge (Te m c i) 0#32) (IntOp.cmpi .slt (Te m c i) (BitVec.ofNat 32 16)) = 1#1 := h1
  rw [WordCmp.andi_sge_zero_slt_ofNat (by decide)] at h2
  by_contra hn
  rw [decide_eq_false hn] at h2
  exact absurd h2 (by decide)

/-- The tables' contents. -/
def tables : pre0.Contents (Elt Ideal) := fun j => m ((d0 : Thread nD τ).loc (pre0.ref j))

theorem dev_eq (c : Dev nD) : c = d0 := by revert c; decide

theorem tables_at (c : Dev nD) (j : Fin 2) : m ((c : Thread nD τ).loc (pre0.ref j)) = tables m j := by
  rw [dev_eq c]; rfl

theorem here_lt (hpre : Cert.Pre_Kernel2Ideal m) (i : grid0.Coords) : (wHere i (tables m 0)).toNat < 16 := by
  have h := ids m hpre d0 (at81 (i 0).val (i 0).isLt)
  have e : wHere i (Te m d0) = Te m d0 (at81 (i 0).val (i 0).isLt) := here_eq i (Te m d0)
  rw [← e] at h
  exact h

theorem admits (hpre : Cert.Pre_Kernel2Ideal m) : ok0 (F := Ideal) (tables m) := by
  refine ⟨fun i => ⟨?_, .inl rfl⟩, fun i => ⟨?_, .inl rfl⟩⟩
  · rw [tr1_eq]
    have := here_lt m hpre i
    intro b
    fin_cases b
    · show (0 + 1) * 1 ≤ 4; omega
    · show ((wHere i (tables m 0)).toNat + 1) * 1 ≤ 16; omega
    · show (0 + 1) * 2048 ≤ 2048; omega
    · show (0 + 1) * 1024 ≤ 1024; omega
  · rw [tr2_eq]
    have := here_lt m hpre i
    intro b
    fin_cases b
    · show (0 + 1) * 1 ≤ 4; omega
    · show ((wHere i (tables m 0)).toNat + 1) * 1 ≤ 16; omega
    · show (0 + 1) * 512 ≤ 512; omega
    · show (0 + 1) * 2048 ≤ 2048; omega

/-- The launched tables, admissible. -/
def adm (hpre : Cert.Pre_Kernel2Ideal m) : (pcfg0 (F := Ideal)).Adm := ⟨tables m, admits m hpre⟩

theorem frame_all : Cert.quiescent_Kernel2Ideal := fun m g hpre =>
  (θ_run defs _ _).mono (fun r h => h.1) (frame (adm m hpre) m g (tables_at m))

end Cert.Kernel2Ideal.Exp

end
-- ==== Proof.ExpMath.lean ====
module

public import Idealize.ShloMosaic.Lib.Claim
public import Idealize.ShloMosaic.PureOps.Ideal

/-! # An expert's multilayer perceptron in numbers -/

@[expose] public section

noncomputable section

namespace Cert.ExpM

open Idealize.ShloMosaic

/-- The gated hidden value. -/
def act (h : Fin 1024 → EReal) (f : Fin 512) : EReal :=
  HMul.hMul (α := EReal) (β := EReal) (γ := EReal) (h ⟨512 + f.val, by omega⟩ * Ideal.logistic (h ⟨512 + f.val, by omega⟩)) (h ⟨f.val, by omega⟩)
/-- The expert's value: a row through both its matrices. -/
def mlp (x : Fin 2048 → EReal) (wi : Fin 2048 → Fin 1024 → EReal) (wo : Fin 512 → EReal) : EReal :=
  ∑ f : Fin 512, act (fun j => ∑ k : Fin 2048, x k * wi k j) f * wo f

/-- The sum over all experts and hidden units, each at its gate, is the one expert's. -/
theorem gated (gate : Fin 16 → EReal) (e : Fin 16) (h1 : gate e = 1) (h0 : ∀ e', e' ≠ e → gate e' = 0) (A B : Fin 16 → Fin 512 → EReal) :
    ∑ e' : Fin 16, ∑ f : Fin 512, A e' f * gate e' * B e' f = ∑ f : Fin 512, A e f * B e f := by
  rw [Finset.sum_eq_single e]
  · simp only [h1, mul_one]
  · intro b _ hb
    simp only [h0 b hb, mul_zero, zero_mul, Finset.sum_const_zero]
  · intro h; exact absurd (Finset.mem_univ _) h
theorem gated_off (gate : Fin 16 → EReal) (h0 : ∀ e', gate e' = 0) (A B : Fin 16 → Fin 512 → EReal) :
    ∑ e' : Fin 16, ∑ f : Fin 512, A e' f * gate e' * B e' f = 0 := by
  simp only [h0, mul_zero, zero_mul, Finset.sum_const_zero]

end Cert.ExpM

end
-- ==== Proof.ExpVal.lean ====
module

public import proofs.«01_k».proof.Proof.ExpRun
public import proofs.«01_k».proof.Proof.ExpMath
public import Idealize.ShloMosaic.Lib.Claim
public import Idealize.ShloMosaic.Lib.Pipeline.ValueKit
public import Idealize.ShloMosaic.Lib.Pipeline.Covers

/-! # The experts' result in numbers -/

@[expose] public section

set_option maxRecDepth 16384

noncomputable section

namespace Cert.Kernel2Ideal.Exp

open Cert.Kernel2Ideal Cert.Kernel2Ideal.Gen Cert.ExpM
open Idealize.ShloMosaic Idealize.ShloMosaic.TcCoe Idealize.SL.Sem
open Idealize.ShloMosaic.StableHlo
open Idealize.ShloMosaic.Pipeline (Dat)

variable (a : (pcfg0 (F := Ideal)).Adm)
variable (m : (ℓ : Loc nD τ sig) → Buf (Elt Ideal) ℓ) (ρ : Dev nD → PrngReg)

theorem tile_at (x : FVec Ideal S256x2048 .bf16) (wi : FVec Ideal S1x1x2048x1024 .f32) (wo : FVec Ideal S1x1x512x2048 .f32) (r : Fin 256) (d : Fin 2048) :
    k0_pay3 (F := Ideal) x (k0_pay1 (F := Ideal) wi) (k0_pay2 (F := Ideal) wo) (ix2 r d)
      = mlp (fun k => x (ix2 r k)) (fun k j => wi (ix4 0 0 k j)) (fun f => wo (ix4 0 0 f d)) := by
  unfold mlp act
  pointwise [k0_pay3, k0_pay1, k0_pay2]

theorem zero_at (r : Fin 256) (d : Fin 2048) : k0_pay4 (F := Ideal) (ix2 r d) = (0 : EReal) := by
  pointwise [k0_pay4]

/-- The rows and the weights as launched. -/
abbrev Xa (c : Dev nD) : FVec Ideal S20736x2048 .bf16 := m ((c : Thread nD τ).loc main_arg0)
abbrev Wi (c : Dev nD) : FVec Ideal S4x16x2048x1024 .f32 := m ((c : Thread nD τ).loc main_arg3)
abbrev Wo (c : Dev nD) : FVec Ideal S4x16x512x2048 .f32 := m ((c : Thread nD τ).loc main_arg4)

theorem tr0 : ∀ t : Fin grid0.N, cc0_transform_0 (grid0.coords t) = ![t.val, 0] := by decide +kernel
theorem tr3 : ∀ t : Fin grid0.N, cc0_transform_3 (grid0.coords t) = ![t.val, 0] := by decide +kernel
theorem t_lt (t : Fin (cfgA a).N) : t.val < 81 := t.isLt

theorem x_at (c : Dev nD) (t : Fin (cfgA a).N) (r : Fin 256) (k : Fin 2048) :
    xAt a m ρ c t (ix2 r k) = Xa m c (ix2 ⟨t.val * 256 + r.val, by have := t_lt a t; omega⟩ k) := by
  unfold xAt iblk
  refine congrArg (m ((c : Thread nD τ).loc main_arg0)) (funext fun b => Fin.ext ?_)
  show cc0_transform_0 (crd a t) b * S256x2048.size b + 1 * (ix2 r k b).val = _
  rw [tr0]
  fin_cases b
  · show t.val * 256 + 1 * r.val = t.val * 256 + r.val; omega
  · show 0 * 2048 + 1 * k.val = k.val; omega

/-- The expert of a tile. -/
abbrev tileExpert (T : S81.Idx → Elt Ideal .i32) (t : ℕ) (h : t < 81) : ℕ := (T (at81 t h)).toNat

theorem wi_at (c : Dev nD) (t : Fin (cfgA a).N) (e : Fin 16) (he : tileExpert (T0 a) t.val (t_lt a t) = e.val) (k : Fin 2048) (j : Fin 1024) :
    wiAt a m ρ c t (ix4 0 0 k j) = Wi m c (ix4 0 e k j) := by
  unfold wiAt iblk
  refine congrArg (m ((c : Thread nD τ).loc main_arg3)) (funext fun b => Fin.ext ?_)
  show cc0_transform_1 k0_off1_inb numel1_S1 a.1 (crd a t) b * S1x1x2048x1024.size b + 1 * (ix4 (n0 := 1) (n1 := 1) 0 0 k j b).val = _
  have hw : (wHere (crd a t) (T0 a)).toNat = e.val := by
    rw [← he, here_eq]
    exact congrArg (fun z => (T0 a z).toNat) (funext fun b => Fin.ext (coords_val t))
  rw [show cc0_transform_1 k0_off1_inb numel1_S1 a.1 (crd a t) = ![0, e.val, 0, 0] from (tr1_eq _ _).trans (congrArg (fun z => ![0, z, 0, 0]) hw)]
  fin_cases b
  · rfl
  · show e.val * 1 + 1 * 0 = e.val; omega
  · show 0 * 2048 + 1 * k.val = k.val; omega
  · show 0 * 1024 + 1 * j.val = j.val; omega

theorem wo_at (c : Dev nD) (t : Fin (cfgA a).N) (e : Fin 16) (he : tileExpert (T0 a) t.val (t_lt a t) = e.val) (k : Fin 512) (j : Fin 2048) :
    woAt a m ρ c t (ix4 0 0 k j) = Wo m c (ix4 0 e k j) := by
  unfold woAt iblk
  refine congrArg (m ((c : Thread nD τ).loc main_arg4)) (funext fun b => Fin.ext ?_)
  show cc0_transform_2 k0_off1_inb numel1_S1 a.1 (crd a t) b * S1x1x512x2048.size b + 1 * (ix4 (n0 := 1) (n1 := 1) 0 0 k j b).val = _
  have hw : (wHere (crd a t) (T0 a)).toNat = e.val := by
    rw [← he, here_eq]
    exact congrArg (fun z => (T0 a z).toNat) (funext fun b => Fin.ext (coords_val t))
  rw [show cc0_transform_2 k0_off1_inb numel1_S1 a.1 (crd a t) = ![0, e.val, 0, 0] from (tr2_eq _ _).trans (congrArg (fun z => ![0, z, 0, 0]) hw)]
  fin_cases b
  · rfl
  · show e.val * 1 + 1 * 0 = e.val; omega
  · show 0 * 512 + 1 * k.val = k.val; omega
  · show 0 * 2048 + 1 * j.val = j.val; omega

/-- The result: each row through its tile's expert, zero in the tiles not in use. -/
def G (X : FVec Ideal S20736x2048 .bf16) (T : S81.Idx → BitVec 32) (n : BitVec 32) (Wi : FVec Ideal S4x16x2048x1024 .f32) (Wo : FVec Ideal S4x16x512x2048 .f32) :
    FVec Ideal S20736x2048 .bf16 := fun y =>
  if inUse ((y 0).val / 256) n then
    mlp (fun k => X (ix2 (y 0) k))
      (fun k j => Wi (ix4 0 ⟨(T (at81 ((y 0).val / 256) (by have : (y 0).val < 20736 := (y 0).isLt; omega))).toNat % 16, Nat.mod_lt _ (by omega)⟩ k j))
      (fun f => Wo (ix4 0 ⟨(T (at81 ((y 0).val / 256) (by have : (y 0).val < 20736 := (y 0).isLt; omega))).toNat % 16, Nat.mod_lt _ (by omega)⟩ f (y 1)))
  else 0

theorem size3 : ∀ b : Fin 2, 0 < S256x2048.size b := by decide
theorem nblk3 : ((cfgA a).win (3 : Fin 4)).nblk (0 : Fin 2) = 81 := by
  show Nat.div (20736 + 255) 256 = 81
  decide
theorem nblk3' : ((cfgA a).win (3 : Fin 4)).nblk (1 : Fin 2) = 1 := by
  show Nat.div (2048 + 2047) 2048 = 1
  decide
theorem tr3' (i : grid0.Coords) : cc0_transform_3 i = ![(i 0).val, 0] := by
  obtain ⟨t, rfl⟩ := Pipeline.Grid.coords_surjective grid0 i
  rw [tr3, coords_val]
/-- The grid point of a number. -/
def at0 (k : ℕ) (h : k < 81) : grid0.Coords := fun b => ⟨k, by rw [show b = (0 : Fin 1) from Subsingleton.elim (α := Fin 1) _ _]; exact h⟩
theorem covers3 : ((cfgA a).win (3 : Fin 4)).Covers := by
  refine ((cfgA a).win (3 : Fin 4)).covers_of_indexMap_surj rfl size3 fun β => ?_
  have h0 : (β (0 : Fin 2)).val < 81 := lt_of_lt_of_le (β (0 : Fin 2)).isLt (nblk3 a).le
  have h1 : (β (1 : Fin 2)).val < 1 := lt_of_lt_of_le (β (1 : Fin 2)).isLt (nblk3' a).le
  refine ⟨at0 _ h0, fun b => ?_⟩
  refine (congrFun (tr3' (at0 _ h0)) b).trans ?_
  fin_cases b
  · rfl
  · show 0 = (β (1 : Fin 2)).val
    omega

theorem res_at (hT : ∀ i, (T0 a i).toNat < 16) (c : Dev nD) (t : Fin (cfgA a).N) (r : Fin 256) (d : Fin 2048) :
    res a m ρ c t (ix2 r d) = G (Xa m c) (T0 a) (cnt a) (Wi m c) (Wo m c) (ix2 ⟨t.val * 256 + r.val, by have := t_lt a t; omega⟩ d) := by
  have ht := t_lt a t
  have hq : (t.val * 256 + r.val) / 256 = t.val := by omega
  unfold res G
  show _ = if inUse ((t.val * 256 + r.val) / 256) (cnt a) then _ else _
  by_cases h : inUse t.val (cnt a)
  · rw [if_pos h, if_pos (by rw [hq]; exact h), tile_at]
    have key : ∀ e : Fin 16, tileExpert (T0 a) t.val (t_lt a t) = e.val →
        mlp (fun k => xAt a m ρ c t (ix2 r k)) (fun k j => wiAt a m ρ c t (ix4 0 0 k j)) (fun f => woAt a m ρ c t (ix4 0 0 f d))
          = mlp (fun k => Xa m c (ix2 ⟨t.val * 256 + r.val, by omega⟩ k)) (fun k j => Wi m c (ix4 0 e k j)) (fun f => Wo m c (ix4 0 e f d)) := by
      intro e he
      simp only [x_at, wi_at a m ρ c t e he, wo_at a m ρ c t e he]
    refine key _ ?_
    refine Eq.trans ?_ (Nat.mod_eq_of_lt (hT _)).symm
    exact congrArg (fun z => (T0 a z).toNat) (funext fun b => Fin.ext hq.symm)
  · rw [if_neg h, if_neg (by rw [hq]; exact h)]
    exact zero_at r d

theorem final3 (hT : ∀ i, (T0 a i).toNat < 16) (c : Dev nD) :
    (dats a m ρ 0 c).arrAt (3 : Fin 4) (cfgA a).N = G (Xa m c) (T0 a) (cnt a) (Wi m c) (Wo m c) := by
  refine (dats a m ρ 0 c).arrAt_eq_of_covers (3 : Fin 4) _ (covers3 a) fun t _ y => ?_
  blk_simp
  rw [after_3]
  idx_vars y
  refine (res_at a m ρ hT c t y0 y1).trans (congrArg _ (funext fun b => Fin.ext ?_))
  show _ = cc0_transform_3 (crd a t) b * S256x2048.size b + 1 * (ix2 y0 y1 b).val
  rw [tr3]
  fin_cases b
  · show t.val * 256 + y0.val = t.val * 256 + 1 * y0.val; omega
  · show y1.val = 0 * 2048 + 1 * y1.val; omega

end Cert.Kernel2Ideal.Exp

end
-- ==== Proof.ExpRef.lean ====
module

public import proofs.«01_k».proof.Proof.Gen.Reference2Ideal.Run
public import proofs.«01_k».proof.Proof.ExpMath
public import Idealize.ShloMosaic.Lib.Claim
public import Idealize.ShloMosaic.Lib.Pipeline.ValueKit
public import Idealize.ShloMosaic.Lib.Pointwise

/-! # The reference's experts in numbers -/

@[expose] public section

set_option maxRecDepth 16384

noncomputable section

namespace Cert.Reference2Ideal.Exp

open Cert.Reference2Ideal Cert.Reference2Ideal.Gen Cert.ExpM
open Idealize.ShloMosaic Idealize.ShloMosaic.TcCoe Idealize.SL.Sem
open Idealize.ShloMosaic.StableHlo

/-- Each row through every expert's first matrix. -/
def hid (X : FVec Ideal S20736x2048 .bf16) (W : FVec Ideal S4x16x2048x1024 .f32) : FVec Ideal S20736x16x1024 .f32 :=
  Host.dotGeneral dot_S20736x2048_S16x2048x1024_S20736x16x1024_1_1_0_02_n_n none (extf .f32 X bitsLt_bf16_f32)
    (shapeCast S16x2048x1024 (extractStridedSlice S1x16x2048x1024 ![0, 0, 0, 0] W slices_S4x16x2048x1024_S1x16x2048x1024_0_0_0_0) shapeCasts_S1x16x2048x1024_S16x2048x1024)

theorem hid_at (X : FVec Ideal S20736x2048 .bf16) (W : FVec Ideal S4x16x2048x1024 .f32) (r : Fin 20736) (e : Fin 16) (j : Fin 1024) :
    hid X W (ix3 r e j) = ∑ k : Fin 2048, X (ix2 r k) * W (ix4 0 e k j) := by
  pointwise [hid]

/-- The gate of a tile at an expert. -/
def gateT (T : IVec S81 32) (n : IVec S1 32) : FVec Ideal S81x16 .f32 :=
  mulf (uitofp .f32 (cmpi .eq (broadcastInDim S81x16 ![0, 1] bcast_S81x1_S81x16_0_1 (broadcastInDim S81x1 ![0] bcast_S81_S81x1_0 T)) (broadcastInDim S81x16 ![0, 1] bcast_S1x16_S81x16_0_1 (iotaInDim S1x16 32 1))))
    (broadcastInDim S81x16 ![0, 1] bcast_S81x1_S81x16_0_1 (broadcastInDim S81x1 ![0] bcast_S81_S81x1_0 (uitofp .f32 (cmpi .slt (iotaInDim S81 32 0) (broadcastInDim S81 ![] bcast_S_S81 (shapeCast S_ n shapeCasts_S1_S_))))))

theorem bit_one (b : BitVec 1) (h : b = 1#1) : (FloatOps.uitofp (F := Ideal) FTy.f32 b : EReal) = 1 := by
  subst h
  show (((1#1 : BitVec 1).toNat : ℝ) : EReal) = 1
  simp
theorem bit_zero (b : BitVec 1) (h : b = 0#1) : (FloatOps.uitofp (F := Ideal) FTy.f32 b : EReal) = 0 := by
  subst h
  show (((0#1 : BitVec 1).toNat : ℝ) : EReal) = 0
  simp

theorem gateT_at (T : IVec S81 32) (n : IVec S1 32) (t : Fin 81) (e : Fin 16) :
    gateT T n (ix2 t e) = (HMul.hMul (α := EReal) (β := EReal) (γ := EReal) (if T (ix1 t) = BitVec.ofNat 32 e.val then 1 else 0) (if (BitVec.ofNat 32 t.val).slt (n (ix1 0)) = true then 1 else 0)) := by
  pointwise [gateT]
  refine congrArg₂ (HMul.hMul (α := EReal) (β := EReal) (γ := EReal)) ?_ ?_
  · by_cases h : T (ix1 t) = BitVec.ofNat 32 e.val
    · rw [if_pos h]
      exact bit_one _ (by show BitVec.ofBool _ = _; simp [h])
    · rw [if_neg h]
      exact bit_zero _ (by show BitVec.ofBool _ = _; rw [beq_eq_false_iff_ne.mpr h]; rfl)
  · by_cases h : (BitVec.ofNat 32 t.val).slt (n (ix1 0)) = true
    · rw [if_pos h]
      exact bit_one _ (by show BitVec.ofBool _ = _; rw [h]; rfl)
    · rw [if_neg h]
      exact bit_zero _ (by show BitVec.ofBool _ = _; rw [Bool.eq_false_of_not_eq_true h]; rfl)

/-- The gate of a row at an expert. -/
def gateR (T : IVec S81 32) (n : IVec S1 32) : FVec Ideal S20736x16 .f32 :=
  shapeCast S20736x16 (broadcastInDim S81x256x16 ![0, 2] bcast_S81x16_S81x256x16_0_2 (gateT T n)) shapeCasts_S81x256x16_S20736x16

theorem gateR_at (T : IVec S81 32) (n : IVec S1 32) (r : Fin 20736) (e : Fin 16) :
    gateR T n (ix2 r e) = gateT T n (ix2 ⟨r.val / 256, by omega⟩ e) := by
  pointwise [gateR]

/-- The gated hidden values. -/
def mid (X : FVec Ideal S20736x2048 .bf16) (W : FVec Ideal S4x16x2048x1024 .f32) (T : IVec S81 32) (n : IVec S1 32) : FVec Ideal S20736x16x512 .f32 :=
  mulf (mulf (mulf (extractStridedSlice S20736x16x512 ![0, 0, 512] (hid X W) slices_S20736x16x1024_S20736x16x512_0_0_512)
      (Host.divf (broadcastInDim S20736x16x512 ![] bcast_S_S20736x16x512 (constant S_ .f32 0x3F800000#32)) (addf (broadcastInDim S20736x16x512 ![] bcast_S_S20736x16x512 (constant S_ .f32 0x3F800000#32)) (Host.exp (Host.negf (extractStridedSlice S20736x16x512 ![0, 0, 512] (hid X W) slices_S20736x16x1024_S20736x16x512_0_0_512))))))
      (extractStridedSlice S20736x16x512 ![0, 0, 0] (hid X W) slices_S20736x16x1024_S20736x16x512_0_0_0))
    (broadcastInDim S20736x16x512 ![0, 1, 2] bcast_S20736x16x1_S20736x16x512_0_1_2 (broadcastInDim S20736x16x1 ![0, 1] bcast_S20736x16_S20736x16x1_0_1 (gateR T n)))

theorem mid_at (X : FVec Ideal S20736x2048 .bf16) (W : FVec Ideal S4x16x2048x1024 .f32) (T : IVec S81 32) (n : IVec S1 32) (r : Fin 20736) (e : Fin 16) (f : Fin 512) :
    mid X W T n (ix3 r e f) = HMul.hMul (α := EReal) (β := EReal) (γ := EReal) (act (fun j => hid X W (ix3 r e j)) f) (gateR T n (ix2 r e)) := by
  unfold act Ideal.logistic
  pointwise [mid]

def out (X : FVec Ideal S20736x2048 .bf16) (T : IVec S81 32) (n : IVec S1 32) (W : FVec Ideal S4x16x2048x1024 .f32) (V : FVec Ideal S4x16x512x2048 .f32) : FVec Ideal S20736x2048 .bf16 :=
  truncf .bf16 (Host.dotGeneral dot_S20736x16x512_S16x512x2048_S20736x2048_12_01_0_2_n_n none (mid X W T n)
    (shapeCast S16x512x2048 (extractStridedSlice S1x16x512x2048 ![0, 0, 0, 0] V slices_S4x16x512x2048_S1x16x512x2048_0_0_0_0) shapeCasts_S1x16x512x2048_S16x512x2048)) bitsLt_bf16_f32

theorem out_at (X : FVec Ideal S20736x2048 .bf16) (T : IVec S81 32) (n : IVec S1 32) (W : FVec Ideal S4x16x2048x1024 .f32) (V : FVec Ideal S4x16x512x2048 .f32) (r : Fin 20736) (d : Fin 2048) :
    out X T n W V (ix2 r d) = ∑ e : Fin 16, ∑ f : Fin 512, mid X W T n (ix3 r e f) * V (ix4 0 e f d) := by
  pointwise [out]

/-- The reference's result at a row and a column: the row through its tile's expert, zero if the tile is not in use. -/
theorem out_eq (X : FVec Ideal S20736x2048 .bf16) (T : IVec S81 32) (n : IVec S1 32) (W : FVec Ideal S4x16x2048x1024 .f32) (V : FVec Ideal S4x16x512x2048 .f32)
    (r : Fin 20736) (d : Fin 2048) (e : Fin 16) (he : (T (ix1 ⟨r.val / 256, by omega⟩)).toNat = e.val) :
    out X T n W V (ix2 r d)
      = if (BitVec.ofNat 32 (r.val / 256)).slt (n (ix1 0)) = true then
          mlp (fun k => X (ix2 r k)) (fun k j => W (ix4 0 e k j)) (fun f => V (ix4 0 e f d))
        else 0 := by
  rw [out_at]
  simp only [mid_at, gateR_at, gateT_at]
  by_cases h : (BitVec.ofNat 32 (r.val / 256)).slt (n (ix1 0)) = true
  · simp only [if_pos h, mul_one]
    refine (gated (fun e' => if T (ix1 ⟨r.val / 256, by omega⟩) = BitVec.ofNat 32 e'.val then 1 else 0) e ?_ ?_
      (fun e' f => act (fun j => hid X W (ix3 r e' j)) f) (fun e' f => V (ix4 0 e' f d))).trans ?_
    · exact if_pos (BitVec.eq_of_toNat_eq (by rw [he, BitVec.toNat_ofNat]; have := e.isLt; omega))
    · intro e' hne
      refine if_neg fun hc => hne (Fin.ext ?_)
      rw [← he, hc, BitVec.toNat_ofNat]; have := e'.isLt; omega
    · unfold mlp
      simp only [hid_at]
  · simp only [if_neg h, mul_zero, zero_mul, Finset.sum_const_zero]

theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun r h c => ⟨(h c).1.trans rfl, (h c).2⟩) (Cert.Reference2Ideal.Value.run (F := Ideal) m ρ)

end Cert.Reference2Ideal.Exp

end
-- ==== Proof.ExpEq.lean ====
module

public import proofs.«01_k».proof.Proof.ExpPre
public import proofs.«01_k».proof.Proof.ExpVal
public import proofs.«01_k».proof.Proof.ExpRef

/-! # The experts' kernel computes the reference's experts -/

@[expose] public section

set_option maxRecDepth 16384

noncomputable section

namespace Cert.ExpEq

open Idealize.ShloMosaic Idealize.ShloMosaic.StableHlo Idealize.ShloMosaic.TcCoe Idealize.SL.Sem

instance : Cert.Reference2Ideal.Facts := Cert.Reference2Ideal.Gen.facts

theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
theorem frame_ri_pre : Cert.quiescent_Reference2Ideal_pre_expert_ids := fun m ρ _ => frame_ri m ρ trivial

/-- The experts' result of a launched memory. -/
abbrev GK (m : (ℓ : Loc Cert.Kernel2Ideal.nD Cert.Kernel2Ideal.τ Cert.Kernel2Ideal.sig) → Buf (Elt Ideal) ℓ) (c : Dev Cert.Kernel2Ideal.nD) : FVec Ideal Cert.Kernel2Ideal.S20736x2048 .bf16 :=
  Cert.Kernel2Ideal.Exp.G (Cert.Kernel2Ideal.Exp.Xa m c) (Cert.Kernel2Ideal.Exp.Te m c) (Cert.Kernel2Ideal.Exp.Nv m c Cert.Kernel2Ideal.Exp.at1)
    (Cert.Kernel2Ideal.Exp.Wi m c) (Cert.Kernel2Ideal.Exp.Wo m c)

/-- The kernel's run, its result in closed form. -/
theorem run_kernel (m : (ℓ : Loc Cert.Kernel2Ideal.nD Cert.Kernel2Ideal.τ Cert.Kernel2Ideal.sig) → Buf (Elt Ideal) ℓ) (g : Dev Cert.Kernel2Ideal.nD → PrngReg)
    (hpre : Cert.Pre_Kernel2Ideal m) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v0) = GK m c
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)) := by
  refine (θ_run Cert.Kernel2Ideal.defs _ _).mono (fun r h c => ⟨?_, h.1.1 c⟩)
    (Cert.Kernel2Ideal.Exp.frame (Cert.Kernel2Ideal.Exp.adm m hpre) m g (Cert.Kernel2Ideal.Exp.tables_at m))
  refine (h.2 c).trans ((Cert.Kernel2Ideal.Exp.final3 (Cert.Kernel2Ideal.Exp.adm m hpre) m g (Cert.Kernel2Ideal.Exp.ids m hpre Cert.Kernel2Ideal.Exp.d0) c).trans ?_)
  rw [Cert.Kernel2Ideal.Exp.dev_eq c]
  exact congrArg (fun n => Cert.Kernel2Ideal.Exp.G _ _ n _ _) (Cert.Kernel2Ideal.Exp.count_eq _)

theorem rows (m : (ℓ : Loc Cert.Kernel2Ideal.nD Cert.Kernel2Ideal.τ Cert.Kernel2Ideal.sig) → Buf (Elt Ideal) ℓ) (hpre : Cert.Pre_Kernel2Ideal m) (c : Dev Cert.Kernel2Ideal.nD) :
    Cert.Reference2Ideal.Exp.out (Cert.Kernel2Ideal.Exp.Xa m c) (Cert.Kernel2Ideal.Exp.Te m c) (Cert.Kernel2Ideal.Exp.Nv m c)
      (Cert.Kernel2Ideal.Exp.Wi m c) (Cert.Kernel2Ideal.Exp.Wo m c) = GK m c := by
  funext y
  idx_vars y
  have hlt := Cert.Kernel2Ideal.Exp.ids m hpre c (ix1 ⟨y0.val / 256, by omega⟩)
  refine (Cert.Reference2Ideal.Exp.out_eq _ _ _ _ _ y0 y1 ⟨(Cert.Kernel2Ideal.Exp.Te m c (ix1 ⟨y0.val / 256, by omega⟩)).toNat % 16, Nat.mod_lt _ (by omega)⟩ (Nat.mod_eq_of_lt hlt).symm).trans ?_
  unfold GK Cert.Kernel2Ideal.Exp.G
  have hn : (ix1 (0 : Fin 1) : Cert.Kernel2Ideal.S1.Idx) = Cert.Kernel2Ideal.Exp.at1 := by
    funext b
    rw [show b = (0 : Fin 1) from Subsingleton.elim (α := Fin 1) _ _]
    exact Subsingleton.elim (α := Fin 1) _ _
  have ht : (ix1 (⟨y0.val / 256, by omega⟩ : Fin 81) : Cert.Kernel2Ideal.S81.Idx) = Cert.Kernel2Ideal.Exp.at81 (y0.val / 256) (by omega) := by
    funext b
    rw [show b = (0 : Fin 1) from Subsingleton.elim (α := Fin 1) _ _]
    rfl
  rw [hn]
  simp only [ht]
  rfl

theorem equal : Cert.algebraic_Kernel2Ideal_Reference2Ideal := by
  intro m g m' g' hpre hagree
  refine ⟨fun c => GK m c, run_kernel m g hpre, ?_⟩
  refine (θ_run Cert.Reference2Ideal.defs _ _).mono (fun r h c => ?_) (Cert.Reference2Ideal.Exp.run_out m' g')
  refine ⟨(h c).1.trans (Eq.trans ?_ (rows m hpre c)), (h c).2⟩
  obtain ⟨e0, e1, e2, e3, e4⟩ := hagree c
  rw [e0, e1, e2, e3, e4]

end Cert.ExpEq

end
-- ==== Proof.BitExpBody.lean ====
module

public import proofs.«01_k».proof.Proof.Gen.Kernel2.Skeleton
public import proofs.«01_k».proof.Proof.Gen.Kernel2.Launch
public import Idealize.ShloMosaic.Lib.Pipeline.Kit
public import Idealize.ShloMosaic.Lib.Pipeline.FrameBody
public import Idealize.ShloMosaic.Lib.Writes
public import Idealize.ShloMosaic.Lib.Exec
public import Idealize.ShloMosaic.Lib.Affine
public import Idealize.ShloMosaic.Lib.Tactic
public import Idealize.ShloMosaic.Lib.WritesUnit
public import Idealize.ShloMosaic.Lib.VecWindow
public import Idealize.ShloMosaic.Lib.WholeRead
public import Idealize.ShloMosaic.PureOps.BitExact

/-! # The experts' body, by what it decides from the tables -/

@[expose] public section

set_option maxRecDepth 16384

noncomputable section

namespace Cert.Kernel2.Exp

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (UR sig nD τ) ℕ

/-- The two tables and the two scratch buffers, whole. -/
abbrev teM : Memref sig .tc .smem S81 .i32 := Memref.whole main_arg1
abbrev nvM : Memref sig .tc .smem S1 .i32 := Memref.whole main_arg2
abbrev wiM : Memref sig .tc .vmem S2048x1024 .bf16 := Memref.whole cc0_scratch0
abbrev woM : Memref sig .tc .vmem S512x2048 .bf16 := Memref.whole cc0_scratch1

/-- The words the body reads: its tile's expert, the expert of the tile before, the count of tiles in use. -/
abbrev wHere (i : grid0.Coords) (T0 : S81.Idx → Elt Bits .i32) : BitVec 32 :=
  View.readAt (Elt Bits) teM.view (Rect.unit (s := S81) (k0_off1 i) S1.size (k0_off1_inb i)).toLoadRect T0 (Shape.Idx.first (numel1_S1.symm ▸ Nat.one_pos))
abbrev wBefore (i : grid0.Coords) (T0 : S81.Idx → Elt Bits .i32) : BitVec 32 :=
  View.readAt (Elt Bits) teM.view (Rect.unit (s := S81) (k0_off2 i) S1.size (k0_off2_inb i)).toLoadRect T0 (Shape.Idx.first (numel1_S1.symm ▸ Nat.one_pos))
abbrev wCount (T1 : S1.Idx → Elt Bits .i32) : BitVec 32 :=
  View.readAt (Elt Bits) nvM.view (Rect.unit (s := S1) ![0] S1.size inb_S1_S1_0).toLoadRect T1 (Shape.Idx.first (numel1_S1.symm ▸ Nat.one_pos))

/-- The tile is in use and its expert is not the one before it. -/
abbrev freshC (i : grid0.Coords) (T0 : S81.Idx → Elt Bits .i32) (T1 : S1.Idx → Elt Bits .i32) : Prop :=
  Scalar.cmpi .ne (Scalar.extui (Scalar.andi (Scalar.cmpi .slt (BitVec.ofNat 32 (i 0).val) (wCount T1)) (Scalar.ori (Scalar.cmpi .eq (BitVec.ofNat 32 (i 0).val) 0#32) (Scalar.cmpi .ne (wHere i T0) (wBefore i T0))))) 0#32 = 1#1

/-- What the body is handed: the row tile, the expert's weights, the tables, the result's buffer, the weights kept. -/
abbrev Pre (c : Dev nD) (arg3 : Memref sig .tc .vmem S256x2048 .bf16) (arg4 : Memref sig .tc .vmem S1x1x2048x1024 .f32) (arg5 : Memref sig .tc .vmem S1x1x512x2048 .f32) (T0 : S81.Idx → Elt Bits .i32) (T1 : S1.Idx → Elt Bits .i32)
    (x : Vec Bits S256x2048 .bf16) (wi : Vec Bits S1x1x2048x1024 .f32) (wo : Vec Bits S1x1x512x2048 .f32) (R : sProp 𝕄) : sProp 𝕄 :=
  iprop(owns (c : Thread nD τ) arg3 fullShare x ∗ owns (c : Thread nD τ) arg4 fullShare wi ∗ owns (c : Thread nD τ) arg5 fullShare wo
    ∗ (teM.view.loc (c : Thread nD τ) ↦{fullShare.right} T0) ∗ (nvM.view.loc (c : Thread nD τ) ↦{fullShare.right} T1) ∗ R)

set_option maxHeartbeats 1000000 in
/-- A tile in use at a new expert: the weights are kept, and the tile's result is of them. -/
theorem bodyNew (c : Dev nD) (i : grid0.Coords) (arg3 : Memref sig .tc .vmem S256x2048 .bf16) (harg3 : arg3.IsWhole) (arg4 : Memref sig .tc .vmem S1x1x2048x1024 .f32) (harg4 : arg4.IsWhole) (arg5 : Memref sig .tc .vmem S1x1x512x2048 .f32) (harg5 : arg5.IsWhole) (arg6 : Memref sig .tc .vmem S256x2048 .bf16) (harg6 : arg6.IsWhole) (T0 : S81.Idx → Elt Bits .i32) (T1 : S1.Idx → Elt Bits .i32)
    (x : Vec Bits S256x2048 .bf16) (wi : Vec Bits S1x1x2048x1024 .f32) (wo : Vec Bits S1x1x512x2048 .f32)
    (hc0 : freshC i T0 T1) (k0_h2 : k0_cond2 i (wCount T1) = 1#1) (k0_h3 : ¬(k0_cond3 i (wCount T1) = 1#1)) (K : PUnit → sProp 𝕄) :
    iprop(Pre c arg3 arg4 arg5 T0 T1 x wi wo iprop((∃ d, owns (c : Thread nD τ) arg6 fullShare d) ∗ (∃ d, owns (c : Thread nD τ) wiM fullShare d) ∗ (∃ d, owns (c : Thread nD τ) woM fullShare d))
        ∗ (iprop(Pre c arg3 arg4 arg5 T0 T1 x wi wo iprop(owns (c : Thread nD τ) arg6 fullShare (k0_pay3 x (k0_pay1 wi) (k0_pay2 wo)) ∗ owns (c : Thread nD τ) wiM fullShare (k0_pay1 wi) ∗ owns (c : Thread nD τ) woM fullShare (k0_pay2 wo))) -∗ K ⟨⟩))
      ⊢ wp frame (wpE (defs₀ (F := Bits)) Variants.none c none) Set.univ (cc0_experts i teM (Memref.isWhole_whole _) nvM (Memref.isWhole_whole _) arg3 harg3 arg4 harg4 arg5 harg5 arg6 harg6 wiM (Memref.isWhole_whole _) woM (Memref.isWhole_whole _)) K := by
  have e3 : ∀ x : Vec Bits S256x2048 .bf16, View.readAt (Elt Bits) arg3.view (Rect.unit (s := S256x2048) ![0, 0] S256x2048.size inb_S256x2048_S256x2048_0_0).toLoadRect (harg3.unread x) = x := fun x => (View.readAt_full _ _ _).trans (harg3.read_unread x)
  have e4 : ∀ x : Vec Bits S1x1x2048x1024 .f32, View.readAt (Elt Bits) arg4.view (Rect.unit (s := S1x1x2048x1024) ![0, 0, 0, 0] S1x1x2048x1024.size inb_S1x1x2048x1024_S1x1x2048x1024_0_0_0_0).toLoadRect (harg4.unread x) = x := fun x => (View.readAt_full _ _ _).trans (harg4.read_unread x)
  have e5 : ∀ x : Vec Bits S1x1x512x2048 .f32, View.readAt (Elt Bits) arg5.view (Rect.unit (s := S1x1x512x2048) ![0, 0, 0, 0] S1x1x512x2048.size inb_S1x1x512x2048_S1x1x512x2048_0_0_0_0).toLoadRect (harg5.unread x) = x := fun x => (View.readAt_full _ _ _).trans (harg5.read_unread x)
  unfold Pre owns
  rw [cc0_experts_eq_skeleton]; unfold cc0_experts_skel
  iintro ⟨⟨⟨%f0, %hf0, H0⟩, ⟨%f1, %hf1, H1⟩, ⟨%f2, %hf2, H2⟩, HT0, HT1, ⟨%d3, %f3, -, HO⟩, ⟨%d4, %f4, -, HS0⟩, ⟨%d5, %f5, -, HS1⟩⟩, Hk⟩
  obtain rfl := harg3.eq_unread hf0; obtain rfl := harg4.eq_unread hf1; obtain rfl := harg5.eq_unread hf2
  have hS0 : wiM.IsWhole := Memref.isWhole_whole _
  have hS1 : woM.IsWhole := Memref.isWhole_whole _
  have hT0 : teM.IsWhole := Memref.isWhole_whole _
  have hT1 : nvM.IsWhole := Memref.isWhole_whole _
  sl_exec! (disch := first | (guard_target = Scalar.cmpi = _; exact hc0) | (guard_target = k0_cond2 _ _ = _; exact k0_h2) | (guard_target = ¬(k0_cond3 _ _ = _); exact k0_h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HT0]; · iexact HT0
  isplitl [HT1]; · iexact HT1
  isplitl [HO]
  · iexists _; isplitr
    swap; · iexact HO
    ipureintro
    refine (View.read_writes_full _ _ _ _ _).trans ?_
    unfold bodyNew.sl.v23 bodyNew.sl.v31
    exact congrArg₂ (k0_pay3 x) ((View.readAt_full _ _ _).trans (View.read_writes_full _ _ _ _ _)) ((View.readAt_full _ _ _).trans (View.read_writes_full _ _ _ _ _))
  isplitl [HS0]
  · iexists _; isplitr
    swap; · iexact HS0
    ipureintro
    exact View.read_writes_full _ _ _ _ _
  iexists _; isplitr
  swap; · iexact HS1
  ipureintro
  exact View.read_writes_full _ _ _ _ _

set_option maxHeartbeats 1000000 in
/-- A tile in use at the expert of the tile before: its result is of the weights kept. -/
theorem bodySame (c : Dev nD) (i : grid0.Coords) (arg3 : Memref sig .tc .vmem S256x2048 .bf16) (harg3 : arg3.IsWhole) (arg4 : Memref sig .tc .vmem S1x1x2048x1024 .f32) (harg4 : arg4.IsWhole) (arg5 : Memref sig .tc .vmem S1x1x512x2048 .f32) (harg5 : arg5.IsWhole) (arg6 : Memref sig .tc .vmem S256x2048 .bf16) (harg6 : arg6.IsWhole) (T0 : S81.Idx → Elt Bits .i32) (T1 : S1.Idx → Elt Bits .i32)
    (x : Vec Bits S256x2048 .bf16) (wi : Vec Bits S1x1x2048x1024 .f32) (wo : Vec Bits S1x1x512x2048 .f32)
    (vi : Vec Bits S2048x1024 .bf16) (vo : Vec Bits S512x2048 .bf16) (hc0 : ¬(freshC i T0 T1)) (k0_h2 : k0_cond2 i (wCount T1) = 1#1) (k0_h3 : ¬(k0_cond3 i (wCount T1) = 1#1)) (K : PUnit → sProp 𝕄) :
    iprop(Pre c arg3 arg4 arg5 T0 T1 x wi wo iprop((∃ d, owns (c : Thread nD τ) arg6 fullShare d) ∗ owns (c : Thread nD τ) wiM fullShare vi ∗ owns (c : Thread nD τ) woM fullShare vo)
        ∗ (iprop(Pre c arg3 arg4 arg5 T0 T1 x wi wo iprop(owns (c : Thread nD τ) arg6 fullShare (k0_pay3 x vi vo) ∗ owns (c : Thread nD τ) wiM fullShare vi ∗ owns (c : Thread nD τ) woM fullShare vo)) -∗ K ⟨⟩))
      ⊢ wp frame (wpE (defs₀ (F := Bits)) Variants.none c none) Set.univ (cc0_experts i teM (Memref.isWhole_whole _) nvM (Memref.isWhole_whole _) arg3 harg3 arg4 harg4 arg5 harg5 arg6 harg6 wiM (Memref.isWhole_whole _) woM (Memref.isWhole_whole _)) K := by
  have e3 : ∀ x : Vec Bits S256x2048 .bf16, View.readAt (Elt Bits) arg3.view (Rect.unit (s := S256x2048) ![0, 0] S256x2048.size inb_S256x2048_S256x2048_0_0).toLoadRect (harg3.unread x) = x := fun x => (View.readAt_full _ _ _).trans (harg3.read_unread x)
  have e4 : ∀ x : Vec Bits S1x1x2048x1024 .f32, View.readAt (Elt Bits) arg4.view (Rect.unit (s := S1x1x2048x1024) ![0, 0, 0, 0] S1x1x2048x1024.size inb_S1x1x2048x1024_S1x1x2048x1024_0_0_0_0).toLoadRect (harg4.unread x) = x := fun x => (View.readAt_full _ _ _).trans (harg4.read_unread x)
  have e5 : ∀ x : Vec Bits S1x1x512x2048 .f32, View.readAt (Elt Bits) arg5.view (Rect.unit (s := S1x1x512x2048) ![0, 0, 0, 0] S1x1x512x2048.size inb_S1x1x512x2048_S1x1x512x2048_0_0_0_0).toLoadRect (harg5.unread x) = x := fun x => (View.readAt_full _ _ _).trans (harg5.read_unread x)
  unfold Pre owns
  rw [cc0_experts_eq_skeleton]; unfold cc0_experts_skel
  iintro ⟨⟨⟨%f0, %hf0, H0⟩, ⟨%f1, %hf1, H1⟩, ⟨%f2, %hf2, H2⟩, HT0, HT1, ⟨%d3, %f3, -, HO⟩, ⟨%f4, %hf4, HS0⟩, ⟨%f5, %hf5, HS1⟩⟩, Hk⟩
  obtain rfl := harg3.eq_unread hf0; obtain rfl := harg4.eq_unread hf1; obtain rfl := harg5.eq_unread hf2
  have hS0 : wiM.IsWhole := Memref.isWhole_whole _
  have hS1 : woM.IsWhole := Memref.isWhole_whole _
  have hT0 : teM.IsWhole := Memref.isWhole_whole _
  have hT1 : nvM.IsWhole := Memref.isWhole_whole _
  obtain rfl := hS0.eq_unread hf4; obtain rfl := hS1.eq_unread hf5
  sl_exec! (disch := first | (guard_target = ¬(Scalar.cmpi = _); exact hc0) | (guard_target = k0_cond2 _ _ = _; exact k0_h2) | (guard_target = ¬(k0_cond3 _ _ = _); exact k0_h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HT0]; · iexact HT0
  isplitl [HT1]; · iexact HT1
  isplitl [HO]
  · iexists _; isplitr
    swap; · iexact HO
    ipureintro
    refine (View.read_writes_full _ _ _ _ _).trans ?_
    exact congrArg₂ (k0_pay3 x) ((View.readAt_full _ _ _).trans (hS0.read_unread _)) ((View.readAt_full _ _ _).trans (hS1.read_unread _))
  isplitl [HS0]
  · iexists _; isplitr
    swap; · iexact HS0
    ipureintro
    exact hS0.read_unread _
  iexists _; isplitr
  swap; · iexact HS1
  ipureintro
  exact hS1.read_unread _

set_option maxHeartbeats 1000000 in
/-- A tile not in use: zeros. -/
theorem bodyIdle (c : Dev nD) (i : grid0.Coords) (arg3 : Memref sig .tc .vmem S256x2048 .bf16) (harg3 : arg3.IsWhole) (arg4 : Memref sig .tc .vmem S1x1x2048x1024 .f32) (harg4 : arg4.IsWhole) (arg5 : Memref sig .tc .vmem S1x1x512x2048 .f32) (harg5 : arg5.IsWhole) (arg6 : Memref sig .tc .vmem S256x2048 .bf16) (harg6 : arg6.IsWhole) (T0 : S81.Idx → Elt Bits .i32) (T1 : S1.Idx → Elt Bits .i32)
    (x : Vec Bits S256x2048 .bf16) (wi : Vec Bits S1x1x2048x1024 .f32) (wo : Vec Bits S1x1x512x2048 .f32)
    (vi : Vec Bits S2048x1024 .bf16) (vo : Vec Bits S512x2048 .bf16) (hc0 : ¬(freshC i T0 T1)) (k0_h2 : ¬(k0_cond2 i (wCount T1) = 1#1)) (k0_h3 : k0_cond3 i (wCount T1) = 1#1) (K : PUnit → sProp 𝕄) :
    iprop(Pre c arg3 arg4 arg5 T0 T1 x wi wo iprop((∃ d, owns (c : Thread nD τ) arg6 fullShare d) ∗ owns (c : Thread nD τ) wiM fullShare vi ∗ owns (c : Thread nD τ) woM fullShare vo)
        ∗ (iprop(Pre c arg3 arg4 arg5 T0 T1 x wi wo iprop(owns (c : Thread nD τ) arg6 fullShare (k0_pay4 (F := Bits)) ∗ owns (c : Thread nD τ) wiM fullShare vi ∗ owns (c : Thread nD τ) woM fullShare vo)) -∗ K ⟨⟩))
      ⊢ wp frame (wpE (defs₀ (F := Bits)) Variants.none c none) Set.univ (cc0_experts i teM (Memref.isWhole_whole _) nvM (Memref.isWhole_whole _) arg3 harg3 arg4 harg4 arg5 harg5 arg6 harg6 wiM (Memref.isWhole_whole _) woM (Memref.isWhole_whole _)) K := by
  have e3 : ∀ x : Vec Bits S256x2048 .bf16, View.readAt (Elt Bits) arg3.view (Rect.unit (s := S256x2048) ![0, 0] S256x2048.size inb_S256x2048_S256x2048_0_0).toLoadRect (harg3.unread x) = x := fun x => (View.readAt_full _ _ _).trans (harg3.read_unread x)
  have e4 : ∀ x : Vec Bits S1x1x2048x1024 .f32, View.readAt (Elt Bits) arg4.view (Rect.unit (s := S1x1x2048x1024) ![0, 0, 0, 0] S1x1x2048x1024.size inb_S1x1x2048x1024_S1x1x2048x1024_0_0_0_0).toLoadRect (harg4.unread x) = x := fun x => (View.readAt_full _ _ _).trans (harg4.read_unread x)
  have e5 : ∀ x : Vec Bits S1x1x512x2048 .f32, View.readAt (Elt Bits) arg5.view (Rect.unit (s := S1x1x512x2048) ![0, 0, 0, 0] S1x1x512x2048.size inb_S1x1x512x2048_S1x1x512x2048_0_0_0_0).toLoadRect (harg5.unread x) = x := fun x => (View.readAt_full _ _ _).trans (harg5.read_unread x)
  unfold Pre owns
  rw [cc0_experts_eq_skeleton]; unfold cc0_experts_skel
  iintro ⟨⟨⟨%f0, %hf0, H0⟩, ⟨%f1, %hf1, H1⟩, ⟨%f2, %hf2, H2⟩, HT0, HT1, ⟨%d3, %f3, -, HO⟩, ⟨%f4, %hf4, HS0⟩, ⟨%f5, %hf5, HS1⟩⟩, Hk⟩
  obtain rfl := harg3.eq_unread hf0; obtain rfl := harg4.eq_unread hf1; obtain rfl := harg5.eq_unread hf2
  have hS0 : wiM.IsWhole := Memref.isWhole_whole _
  have hS1 : woM.IsWhole := Memref.isWhole_whole _
  have hT0 : teM.IsWhole := Memref.isWhole_whole _
  have hT1 : nvM.IsWhole := Memref.isWhole_whole _
  obtain rfl := hS0.eq_unread hf4; obtain rfl := hS1.eq_unread hf5
  sl_exec! (disch := first | (guard_target = ¬(Scalar.cmpi = _); exact hc0) | (guard_target = ¬(k0_cond2 _ _ = _); exact k0_h2) | (guard_target = k0_cond3 _ _ = _; exact k0_h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HT0]; · iexact HT0
  isplitl [HT1]; · iexact HT1
  isplitl [HO]
  · iexists _; isplitr
    swap; · iexact HO
    ipureintro
    exact View.read_writes_full _ _ _ _ _
  isplitl [HS0]
  · iexists _; isplitr
    swap; · iexact HS0
    ipureintro
    exact hS0.read_unread _
  iexists _; isplitr
  swap; · iexact HS1
  ipureintro
  exact hS1.read_unread _

end Cert.Kernel2.Exp

end
-- ==== Proof.BitExpWord.lean ====
module

public import proofs.«01_k».proof.Proof.BitExpBody

/-! # The experts' decisions as facts of the tables -/

@[expose] public section

set_option maxRecDepth 16384

noncomputable section

namespace Cert.Kernel2.Exp

open Cert.Kernel2 Cert.Kernel2.Gen
open Idealize.ShloMosaic Idealize.ShloMosaic.TcCoe

/-- Tile `k` is in use. -/
def inUse (k : ℕ) (n : BitVec 32) : Prop := (BitVec.ofNat 32 k).slt n = true
instance (k : ℕ) (n : BitVec 32) : Decidable (inUse k n) := inferInstanceAs (Decidable (_ = _))

theorem ofBool_one (b : Bool) : BitVec.ofBool b = 1#1 ↔ b = true := by cases b <;> decide
theorem guard_one (b : Bool) : Scalar.cmpi .ne (Scalar.extui (BitVec.ofBool b)) 0#32 = 1#1 ↔ b = true := by cases b <;> decide
theorem and_bool (p q : Bool) : Scalar.andi (BitVec.ofBool p) (BitVec.ofBool q) = BitVec.ofBool (p && q) := by cases p <;> cases q <;> decide
theorem or_bool (p q : Bool) : Scalar.ori (BitVec.ofBool p) (BitVec.ofBool q) = BitVec.ofBool (p || q) := by cases p <;> cases q <;> decide

theorem inUse_pred {k : ℕ} {n : BitVec 32} (hk : k < 81) (h : inUse k n) : inUse (k - 1) n := by
  unfold inUse at h ⊢
  rw [BitVec.slt_iff_toInt_lt] at h ⊢
  have e : ∀ j, j < 81 → (BitVec.ofNat 32 j).toInt = j := fun j hj => by
    rw [BitVec.toInt_eq_toNat_of_lt (by rw [BitVec.toNat_ofNat]; omega), BitVec.toNat_ofNat]; omega
  rw [e k hk] at h; rw [e (k - 1) (by omega)]; omega

theorem cond2_iff (i : grid0.Coords) (n : BitVec 32) : k0_cond2 i n = 1#1 ↔ inUse (i 0).val n := guard_one _
theorem cond3_iff (i : grid0.Coords) (n : BitVec 32) : k0_cond3 i n = 1#1 ↔ ¬inUse (i 0).val n := by
  refine (guard_one _).trans ?_
  unfold inUse
  show n.sle (BitVec.ofNat 32 (i 0).val) = true ↔ _
  rw [BitVec.slt_iff_toInt_lt, BitVec.sle_iff_toInt_le, not_lt]

theorem fresh_iff (i : grid0.Coords) (T0 : S81.Idx → Elt Bits .i32) (T1 : S1.Idx → Elt Bits .i32) :
    freshC i T0 T1 ↔ inUse (i 0).val (wCount T1) ∧ ((i 0).val = 0 ∨ wHere i T0 ≠ wBefore i T0) := by
  unfold freshC
  generalize wHere i T0 = a
  generalize wBefore i T0 = b
  generalize wCount T1 = n
  have h81 : (i 0).val < 81 := (i 0).isLt
  rw [show Scalar.cmpi .slt (BitVec.ofNat 32 (i 0).val) n = BitVec.ofBool ((BitVec.ofNat 32 (i 0).val).slt n) from rfl,
    show Scalar.cmpi .eq (BitVec.ofNat 32 (i 0).val) 0#32 = BitVec.ofBool (BitVec.ofNat 32 (i 0).val == 0#32) from rfl,
    show Scalar.cmpi .ne a b = BitVec.ofBool (a != b) from rfl, or_bool, and_bool, guard_one]
  have e : BitVec.ofNat 32 (i 0).val = 0#32 ↔ (i 0).val = 0 := by
    constructor
    · intro h
      have := congrArg BitVec.toNat h
      simp only [BitVec.toNat_ofNat] at this
      omega
    · intro h; rw [h]
  unfold inUse
  simp [e]

/-- The tables' indices. -/
def at81 (k : ℕ) (h : k < 81) : S81.Idx := fun a => ⟨k, by have ha : a = 0 := Subsingleton.elim (α := Fin 1) _ _; subst ha; exact h⟩
def at1 : S1.Idx := fun a => ⟨0, by have ha : a = 0 := Subsingleton.elim (α := Fin 1) _ _; subst ha; exact Nat.one_pos⟩

theorem here_eq (i : grid0.Coords) (T0 : S81.Idx → Elt Bits .i32) : wHere i T0 = T0 (at81 (i 0).val (i 0).isLt) := by
  have h81 : (i 0).val < 81 := (i 0).isLt
  refine congrArg T0 (funext fun a => Fin.ext ?_)
  have ha : a = 0 := Subsingleton.elim (α := Fin 1) _ _
  subst ha
  have : (BitVec.ofNat 32 (i 0).val).toNat = (i 0).val := by rw [BitVec.toNat_ofNat]; omega
  exact this

theorem before_eq (i : grid0.Coords) (T0 : S81.Idx → Elt Bits .i32) (h0 : (i 0).val ≠ 0) :
    wBefore i T0 = T0 (at81 ((i 0).val - 1) (lt_of_le_of_lt (Nat.sub_le _ _) (i 0).isLt)) := by
  have key : ∀ k : Fin 81, k.val ≠ 0 → (Scalar.maxsi (Scalar.subi (BitVec.ofNat 32 k.val) 1#32) 0#32).toNat = k.val - 1 := by decide +kernel
  refine congrArg T0 (funext fun a => Fin.ext ?_)
  have ha : a = 0 := Subsingleton.elim (α := Fin 1) _ _
  subst ha
  exact key (i 0) h0

theorem count_eq (T1 : S1.Idx → Elt Bits .i32) : wCount T1 = T1 at1 := by
  refine congrArg T1 (funext fun a => Fin.ext (by
    have ha : a = 0 := Subsingleton.elim (α := Fin 1) _ _
    subst ha; rfl))
theorem atD_eq (pf : pre0.Contents (Elt Bits)) : pf.atD 1 ![0] = wCount (pf 1) := by
  refine Eq.trans ?_ (count_eq _).symm
  refine (dif_pos (by decide)).trans ?_
  refine congrArg (pf 1) (funext fun (a : Fin 1) => Fin.ext (by
    have ha : a = 0 := Subsingleton.elim _ _
    subst ha; rfl))

theorem tr1_eq (pf : pre0.Contents (Elt Bits)) (i : grid0.Coords) : cc0_transform_1 k0_off1_inb numel1_S1 pf i = ![0, (wHere i (pf 0)).toNat, 0, 0] := rfl
theorem tr2_eq (pf : pre0.Contents (Elt Bits)) (i : grid0.Coords) : cc0_transform_2 k0_off1_inb numel1_S1 pf i = ![0, (wHere i (pf 0)).toNat, 0, 0] := rfl

/-- Never is a point idle for the result: its tile is in use or it is not. -/
theorem idle_no (pf : pre0.Contents (Elt Bits)) (i : grid0.Coords) : idle0 pf 3 i = false := by
  show (!(k0_cond2 i (pf.atD 1 ![0]) == 1#1) && !(k0_cond3 i (pf.atD 1 ![0]) == 1#1)) = false
  by_cases h : inUse (i 0).val (pf.atD 1 ![0])
  · rw [(cond2_iff _ _).mpr h]; rfl
  · rw [(cond3_iff _ _).mpr h, Bool.and_eq_false_iff]; right; rfl

theorem coords_val : ∀ t : Fin grid0.N, ((grid0.coords t) 0).val = t.val := by decide +kernel

end Cert.Kernel2.Exp

end
-- ==== Proof.BitExpRun.lean ====
module

public import proofs.«01_k».proof.Proof.BitExpWord
public import Idealize.ShloMosaic.Lib.Pipeline.Quiescent
public import Idealize.ShloMosaic.Lib.Claim
public import Idealize.ShloMosaic.Lib.Pipeline.TableIdle
public import Idealize.ShloMosaic.Adequacy
public import Idealize.ShloMosaic.Init

/-! # The experts' call, run at any admissible tables -/

@[expose] public section

set_option maxRecDepth 16384

noncomputable section

namespace Cert.Kernel2.Exp

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

abbrev EP : Emb (UR sig nD τ) 𝕄 := emb₁

variable (a : (pcfg0 (F := Bits)).Adm)
variable (m : (ℓ : Loc nD τ sig) → Buf (Elt Bits) ℓ) (ρ : Dev nD → PrngReg)

abbrev cfgA : Pipeline.Cfg sig Λ₀ := cfg0 (F := Bits) a
abbrev pcs : Fin 1 → Pipeline.Cfg sig Λ₀ := Pipeline.pin (pcfgs (F := Bits)) fun _ => a
abbrev crd (t : Fin (cfgA a).N) : grid0.Coords := grid0.coords t
/-- The tables: each tile's expert, the count of tiles in use. -/
abbrev T0 : S81.Idx → Elt Bits .i32 := a.1 0
abbrev T1 : S1.Idx → Elt Bits .i32 := a.1 1
abbrev cnt : BitVec 32 := wCount (T1 a)

abbrev sg0 (t : Fin (cfgA a).N) : Memref sig .tc .vmem S256x2048 .bf16 := spec0_0.stage ((cfgA a).slots t (0 : Fin 4))
abbrev sw0 (t : Fin (cfgA a).N) : (sg0 a t).IsWhole := hstage0_0 (((cfgA a).slots t (0 : Fin 4)).cast nbuf0_0)
abbrev sg1 (t : Fin (cfgA a).N) : Memref sig .tc .vmem S1x1x2048x1024 .f32 := spec0_1.stage ((cfgA a).slots t (1 : Fin 4))
abbrev sw1 (t : Fin (cfgA a).N) : (sg1 a t).IsWhole := hstage0_1 (((cfgA a).slots t (1 : Fin 4)).cast nbuf0_1)
abbrev sg2 (t : Fin (cfgA a).N) : Memref sig .tc .vmem S1x1x512x2048 .f32 := spec0_2.stage ((cfgA a).slots t (2 : Fin 4))
abbrev sw2 (t : Fin (cfgA a).N) : (sg2 a t).IsWhole := hstage0_2 (((cfgA a).slots t (2 : Fin 4)).cast nbuf0_2)
abbrev sg3 (t : Fin (cfgA a).N) : Memref sig .tc .vmem S256x2048 .bf16 := spec0_3.stage ((cfgA a).slots t (3 : Fin 4))
abbrev sw3 (t : Fin (cfgA a).N) : (sg3 a t).IsWhole := hstage0_3 (((cfgA a).slots t (3 : Fin 4)).cast nbuf0_3)

/-- A window's block at a point, off its array as launched. -/
def iblk (c : Dev nD) (w : Fin (cfgA a).W) (t : Fin (cfgA a).N) : (((cfgA a).win w).xblock (crd a t)).Idx → Elt Bits ((cfgA a).win w).elt :=
  (((cfgA a).win w).blk t).view.read (Elt Bits) ((s₀ m ρ).mem (((cfgA a).win w).arr.view.loc (c : Thread nD τ)))

abbrev xAt (c : Dev nD) (t : Fin (cfgA a).N) : Vec Bits S256x2048 .bf16 := iblk a m ρ c (0 : Fin 4) t
abbrev wiAt (c : Dev nD) (t : Fin (cfgA a).N) : Vec Bits S1x1x2048x1024 .f32 := iblk a m ρ c (1 : Fin 4) t
abbrev woAt (c : Dev nD) (t : Fin (cfgA a).N) : Vec Bits S1x1x512x2048 .f32 := iblk a m ρ c (2 : Fin 4) t

/-- The tile's result. -/
def res (c : Dev nD) (t : Fin (cfgA a).N) : Vec Bits S256x2048 .bf16 :=
  if inUse t.val (cnt a) then k0_pay3 (xAt a m ρ c t) (k0_pay1 (wiAt a m ρ c t)) (k0_pay2 (woAt a m ρ c t)) else k0_pay4 (F := Bits)

/-- Equal experts, equal weights. -/
theorem wi_same (c : Dev nD) (t u : Fin (cfgA a).N) (h : wHere (crd a t) (T0 a) = wHere (crd a u) (T0 a)) : wiAt a m ρ c t = wiAt a m ρ c u := by
  unfold wiAt iblk
  refine funext fun y => congrArg (m ((c : Thread nD τ).loc main_arg3)) (funext fun b => Fin.ext ?_)
  show cc0_transform_1 k0_off1_inb numel1_S1 a.1 (crd a t) b * S1x1x2048x1024.size b + 1 * (y b).val = cc0_transform_1 k0_off1_inb numel1_S1 a.1 (crd a u) b * S1x1x2048x1024.size b + 1 * (y b).val
  have h' : wHere (crd a t) (a.1 0) = wHere (crd a u) (a.1 0) := h
  rw [tr1_eq, tr1_eq, h']
theorem wo_same (c : Dev nD) (t u : Fin (cfgA a).N) (h : wHere (crd a t) (T0 a) = wHere (crd a u) (T0 a)) : woAt a m ρ c t = woAt a m ρ c u := by
  unfold woAt iblk
  refine funext fun y => congrArg (m ((c : Thread nD τ).loc main_arg4)) (funext fun b => Fin.ext ?_)
  show cc0_transform_2 k0_off1_inb numel1_S1 a.1 (crd a t) b * S1x1x512x2048.size b + 1 * (y b).val = cc0_transform_2 k0_off1_inb numel1_S1 a.1 (crd a u) b * S1x1x512x2048.size b + 1 * (y b).val
  have h' : wHere (crd a t) (a.1 0) = wHere (crd a u) (a.1 0) := h
  rw [tr2_eq, tr2_eq, h']

/-- Before point `t` the weights kept are those of the tile before, if that was in use. -/
def kept (c : Dev nD) (n : ℕ) (vi : Vec Bits S2048x1024 .bf16) (vo : Vec Bits S512x2048 .bf16) : Prop :=
  ∀ (h0 : n ≠ 0) (hn : n - 1 < (cfgA a).N), inUse (n - 1) (cnt a) → vi = k0_pay1 (wiAt a m ρ c ⟨n - 1, hn⟩) ∧ vo = k0_pay2 (woAt a m ρ c ⟨n - 1, hn⟩)

def Phi (c : Dev nD) (n : ℕ) : sProp 𝕄 :=
  iprop((∃ a0 a1, ⌜kept a m ρ c n (wiM.view.read (Elt Bits) a0) (woM.view.read (Elt Bits) a1)⌝ ∗ (wiM.view.loc (c : Thread nD τ) ↦{fullShare} a0) ∗ (woM.view.loc (c : Thread nD τ) ↦{fullShare} a1))
    ∗ (teM.view.loc (c : Thread nD τ) ↦{fullShare.right} (T0 a)) ∗ (nvM.view.loc (c : Thread nD τ) ↦{fullShare.right} (T1 a)))

def dats (_ : Fin 1) (c : Dev nD) : Dat τ (Elt Bits) Unit ℕ (UR sig nD τ) ℕ (cfgA a) c where
  A w := (s₀ m ρ).mem (((cfgA a).win w).arr.view.loc (c : Thread nD τ))
  after w t := match w with
    | ⟨0, _⟩ => iblk a m ρ c (0 : Fin 4) t
    | ⟨1, _⟩ => iblk a m ρ c (1 : Fin 4) t
    | ⟨2, _⟩ => iblk a m ρ c (2 : Fin 4) t
    | ⟨3, _⟩ => res a m ρ c t
  Φ t := Phi a m ρ c t.val
  q _ := fullShare
  owed _ := 0

theorem after_0 (c : Dev nD) (t : Fin (cfgA a).N) : (dats a m ρ 0 c).after (0 : Fin 4) t = iblk a m ρ c (0 : Fin 4) t := rfl
theorem after_1 (c : Dev nD) (t : Fin (cfgA a).N) : (dats a m ρ 0 c).after (1 : Fin 4) t = iblk a m ρ c (1 : Fin 4) t := rfl
theorem after_2 (c : Dev nD) (t : Fin (cfgA a).N) : (dats a m ρ 0 c).after (2 : Fin 4) t = iblk a m ρ c (2 : Fin 4) t := rfl
theorem after_3 (c : Dev nD) (t : Fin (cfgA a).N) : (dats a m ρ 0 c).after (3 : Fin 4) t = res a m ρ c t := rfl

theorem before_0 (c : Dev nD) (t : Fin (cfgA a).N) (d) : (dats a m ρ 0 c).before (0 : Fin 4) t d = iblk a m ρ c (0 : Fin 4) t :=
  ((dats a m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m ρ 0 c).before (1 : Fin 4) t d = iblk a m ρ c (1 : Fin 4) t :=
  ((dats a m ρ 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a m ρ 0 c).before (2 : Fin 4) t d = iblk a m ρ c (2 : Fin 4) t :=
  ((dats a m ρ 0 c).before_in_eq_fetched (2 : Fin 4) rfl (fun _ => rfl) (fun _ _ _ => rfl) (fun t => by rw [after_2]; unfold Dat.blockOf iblk; rfl) t d).trans
    (by unfold Dat.fetched Dat.blockOf iblk; rfl)

abbrev bodyAt (t : Fin (cfgA a).N) : Prog (TpuEff nD τ sig (Elt Bits) Λ₀ .tc) PUnit :=
  cc0_experts (crd a t) teM (Memref.isWhole_whole _) nvM (Memref.isWhole_whole _) (sg0 a t) (sw0 a t) (sg1 a t) (sw1 a t) (sg2 a t) (sw2 a t) (sg3 a t) (sw3 a t) wiM (Memref.isWhole_whole _) woM (Memref.isWhole_whole _)

/-- The three bodies as one, with the weights kept. -/
theorem body (c : Dev nD) (t : Fin (cfgA a).N) (vi : Vec Bits S2048x1024 .bf16) (vo : Vec Bits S512x2048 .bf16) (hk : kept a m ρ c t.val vi vo) (K : PUnit → sProp 𝕄) :
    iprop(Pre c (sg0 a t) (sg1 a t) (sg2 a t) (T0 a) (T1 a) (xAt a m ρ c t) (wiAt a m ρ c t) (woAt a m ρ c t)
          iprop((∃ d, owns (c : Thread nD τ) (sg3 a t) fullShare d) ∗ owns (c : Thread nD τ) wiM fullShare vi ∗ owns (c : Thread nD τ) woM fullShare vo)
        ∗ (iprop(∃ ui uo, ⌜kept a m ρ c (t.val + 1) ui uo⌝ ∗ Pre c (sg0 a t) (sg1 a t) (sg2 a t) (T0 a) (T1 a) (xAt a m ρ c t) (wiAt a m ρ c t) (woAt a m ρ c t)
          iprop(owns (c : Thread nD τ) (sg3 a t) fullShare (res a m ρ c t) ∗ owns (c : Thread nD τ) wiM fullShare ui ∗ owns (c : Thread nD τ) woM fullShare uo)) -∗ K ⟨⟩))
      ⊢ wp frame (wpE (defs₀ (F := Bits)) Variants.none c none) Set.univ (bodyAt a t) K := by
  have hv : ((crd a t) 0).val = t.val := coords_val t
  by_cases hu : inUse t.val (cnt a)
  · have h2 : k0_cond2 (crd a t) (wCount (T1 a)) = 1#1 := (cond2_iff _ _).mpr (by rw [hv]; exact hu)
    have h3 : ¬(k0_cond3 (crd a t) (wCount (T1 a)) = 1#1) := fun h => (cond3_iff _ _).mp h (by rw [hv]; exact hu)
    by_cases hf : freshC (crd a t) (T0 a) (T1 a)
    · iintro ⟨⟨H0, H1, H2, HT0, HT1, HO, HS0, HS1⟩, Hk⟩
      iapply (bodyNew c (crd a t) (sg0 a t) (sw0 a t) (sg1 a t) (sw1 a t) (sg2 a t) (sw2 a t) (sg3 a t) (sw3 a t) (T0 a) (T1 a) (xAt a m ρ c t) (wiAt a m ρ c t) (woAt a m ρ c t) hf h2 h3 K)
      isplitr [Hk]
      · unfold Pre
        isplitl [H0]; · iexact H0
        isplitl [H1]; · iexact H1
        isplitl [H2]; · iexact H2
        isplitl [HT0]; · iexact HT0
        isplitl [HT1]; · iexact HT1
        isplitl [HO]; · iexact HO
        isplitl [HS0]; · iexists _; iexact HS0
        iexists _; iexact HS1
      iintro HP
      iapply Hk
      iexists _, _
      isplitr
      swap
      · rw [show res a m ρ c t = _ from if_pos hu]
        iexact HP
      ipureintro
      exact fun _ _ _ => ⟨rfl, rfl⟩
    · have hd := fun h => hf ((fresh_iff _ _ _).mpr ⟨by rw [hv]; exact hu, h⟩)
      rw [hv] at hd
      have h0 : t.val ≠ 0 := fun h => hd (.inl h)
      have hw : wHere (crd a t) (T0 a) = wBefore (crd a t) (T0 a) := not_not.mp fun h => hd (.inr h)
      have hN : t.val - 1 < (cfgA a).N := lt_of_le_of_lt (Nat.sub_le _ _) t.isLt
      have hw' : wHere (crd a ⟨t.val - 1, hN⟩) (T0 a) = wHere (crd a t) (T0 a) := by
        rw [hw, before_eq _ _ (by rw [hv]; exact h0), here_eq]
        congr 1
        have := coords_val ⟨t.val - 1, hN⟩
        unfold at81
        funext b
        exact Fin.ext (this.trans (congrArg (fun n => n - 1) hv.symm))
      obtain ⟨e1, e2⟩ := hk h0 hN (inUse_pred t.isLt hu)
      rw [wi_same a m ρ c _ _ hw'] at e1
      rw [wo_same a m ρ c _ _ hw'] at e2
      iintro ⟨⟨H0, H1, H2, HT0, HT1, HO, HS0, HS1⟩, Hk⟩
      iapply (bodySame c (crd a t) (sg0 a t) (sw0 a t) (sg1 a t) (sw1 a t) (sg2 a t) (sw2 a t) (sg3 a t) (sw3 a t) (T0 a) (T1 a) (xAt a m ρ c t) (wiAt a m ρ c t) (woAt a m ρ c t) vi vo hf h2 h3 K)
      isplitr [Hk]
      · unfold Pre
        isplitl [H0]; · iexact H0
        isplitl [H1]; · iexact H1
        isplitl [H2]; · iexact H2
        isplitl [HT0]; · iexact HT0
        isplitl [HT1]; · iexact HT1
        isplitl [HO]; · iexact HO
        isplitl [HS0]; · iexact HS0
        iexact HS1
      iintro HP
      iapply Hk
      iexists vi, vo
      isplitr
      swap
      · rw [show res a m ρ c t = _ from if_pos hu, ← e1, ← e2]
        iexact HP
      ipureintro
      exact fun _ _ _ => ⟨e1, e2⟩
  · have h2 : ¬(k0_cond2 (crd a t) (wCount (T1 a)) = 1#1) := fun h => hu (by have := (cond2_iff _ _).mp h; rwa [hv] at this)
    have h3 : k0_cond3 (crd a t) (wCount (T1 a)) = 1#1 := (cond3_iff _ _).mpr (by rw [hv]; exact hu)
    have hf : ¬(freshC (crd a t) (T0 a) (T1 a)) := fun h => hu (by have := ((fresh_iff _ _ _).mp h).1; rwa [hv] at this)
    iintro ⟨⟨H0, H1, H2, HT0, HT1, HO, HS0, HS1⟩, Hk⟩
    iapply (bodyIdle c (crd a t) (sg0 a t) (sw0 a t) (sg1 a t) (sw1 a t) (sg2 a t) (sw2 a t) (sg3 a t) (sw3 a t) (T0 a) (T1 a) (xAt a m ρ c t) (wiAt a m ρ c t) (woAt a m ρ c t) vi vo hf h2 h3 K)
    isplitr [Hk]
    · unfold Pre
      isplitl [H0]; · iexact H0
      isplitl [H1]; · iexact H1
      isplitl [H2]; · iexact H2
      isplitl [HT0]; · iexact HT0
      isplitl [HT1]; · iexact HT1
      isplitl [HO]; · iexact HO
      isplitl [HS0]; · iexact HS0
      iexact HS1
    iintro HP
    iapply Hk
    iexists vi, vo
    isplitr
    swap
    · rw [show res a m ρ c t = _ from if_neg hu]
      iexact HP
    ipureintro
    exact fun _ _ h => absurd h hu

/-! ## The obligation and the launch -/

theorem idle_3 (t : Fin (cfgA a).N) : (cfgA a).idle (3 : Fin 4) ((cfgA a).grid.coords t) = false := idle_no a.1 _

theorem own_of {s : Shape} {e : EltTy} (M : Memref sig .tc .vmem s e) (hM : M.IsWhole) (c : Dev nD) (d : BufTy.Contents (Elt Bits) M.view.ty) :
    (M.view.loc (c : Thread nD τ) ↦{fullShare} d : sProp 𝕄) ⊢ owns (c : Thread nD τ) M fullShare (M.view.read (Elt Bits) d) := by
  unfold owns
  rw [hM.set_eq_univ]
  iintro H
  iexists d
  isplitr; · ipureintro; exact Eq.refl _
  iexact H
theorem of_own {s : Shape} {e : EltTy} (M : Memref sig .tc .vmem s e) (hM : M.IsWhole) (c : Dev nD) (v : s.Idx → Elt Bits e) :
    (owns (c : Thread nD τ) M fullShare v : sProp 𝕄) ⊢ iprop(∃ d, ⌜M.view.read (Elt Bits) d = v⌝ ∗ (M.view.loc (c : Thread nD τ) ↦{fullShare} d)) := by
  unfold owns
  rw [hM.set_eq_univ]

theorem sound (c : Dev nD) (t : Fin (cfgA a).N) :
    iprop((dats a m ρ 0 c).Φ t.castSucc ∗ (dats a m ρ 0 c).owesAt () t.castSucc
        ∗ (∃ d, owns (c : Thread nD τ) (sg0 a t) fullShare ((dats a m ρ 0 c).before (0 : Fin 4) t d))
        ∗ (∃ d, owns (c : Thread nD τ) (sg1 a t) fullShare ((dats a m ρ 0 c).before (1 : Fin 4) t d))
        ∗ (∃ d, owns (c : Thread nD τ) (sg2 a t) fullShare ((dats a m ρ 0 c).before (2 : Fin 4) t d))
        ∗ (∃ d, owns (c : Thread nD τ) (sg3 a t) fullShare ((dats a m ρ 0 c).before (3 : Fin 4) t d)))
      ⊢ wp frame (wpE (defs₀ (F := Bits)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [idle_3]
  simp only [before_0, before_1, before_2, after_0, after_1, after_2, after_3]
  rewrite [show (dats a m ρ 0 c).Φ t.succ = Phi a m ρ c (t.val + 1) from rfl, show (dats a m ρ 0 c).Φ t.castSucc = Phi a m ρ c t.val from rfl,
    show (dats a m ρ 0 c).owesAt () t.succ = (dats a m ρ 0 c).owesAt () t.castSucc from rfl]
  unfold Phi
  iintro ⟨⟨⟨%a0, %a1, %hk, HS0, HS1⟩, HT0, HT1⟩, Ho, ⟨%d0, H0⟩, ⟨%d1, H1⟩, ⟨%d2, H2⟩, ⟨%d3, H3⟩⟩
  iapply (body a m ρ c t (wiM.view.read (Elt Bits) a0) (woM.view.read (Elt Bits) a1) hk _)
  isplitr [Ho]
  · isplitl [H0]; · iexact H0
    isplitl [H1]; · iexact H1
    isplitl [H2]; · iexact H2
    isplitl [HT0]; · iexact HT0
    isplitl [HT1]; · iexact HT1
    isplitl [H3]; · iexists _; iexact H3
    isplitl [HS0]; · iapply (own_of wiM (Memref.isWhole_whole _) c a0); iexact HS0
    iapply (own_of woM (Memref.isWhole_whole _) c a1); iexact HS1
  iintro ⟨%ui, %uo, %hk', H0, H1, H2, HT0, HT1, H3, HS0, HS1⟩
  ihave HS0 := (of_own wiM (Memref.isWhole_whole _) c ui) $$ HS0
  ihave HS1 := (of_own woM (Memref.isWhole_whole _) c uo) $$ HS1
  icases HS0 with ⟨%b0, %hb0, HS0⟩
  icases HS1 with ⟨%b1, %hb1, HS1⟩
  subst hb0; subst hb1
  isplitl [HS0 HS1 HT0 HT1]
  · isplitl [HS0 HS1]
    · iexists b0, b1
      isplitr; · ipureintro; exact hk'
      isplitl [HS0]; · iexact HS0
      iexact HS1
    isplitl [HT0]; · iexact HT0
    iexact HT1
  isplitl [Ho]; · iexact Ho
  isplitl [H0]; · iexact H0
  isplitl [H1]; · iexact H1
  isplitl [H2]; · iexact H2
  iexact H3

theorem obligation (c : Dev nD) : BodyObligation (dats a m ρ 0 c) (defs₀ (F := Bits)) Variants.none () Set.univ := fun t => by
  rw [bigSep_W0]
  exact sound a m ρ c t

def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgA a).W) : (dats a m ρ 0 c).share w = fullShare := by unfold Dat.share; split <;> rfl

theorem tables_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem kept_zero (c : Dev nD) (vi : Vec Bits S2048x1024 .bf16) (vo : Vec Bits S512x2048 .bf16) : kept a m ρ c 0 vi vo := fun h => absurd rfl h

theorem phi_in (c : Dev nD) :
    iprop(BI.emp ∗ Pipeline.prefHeld pre0 c (fun _ => fullShare.right) a.1 ∗ Pipeline.scopedRest spec0 c) ⊢ (dats a m ρ 0 c).Φ 0 := by
  rw [tables_eq, scopedRest0_eq, show (dats a m ρ 0 c).Φ 0 = Phi a m ρ c 0 from rfl]
  unfold Phi
  iintro ⟨-, ⟨HT0, HT1⟩, ⟨%a0, HS0⟩, ⟨%a1, HS1⟩⟩
  isplitl [HS0 HS1]
  · iexists a0, a1
    isplitr
    swap
    · isplitl [HS0]; · iexact HS0
      iexact HS1
    ipureintro; exact kept_zero a m ρ c _ _
  isplitl [HT0]
  · iexact HT0
  iexact HT1

theorem phi_out (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (cfgA a).N from rfl]
  unfold Phi
  iintro ⟨⟨%a0, %a1, -, HS0, HS1⟩, -, -⟩
  isplitr; · iempintro
  isplitl [HS0]
  · iexists a0; iexact HS0
  iexists a1; iexact HS1

/-- Every array as computed, every table as it was. -/
def Post : PUnit × MemSt nD τ sig (Elt Bits) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
theorem run (hp : ∀ (c : Dev nD) (j : Fin 2), m ((c : Thread nD τ).loc (pre0.ref j)) = a.1 j) :
    θ_run (defs (F := Bits)) (onTc (τ := τ) (main (F := Bits))) (s₀ m ρ) (fun r => Post a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Bits)).win.arr_inj c (launch0 (F := Bits)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_in a m ρ)
    (hout := phi_out a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were, every semaphore at zero; the result's array is as computed. -/
theorem frame (hp : ∀ (c : Dev nD) (j : Fin 2), m ((c : Thread nD τ).loc (pre0.ref j)) = a.1 j) :
    θ_run (defs (F := Bits)) (onTc (τ := τ) (main (F := Bits))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) ∧ ∀ c : Dev nD, r.2.mem (((cfgA a).win (3 : Fin 4)).arr.view.loc (c : Thread nD τ)) = (dats a m ρ 0 c).arrAt (3 : Fin 4) (cfgA a).N) :=
  (θ_run defs _ _).mono (fun _ h => ⟨⟨fun c => ⟨((h.1 c).1 (0 : Fin 4)).trans ((dats a m ρ 0 c).arrAt_in (0 : Fin 4) rfl _), ((h.1 c).2 0).trans (hp c 0).symm, ((h.1 c).2 1).trans (hp c 1).symm, ((h.1 c).1 (1 : Fin 4)).trans ((dats a m ρ 0 c).arrAt_in (1 : Fin 4) rfl _), ((h.1 c).1 (2 : Fin 4)).trans ((dats a m ρ 0 c).arrAt_in (2 : Fin 4) rfl _)⟩, h.2⟩, fun c => (h.1 c).1 (3 : Fin 4)⟩) (run a m ρ hp)

end Cert.Kernel2.Exp

end
-- ==== Proof.BitExpPre.lean ====
module

public import proofs.«01_k».proof.Proof.BitExpRun
public import proofs.«01_k».proof.Defs
public import proofs.«01_k».proof.Proof.Gen.Pre_expert_ids
public import Idealize.ShloMosaic.Lib.ReduceAll
public import Idealize.ShloMosaic.Lib.WordCmp
public import Idealize.ShloMosaic.PureOps.BitExact

/-! # Tables that name experts admit the experts' call -/

@[expose] public section

set_option maxRecDepth 16384

noncomputable section

namespace Cert.Kernel2.Exp

open Cert.Kernel2 Cert.Kernel2.Gen
open Idealize.ShloMosaic Idealize.ShloMosaic.TcCoe Idealize.SL.Sem
open Idealize.ShloMosaic.StableHlo

instance : Cert.Kernel2.Facts := Cert.Kernel2.Gen.facts
instance : Cert.Pre_expert_ids.Facts := Cert.Pre_expert_ids.Gen.facts
instance : Subsingleton Cert.Pre_expert_ids.S_.Idx := ⟨fun x y => funext fun b => b.elim0⟩

variable (m : (ℓ : Loc nD τ sig) → Buf (Elt Bits) ℓ)

abbrev d0 : Dev nD := ⟨0, by decide⟩
/-- The tables as launched. -/
abbrev Te (c : Dev nD) : S81.Idx → BitVec 32 := m ((c : Thread nD τ).loc main_arg1)
abbrev Nv (c : Dev nD) : S1.Idx → BitVec 32 := m ((c : Thread nD τ).loc main_arg2)

/-- The precondition is that every tile's expert is one of the sixteen. -/
theorem ids (hpre : Cert.Pre_Kernel2 m) (c : Dev nD) (i : S81.Idx) : (Te m c i).toNat < 16 := by
  have h := congrFun (hpre c) (fun b => b.elim0)
  dsimp only [Cert.Pre_expert_ids.fn] at h
  have h1 := Host.reduce_andi_all _ _ _ _ _ h i
  have h2 : IntOp.andi (IntOp.cmpi .sge (Te m c i) 0#32) (IntOp.cmpi .slt (Te m c i) (BitVec.ofNat 32 16)) = 1#1 := h1
  rw [WordCmp.andi_sge_zero_slt_ofNat (by decide)] at h2
  by_contra hn
  rw [decide_eq_false hn] at h2
  exact absurd h2 (by decide)

/-- The tables' contents. -/
def tables : pre0.Contents (Elt Bits) := fun j => m ((d0 : Thread nD τ).loc (pre0.ref j))

theorem dev_eq (c : Dev nD) : c = d0 := by revert c; decide

theorem tables_at (c : Dev nD) (j : Fin 2) : m ((c : Thread nD τ).loc (pre0.ref j)) = tables m j := by
  rw [dev_eq c]; rfl

theorem here_lt (hpre : Cert.Pre_Kernel2 m) (i : grid0.Coords) : (wHere i (tables m 0)).toNat < 16 := by
  have h := ids m hpre d0 (at81 (i 0).val (i 0).isLt)
  have e : wHere i (Te m d0) = Te m d0 (at81 (i 0).val (i 0).isLt) := here_eq i (Te m d0)
  rw [← e] at h
  exact h

theorem admits (hpre : Cert.Pre_Kernel2 m) : ok0 (F := Bits) (tables m) := by
  refine ⟨fun i => ⟨?_, .inl rfl⟩, fun i => ⟨?_, .inl rfl⟩⟩
  · rw [tr1_eq]
    have := here_lt m hpre i
    intro b
    fin_cases b
    · show (0 + 1) * 1 ≤ 4; omega
    · show ((wHere i (tables m 0)).toNat + 1) * 1 ≤ 16; omega
    · show (0 + 1) * 2048 ≤ 2048; omega
    · show (0 + 1) * 1024 ≤ 1024; omega
  · rw [tr2_eq]
    have := here_lt m hpre i
    intro b
    fin_cases b
    · show (0 + 1) * 1 ≤ 4; omega
    · show ((wHere i (tables m 0)).toNat + 1) * 1 ≤ 16; omega
    · show (0 + 1) * 512 ≤ 512; omega
    · show (0 + 1) * 2048 ≤ 2048; omega

/-- The launched tables, admissible. -/
def adm (hpre : Cert.Pre_Kernel2 m) : (pcfg0 (F := Bits)).Adm := ⟨tables m, admits m hpre⟩

theorem frame_all : Cert.quiescent_Kernel2 := fun m g hpre =>
  (θ_run defs _ _).mono (fun r h => h.1) (frame (adm m hpre) m g (tables_at m))

end Cert.Kernel2.Exp

end
-- ==== Proof.InTrip.lean ====
module

public import proofs.«01_k».proof.Proof.Gen.Kernel3Ideal.Loops
public import proofs.«01_k».proof.Proof.Gen.Kernel3Ideal.Launch
public import Idealize.ShloMosaic.Lib.WritesUnit
public import Idealize.ShloMosaic.Lib.VecWindow
public import Idealize.ShloMosaic.Lib.WholeRead

/-! # The two loops of the input projection -/

@[expose] public section

set_option maxRecDepth 16384

noncomputable section

namespace Cert.Kernel3Ideal.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem trips4 : k0_t1_loop.trips = 4 := by decide +kernel
theorem trips2 : k0_t2_loop.trips = 2 := by decide +kernel

theorem inb1 (k : Fin k0_t1_loop.trips) : ∀ a, (k0_off2 k) a + S256x2048.size a ≤ S1024x2048.size a := by
  revert k; decide +kernel
theorem inb3 (k : Fin k0_t2_loop.trips) : ∀ a, (k0_off3 k) a + S512x2048.size a ≤ S1024x2048.size a := by
  revert k; decide +kernel
theorem inb4 (k : Fin k0_t2_loop.trips) : ∀ a, (k0_off4 k) a + S1x512x1024.size a ≤ S1x1024x1024.size a := by
  revert k; decide +kernel

/-- Rows `256 k ..` of a tile. -/
def xRows (x : Vec F S1024x2048 .f32) (k : Fin k0_t1_loop.trips) : Vec F S256x2048 .f32 :=
  fun y => x ((Rect.unit (s := S1024x2048) (k0_off2 k) S256x2048.size (inb1 k)).toLoadRect.idx y)
/-- Rows `512 k ..` of a normalised tile. -/
def hRows (v : Vec F S1024x2048 .bf16) (k : Fin k0_t2_loop.trips) : Vec F S512x2048 .bf16 :=
  fun y => v ((Rect.unit (s := S1024x2048) (k0_off3 k) S512x2048.size (inb3 k)).toLoadRect.idx y)

/-- The pieces of the trips before `k`, last first. -/
def pc1 (g : Vec F S1x2048 .f32) (sh sc : Vec F S1x1x1x2048 .f32) (x : Vec F S1024x2048 .f32) : ℕ → List (View.Piece (Elt F) S1024x2048 .bf16)
  | 0 => []
  | k + 1 => if h : k < k0_t1_loop.trips then ⟨Rect.unit (s := S1024x2048) (k0_off2 ⟨k, h⟩) S256x2048.size (inb1 ⟨k, h⟩), k0_pay1 g sh sc (xRows x ⟨k, h⟩)⟩ :: pc1 g sh sc x k else pc1 g sh sc x k
def pc2 (v : Vec F S1024x2048 .bf16) (w : Vec F S2048x1024 .bf16) : ℕ → List (View.Piece (Elt F) S1x1024x1024 .f32)
  | 0 => []
  | k + 1 => if h : k < k0_t2_loop.trips then ⟨Rect.unit (s := S1x1024x1024) (k0_off4 ⟨k, h⟩) S1x512x1024.size (inb4 ⟨k, h⟩), k0_pay3 (hRows v ⟨k, h⟩) w⟩ :: pc2 v w k else pc2 v w k

theorem pc1_succ (g : Vec F S1x2048 .f32) (sh sc : Vec F S1x1x1x2048 .f32) (x : Vec F S1024x2048 .f32) (k : Fin k0_t1_loop.trips) :
    pc1 g sh sc x (k.val + 1) = ⟨Rect.unit (s := S1024x2048) (k0_off2 k) S256x2048.size (inb1 k), k0_pay1 g sh sc (xRows x k)⟩ :: pc1 g sh sc x k.val := by
  rw [pc1.eq_2]; exact dif_pos k.isLt
theorem pc2_succ (v : Vec F S1024x2048 .bf16) (w : Vec F S2048x1024 .bf16) (k : Fin k0_t2_loop.trips) :
    pc2 v w (k.val + 1) = ⟨Rect.unit (s := S1x1024x1024) (k0_off4 k) S1x512x1024.size (inb4 k), k0_pay3 (hRows v k) w⟩ :: pc2 v w k.val := by
  rw [pc2.eq_2]; exact dif_pos k.isLt

/-! ## One trip of each -/

theorem trip1 (𝒱 : Variants) (c : Dev nD) (bd : Option 𝒱.V) (E : Set ℕ) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x16x2048 .f32) (harg5 : arg5.IsWhole) (arg6 : Memref sig .tc .vmem S1x1x16x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S2048x1024 .bf16) (harg9 : arg9.IsWhole) (arg10 : Memref sig .tc .vmem S1x1024x1024 .f32) (harg10 : arg10.IsWhole) (arg11 : Memref sig .tc .vmem S1x64x1024 .f32) (harg11 : arg11.IsWhole) (arg12 : Memref sig .tc .vmem S1024x2048 .bf16) (harg12 : arg12.IsWhole) (arg13 : Memref sig .tc .vmem S64x2048 .bf16) (harg13 : arg13.IsWhole) (k0_h1 : k0_cond1 i = 1#1) (v33 : Vec F S1x2048 .f32) (v35 : Vec F S1x1x1x2048 .f32) (v38 : Vec F S1x1x1x2048 .f32) (x : Vec F S1024x2048 .f32) (k : Fin k0_t1_loop.trips) (f : BufTy.Contents (Elt F) arg12.view.ty) :
    iprop((arg2.view.loc (c : Thread nD τ) ↦[arg2.view.set]{fullShare} harg2.unread x) ∗ (arg12.view.loc (c : Thread nD τ) ↦[arg12.view.set]{fullShare} f) : sProp 𝕄)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 k0_h1 v33 v35 v38 k PUnit.unit)
          (fun _ => iprop((arg2.view.loc (c : Thread nD τ) ↦[arg2.view.set]{fullShare} harg2.unread x) ∗ (arg12.view.loc (c : Thread nD τ) ↦[arg12.view.set]{fullShare}
            arg12.view.writes (Elt F) f [⟨Rect.unit (s := S1024x2048) (k0_off2 k) S256x2048.size (inb1 k), k0_pay1 v33 v35 v38 (xRows x k)⟩]) : sProp 𝕄)) := by
  have hk : k.val < 4 := Nat.lt_of_lt_of_le k.isLt k0_t1_abs.2.1
  have e2 : ∀ x : Vec F S1024x2048 .f32, View.readAt (Elt F) arg2.view (Rect.unit (s := S1024x2048) (k0_off2 k) S256x2048.size (inb1 k)).toLoadRect (harg2.unread x) = xRows x k := fun x => funext fun y => harg2.readAt_unread x _ y
  unfold k0_t1_body
  iintro ⟨HR, HW⟩
  sl_exec
  sl_step
  clear e2
  isplitl [HR]; · iexact HR
  iexact HW

theorem trip2 (𝒱 : Variants) (c : Dev nD) (bd : Option 𝒱.V) (E : Set ℕ) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x16x2048 .f32) (harg5 : arg5.IsWhole) (arg6 : Memref sig .tc .vmem S1x1x16x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S2048x1024 .bf16) (harg9 : arg9.IsWhole) (arg10 : Memref sig .tc .vmem S1x1024x1024 .f32) (harg10 : arg10.IsWhole) (arg11 : Memref sig .tc .vmem S1x64x1024 .f32) (harg11 : arg11.IsWhole) (arg12 : Memref sig .tc .vmem S1024x2048 .bf16) (harg12 : arg12.IsWhole) (arg13 : Memref sig .tc .vmem S64x2048 .bf16) (harg13 : arg13.IsWhole) (k0_h3 : k0_cond3 i = 1#1) (X : BufTy.Contents (Elt F) arg12.view.ty) (w : Vec F S2048x1024 .bf16) (k : Fin k0_t2_loop.trips) (f : BufTy.Contents (Elt F) arg10.view.ty) :
    iprop((arg12.view.loc (c : Thread nD τ) ↦[arg12.view.set]{fullShare} X) ∗ (arg9.view.loc (c : Thread nD τ) ↦[arg9.view.set]{fullShare} harg9.unread w) ∗ (arg10.view.loc (c : Thread nD τ) ↦[arg10.view.set]{fullShare} f) : sProp 𝕄)
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 k0_h3 k PUnit.unit)
          (fun _ => iprop((arg12.view.loc (c : Thread nD τ) ↦[arg12.view.set]{fullShare} X) ∗ (arg9.view.loc (c : Thread nD τ) ↦[arg9.view.set]{fullShare} harg9.unread w) ∗ (arg10.view.loc (c : Thread nD τ) ↦[arg10.view.set]{fullShare}
            arg10.view.writes (Elt F) f [⟨Rect.unit (s := S1x1024x1024) (k0_off4 k) S1x512x1024.size (inb4 k), k0_pay3 (hRows (arg12.view.read (Elt F) X) k) w⟩]) : sProp 𝕄)) := by
  have hk : k.val < 2 := Nat.lt_of_lt_of_le k.isLt k0_t2_abs.2.1
  have e9 : ∀ x : Vec F S2048x1024 .bf16, View.readAt (Elt F) arg9.view (Rect.unit (s := S2048x1024) ![0, 0] S2048x1024.size inb_S2048x1024_S2048x1024_0_0).toLoadRect (harg9.unread x) = x := fun x => (View.readAt_full _ _ _).trans (harg9.read_unread x)
  have e12 : View.readAt (Elt F) arg12.view (Rect.unit (s := S1024x2048) (k0_off3 k) S512x2048.size (inb3 k)).toLoadRect X = hRows (arg12.view.read (Elt F) X) k := rfl
  unfold k0_t2_body
  iintro ⟨HR12, HR9, HW⟩
  sl_exec
  sl_step
  clear e9 e12
  isplitl [HR12]; · iexact HR12
  isplitl [HR9]; · iexact HR9
  iexact HW

/-! ## The loops by their invariants -/

set_option warn.classDefReducibility false in
@[sl_loop] def loop1 (𝒱 : Variants) (c : Dev nD) (bd : Option 𝒱.V) (E : Set ℕ) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x16x2048 .f32) (harg5 : arg5.IsWhole) (arg6 : Memref sig .tc .vmem S1x1x16x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S2048x1024 .bf16) (harg9 : arg9.IsWhole) (arg10 : Memref sig .tc .vmem S1x1024x1024 .f32) (harg10 : arg10.IsWhole) (arg11 : Memref sig .tc .vmem S1x64x1024 .f32) (harg11 : arg11.IsWhole) (arg12 : Memref sig .tc .vmem S1024x2048 .bf16) (harg12 : arg12.IsWhole) (arg13 : Memref sig .tc .vmem S64x2048 .bf16) (harg13 : arg13.IsWhole) (k0_h1 : k0_cond1 i = 1#1) (v33 : Vec F S1x2048 .f32) (v35 : Vec F S1x1x1x2048 .f32) (v38 : Vec F S1x1x1x2048 .f32) (x : Vec F S1024x2048 .f32) (G : BufTy.Contents (Elt F) arg12.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 k0_h1 v33 v35 v38 where
  inv k _ := iprop((arg2.view.loc (c : Thread nD τ) ↦[arg2.view.set]{fullShare} harg2.unread x) ∗ (∃ f, (arg12.view.loc (c : Thread nD τ) ↦[arg12.view.set]{fullShare} f) ∗ ⌜f = arg12.view.writes (Elt F) G (pc1 v33 v35 v38 x k)⌝))
  step k acc := by
    iintro ⟨HR, ⟨%f, HW, %hf⟩⟩
    iapply (wp_wand_r Idealize.ShloMosaic.frame (wpE (defs₀ (F := F)) 𝒱 (c : Thread nD τ) bd) E)
    isplitl [HR HW]
    · iapply (trip1 (F := F) 𝒱 c bd E i arg2 harg2 arg3 harg3 arg4 harg4 arg5 harg5 arg6 harg6 arg7 harg7 arg8 harg8 arg9 harg9 arg10 harg10 arg11 harg11 arg12 harg12 arg13 harg13 k0_h1 v33 v35 v38 x k f)
      isplitl [HR]; · iexact HR
      iexact HW
    · iintro %_ ⟨HR, HW⟩
      isplitl [HR]; · iexact HR
      rw [pc1_succ]
      iexists _; isplitl [HW]; · iexact HW
      ipureintro; rw [hf, ← View.writes_append]; rfl

set_option warn.classDefReducibility false in
@[sl_loop] def loop2 (𝒱 : Variants) (c : Dev nD) (bd : Option 𝒱.V) (E : Set ℕ) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x16x2048 .f32) (harg5 : arg5.IsWhole) (arg6 : Memref sig .tc .vmem S1x1x16x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S2048x1024 .bf16) (harg9 : arg9.IsWhole) (arg10 : Memref sig .tc .vmem S1x1024x1024 .f32) (harg10 : arg10.IsWhole) (arg11 : Memref sig .tc .vmem S1x64x1024 .f32) (harg11 : arg11.IsWhole) (arg12 : Memref sig .tc .vmem S1024x2048 .bf16) (harg12 : arg12.IsWhole) (arg13 : Memref sig .tc .vmem S64x2048 .bf16) (harg13 : arg13.IsWhole) (k0_h3 : k0_cond3 i = 1#1) (X : BufTy.Contents (Elt F) arg12.view.ty) (w : Vec F S2048x1024 .bf16) (G : BufTy.Contents (Elt F) arg10.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 k0_h3 where
  inv k _ := iprop((arg12.view.loc (c : Thread nD τ) ↦[arg12.view.set]{fullShare} X) ∗ (arg9.view.loc (c : Thread nD τ) ↦[arg9.view.set]{fullShare} harg9.unread w) ∗ (∃ f, (arg10.view.loc (c : Thread nD τ) ↦[arg10.view.set]{fullShare} f) ∗ ⌜f = arg10.view.writes (Elt F) G (pc2 (arg12.view.read (Elt F) X) w k)⌝))
  step k acc := by
    iintro ⟨HR12, HR9, ⟨%f, HW, %hf⟩⟩
    iapply (wp_wand_r Idealize.ShloMosaic.frame (wpE (defs₀ (F := F)) 𝒱 (c : Thread nD τ) bd) E)
    isplitl [HR12 HR9 HW]
    · iapply (trip2 (F := F) 𝒱 c bd E i arg2 harg2 arg3 harg3 arg4 harg4 arg5 harg5 arg6 harg6 arg7 harg7 arg8 harg8 arg9 harg9 arg10 harg10 arg11 harg11 arg12 harg12 arg13 harg13 k0_h3 X w k f)
      isplitl [HR12]; · iexact HR12
      isplitl [HR9]; · iexact HR9
      iexact HW
    · iintro %_ ⟨HR12, HR9, HW⟩
      isplitl [HR12]; · iexact HR12
      isplitl [HR9]; · iexact HR9
      rw [pc2_succ]
      iexists _; isplitl [HW]; · iexact HW
      ipureintro; rw [hf, ← View.writes_append]; rfl

/-! ## What the loops leave -/

theorem t1_lt (y : S1024x2048.Idx) : (y (0 : Fin 2)).val / 256 < k0_t1_loop.trips := by
  have h : (y (0 : Fin 2)).val < 1024 := (y (0 : Fin 2)).isLt
  rw [trips4]; omega
theorem t1_mem (y : S1024x2048.Idx) : ∀ a : Fin 2, (![256 * ((y (0 : Fin 2)).val / 256), 0] : Fin 2 → ℕ) a ≤ (y a).val ∧ (y a).val < (![256 * ((y (0 : Fin 2)).val / 256), 0] : Fin 2 → ℕ) a + S256x2048.size a := by
  have h1 : (y (1 : Fin 2)).val < 2048 := (y (1 : Fin 2)).isLt
  refine Fin.forall_fin_two.mpr ⟨?_, ?_⟩
  · show 256 * ((y (0 : Fin 2)).val / 256) ≤ (y (0 : Fin 2)).val ∧ (y (0 : Fin 2)).val < 256 * ((y (0 : Fin 2)).val / 256) + 256
    omega
  · show 0 ≤ (y (1 : Fin 2)).val ∧ (y (1 : Fin 2)).val < 0 + 2048
    omega

/-- The normalised tile. -/
def hp (g : Vec F S1x2048 .f32) (sh sc : Vec F S1x1x1x2048 .f32) (x : Vec F S1024x2048 .f32) : Vec F S1024x2048 .bf16 := fun y =>
  k0_pay1 g sh sc (xRows x ⟨(y (0 : Fin 2)).val / 256, t1_lt y⟩) (Rect.unitLocal (s := S1024x2048) (off := ![256 * ((y (0 : Fin 2)).val / 256), 0]) (size := S256x2048.size) y (t1_mem y))

theorem read_pc1 (g : Vec F S1x2048 .f32) (sh sc : Vec F S1x1x1x2048 .f32) (x : Vec F S1024x2048 .f32) (arg12 : Memref sig .tc .vmem S1024x2048 .bf16) (G : BufTy.Contents (Elt F) arg12.view.ty) (y : S1024x2048.Idx) :
    ∀ k, k ≤ k0_t1_loop.trips → (y (0 : Fin 2)).val < 256 * k → arg12.view.read (Elt F) (arg12.view.writes (Elt F) G (pc1 g sh sc x k)) y = hp g sh sc x y
  | 0, _, h => absurd h (Nat.not_lt_zero _)
  | k + 1, hk, h => by
    have e := pc1_succ g sh sc x ⟨k, hk⟩
    by_cases hl : (y (0 : Fin 2)).val < 256 * k
    · rw [e, View.read_writes_cons_rows_of_not_mem (d := ![1024, 2048]) arg12.view G _ _ _ y (k0_off2_eq ⟨k, hk⟩) rfl (Or.inl hl)]
      exact read_pc1 g sh sc x arg12 G y k (Nat.le_of_lt hk) hl
    · have hq : (y (0 : Fin 2)).val / 256 = k := by omega
      have key : ∀ q (hq' : q = k) (hlt : q < k0_t1_loop.trips) (hm : ∀ a : Fin 2, (![256 * q, 0] : Fin 2 → ℕ) a ≤ (y a).val ∧ (y a).val < (![256 * q, 0] : Fin 2 → ℕ) a + S256x2048.size a),
          arg12.view.read (Elt F) (arg12.view.writes (Elt F) G (pc1 g sh sc x (k + 1))) y
            = k0_pay1 g sh sc (xRows x ⟨q, hlt⟩) (Rect.unitLocal (s := S1024x2048) (off := ![256 * q, 0]) (size := S256x2048.size) y hm) := by
        intro q hq' hlt hm
        subst hq'
        rw [e]
        exact (View.read_writes_cons_unit arg12.view G _ _ _ y (k0_off2_eq ⟨q, hk⟩)).trans (dif_pos hm)
      exact key _ hq (t1_lt y) (t1_mem y)

theorem t2_lt (y : S1x1024x1024.Idx) : (y (1 : Fin 3)).val / 512 < k0_t2_loop.trips := by
  have h : (y (1 : Fin 3)).val < 1024 := (y (1 : Fin 3)).isLt
  rw [trips2]; omega
theorem t2_mem (y : S1x1024x1024.Idx) : ∀ a : Fin 3, (![0, 512 * ((y (1 : Fin 3)).val / 512), 0] : Fin 3 → ℕ) a ≤ (y a).val ∧ (y a).val < (![0, 512 * ((y (1 : Fin 3)).val / 512), 0] : Fin 3 → ℕ) a + S1x512x1024.size a := by
  have h0 : (y (0 : Fin 3)).val < 1 := (y (0 : Fin 3)).isLt
  have h2 : (y (2 : Fin 3)).val < 1024 := (y (2 : Fin 3)).isLt
  intro a
  match a with
  | ⟨0, _⟩ => exact (show 0 ≤ (y (0 : Fin 3)).val ∧ (y (0 : Fin 3)).val < 0 + 1 by omega)
  | ⟨1, _⟩ => exact (show 512 * ((y (1 : Fin 3)).val / 512) ≤ (y (1 : Fin 3)).val ∧ (y (1 : Fin 3)).val < 512 * ((y (1 : Fin 3)).val / 512) + 512 by omega)
  | ⟨2, _⟩ => exact (show 0 ≤ (y (2 : Fin 3)).val ∧ (y (2 : Fin 3)).val < 0 + 1024 by omega)

/-- The tile's block of the projection. -/
def op (v : Vec F S1024x2048 .bf16) (w : Vec F S2048x1024 .bf16) : Vec F S1x1024x1024 .f32 := fun y =>
  k0_pay3 (hRows v ⟨(y (1 : Fin 3)).val / 512, t2_lt y⟩) w (Rect.unitLocal (s := S1x1024x1024) (off := ![0, 512 * ((y (1 : Fin 3)).val / 512), 0]) (size := S1x512x1024.size) y (t2_mem y))

theorem read_pc2 (v : Vec F S1024x2048 .bf16) (w : Vec F S2048x1024 .bf16) (arg10 : Memref sig .tc .vmem S1x1024x1024 .f32) (G : BufTy.Contents (Elt F) arg10.view.ty) (y : S1x1024x1024.Idx) :
    ∀ k, k ≤ k0_t2_loop.trips → (y (1 : Fin 3)).val < 512 * k → arg10.view.read (Elt F) (arg10.view.writes (Elt F) G (pc2 v w k)) y = op v w y
  | 0, _, h => absurd h (Nat.not_lt_zero _)
  | k + 1, hk, h => by
    have e := pc2_succ v w ⟨k, hk⟩
    by_cases hl : (y (1 : Fin 3)).val < 512 * k
    · rw [e, View.read_writes_cons_unit_of_not_mem arg10.view G _ _ _ y (k0_off4_eq ⟨k, hk⟩) (1 : Fin 3) (Or.inl hl)]
      exact read_pc2 v w arg10 G y k (Nat.le_of_lt hk) hl
    · have hq : (y (1 : Fin 3)).val / 512 = k := by omega
      have key : ∀ q (hq' : q = k) (hlt : q < k0_t2_loop.trips) (hm : ∀ a : Fin 3, (![0, 512 * q, 0] : Fin 3 → ℕ) a ≤ (y a).val ∧ (y a).val < (![0, 512 * q, 0] : Fin 3 → ℕ) a + S1x512x1024.size a),
          arg10.view.read (Elt F) (arg10.view.writes (Elt F) G (pc2 v w (k + 1))) y
            = k0_pay3 (hRows v ⟨q, hlt⟩) w (Rect.unitLocal (s := S1x1024x1024) (off := ![0, 512 * q, 0]) (size := S1x512x1024.size) y hm) := by
        intro q hq' hlt hm
        subst hq'
        rw [e]
        exact (View.read_writes_cons_unit arg10.view G _ _ _ y (k0_off4_eq ⟨q, hk⟩)).trans (dif_pos hm)
      exact key _ hq (t2_lt y) (t2_mem y)

theorem tile_hp (g : Vec F S1x2048 .f32) (sh sc : Vec F S1x1x1x2048 .f32) (x : Vec F S1024x2048 .f32) (arg12 : Memref sig .tc .vmem S1024x2048 .bf16) (G : BufTy.Contents (Elt F) arg12.view.ty) :
    arg12.view.read (Elt F) (arg12.view.writes (Elt F) G (pc1 g sh sc x 4)) = hp g sh sc x :=
  funext fun y => read_pc1 g sh sc x arg12 G y 4 (Nat.le_of_eq trips4.symm) (by have h : (y (0 : Fin 2)).val < 1024 := (y (0 : Fin 2)).isLt; omega)
theorem block_op (v : Vec F S1024x2048 .bf16) (w : Vec F S2048x1024 .bf16) (arg10 : Memref sig .tc .vmem S1x1024x1024 .f32) (G : BufTy.Contents (Elt F) arg10.view.ty) :
    arg10.view.read (Elt F) (arg10.view.writes (Elt F) G (pc2 v w 2)) = op v w :=
  funext fun y => read_pc2 v w arg10 G y 2 (Nat.le_of_eq trips2.symm) (by have h : (y (1 : Fin 3)).val < 1024 := (y (1 : Fin 3)).isLt; omega)

end Cert.Kernel3Ideal.In

end
-- ==== Proof.InBody.lean ====
module

public import proofs.«01_k».proof.Proof.InTrip
public import Idealize.ShloMosaic.Lib.Pipeline.Kit
public import Idealize.ShloMosaic.Lib.Pipeline.FrameBody
public import Idealize.ShloMosaic.Lib.Writes
public import Idealize.ShloMosaic.Lib.Exec
public import Idealize.ShloMosaic.Lib.Affine
public import Idealize.ShloMosaic.Lib.Tactic

/-! # The input projection's body, by the point of the grid -/

@[expose] public section

set_option maxRecDepth 16384

noncomputable section

namespace Cert.Kernel3Ideal.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev hpM : Memref sig .tc .vmem S1024x2048 .bf16 := Memref.whole cc0_scratch0
abbrev hsM : Memref sig .tc .vmem S64x2048 .bf16 := Memref.whole cc0_scratch1

/-- The row of a block of modulations that the tile reads. -/
def row (i : grid0.Coords) (h1 : k0_cond1 i = 1#1) (x : Vec F S1x1x16x2048 .f32) : Vec F S1x1x1x2048 .f32 :=
  fun y => x ((Rect.unit (s := S1x1x16x2048) (k0_off1 i) S1x1x1x2048.size (k0_off1_inb i h1)).toLoadRect.idx y)

/-- The small rows' first point. -/
abbrev cond2 (i : grid0.Coords) : BitVec 1 :=
  Scalar.cmpi .ne (Scalar.extui (Scalar.andi (Scalar.cmpi .eq (BitVec.ofNat 32 (i 0).val) 8#32) (Scalar.cmpi .eq (BitVec.ofNat 32 (i 1).val) 0#32))) 0#32

/-- What the body is handed. -/
abbrev Pre (c : Dev nD) (arg2 : Memref sig .tc .vmem S1024x2048 .f32) (arg3 : Memref sig .tc .vmem S64x2048 .f32) (arg4 : Memref sig .tc .vmem S1x2048 .f32) (arg5 : Memref sig .tc .vmem S1x1x16x2048 .f32) (arg6 : Memref sig .tc .vmem S1x1x16x2048 .f32) (arg7 : Memref sig .tc .vmem S64x2048 .f32) (arg8 : Memref sig .tc .vmem S64x2048 .f32) (arg9 : Memref sig .tc .vmem S2048x1024 .bf16) (x : Vec F S1024x2048 .f32) (xs : Vec F S64x2048 .f32) (g : Vec F S1x2048 .f32) (sh : Vec F S1x1x16x2048 .f32) (sc : Vec F S1x1x16x2048 .f32) (shs : Vec F S64x2048 .f32) (scs : Vec F S64x2048 .f32) (w : Vec F S2048x1024 .bf16) (R : sProp 𝕄) : sProp 𝕄 :=
  iprop(owns (c : Thread nD τ) arg2 fullShare x ∗ owns (c : Thread nD τ) arg3 fullShare xs ∗ owns (c : Thread nD τ) arg4 fullShare g ∗ owns (c : Thread nD τ) arg5 fullShare sh ∗ owns (c : Thread nD τ) arg6 fullShare sc ∗ owns (c : Thread nD τ) arg7 fullShare shs ∗ owns (c : Thread nD τ) arg8 fullShare scs ∗ owns (c : Thread nD τ) arg9 fullShare w ∗ R)

set_option maxHeartbeats 1000000 in
/-- A tile at its first block of columns: the tile is normalised and kept, the block is of it. -/
theorem bodyA (c : Dev nD) (E : Set ℕ) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x16x2048 .f32) (harg5 : arg5.IsWhole) (arg6 : Memref sig .tc .vmem S1x1x16x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S2048x1024 .bf16) (harg9 : arg9.IsWhole) (arg10 : Memref sig .tc .vmem S1x1024x1024 .f32) (harg10 : arg10.IsWhole) (arg11 : Memref sig .tc .vmem S1x64x1024 .f32) (harg11 : arg11.IsWhole) (x : Vec F S1024x2048 .f32) (xs : Vec F S64x2048 .f32) (g : Vec F S1x2048 .f32) (sh : Vec F S1x1x16x2048 .f32) (sc : Vec F S1x1x16x2048 .f32) (shs : Vec F S64x2048 .f32) (scs : Vec F S64x2048 .f32) (w : Vec F S2048x1024 .bf16) (o8 : Vec F S1x1024x1024 .f32) (o9 : Vec F S1x64x1024 .f32) (vp : Vec F S1024x2048 .bf16) (vs : Vec F S64x2048 .bf16)
    (h1 : k0_cond1 i = 1#1) (h2 : ¬(cond2 i = 1#1)) (h3 : k0_cond3 i = 1#1) (h4 : ¬(k0_cond4 i = 1#1)) (K : PUnit → sProp 𝕄) :
    iprop(Pre c arg2 arg3 arg4 arg5 arg6 arg7 arg8 arg9 x xs g sh sc shs scs w iprop((∃ d, owns (c : Thread nD τ) arg10 fullShare d) ∗ owns (c : Thread nD τ) arg11 fullShare o9 ∗ (∃ d, owns (c : Thread nD τ) hpM fullShare d) ∗ owns (c : Thread nD τ) hsM fullShare vs)
        ∗ (iprop(Pre c arg2 arg3 arg4 arg5 arg6 arg7 arg8 arg9 x xs g sh sc shs scs w iprop(owns (c : Thread nD τ) arg10 fullShare (op (hp g (row i h1 sh) (row i h1 sc) x) w) ∗ owns (c : Thread nD τ) arg11 fullShare o9 ∗ owns (c : Thread nD τ) hpM fullShare (hp g (row i h1 sh) (row i h1 sc) x) ∗ owns (c : Thread nD τ) hsM fullShare vs)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 hpM (Memref.isWhole_whole _) hsM (Memref.isWhole_whole _)) K := by
  have e4 : ∀ x : Vec F S1x2048 .f32, View.readAt (Elt F) arg4.view (Rect.unit (s := S1x2048) ![0, 0] S1x2048.size inb_S1x2048_S1x2048_0_0).toLoadRect (harg4.unread x) = x := fun x => (View.readAt_full _ _ _).trans (harg4.read_unread x)
  have e5 : ∀ x : Vec F S1x1x16x2048 .f32, View.readAt (Elt F) arg5.view (Rect.unit (s := S1x1x16x2048) (k0_off1 i) S1x1x1x2048.size (k0_off1_inb i h1)).toLoadRect (harg5.unread x) = row i h1 x := fun x => funext fun y => harg5.readAt_unread x _ y
  have e6 : ∀ x : Vec F S1x1x16x2048 .f32, View.readAt (Elt F) arg6.view (Rect.unit (s := S1x1x16x2048) (k0_off1 i) S1x1x1x2048.size (k0_off1_inb i h1)).toLoadRect (harg6.unread x) = row i h1 x := fun x => funext fun y => harg6.readAt_unread x _ y
  unfold Pre owns
  rw [cc0_inproj_eq_skeleton]; unfold cc0_inproj_skel
  have hS0 : hpM.IsWhole := Memref.isWhole_whole _
  have hS1 : hsM.IsWhole := Memref.isWhole_whole _
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%f13, %hf13, H13⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  obtain rfl := harg11.eq_unread hf11
  obtain rfl := hS1.eq_unread hf13
  sl_exec! (disch := first | (guard_target = k0_cond1 _ = _; exact h1) | (guard_target = ¬(Scalar.cmpi = _); exact h2) | (guard_target = k0_cond3 _ = _; exact h3) | (guard_target = ¬(k0_cond4 _ = _); exact h4))
  sl_step
  have et1 : Scf.trips k0_t1_loop.lb k0_t1_loop.ub k0_t1_loop.st = 4 := trips4
  have et2 : Scf.trips k0_t2_loop.lb k0_t2_loop.ub k0_t2_loop.st = 2 := trips2
  rw [et1, et2]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    rw [tile_hp]; exact block_op _ w arg10 _
  isplitl [H11]
  · iexists _; isplitr
    swap; · iexact H11
    ipureintro
    exact harg11.read_unread _
  isplitl [H12]
  · iexists _; isplitr
    swap; · iexact H12
    ipureintro
    exact tile_hp _ _ _ _ hpM _
  iexists _; isplitr
  swap; · iexact H13
  ipureintro
  exact hS1.read_unread _

set_option maxHeartbeats 1000000 in
/-- A tile at a later block of columns: the block is of the tile kept. -/
theorem bodyB (c : Dev nD) (E : Set ℕ) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x16x2048 .f32) (harg5 : arg5.IsWhole) (arg6 : Memref sig .tc .vmem S1x1x16x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S2048x1024 .bf16) (harg9 : arg9.IsWhole) (arg10 : Memref sig .tc .vmem S1x1024x1024 .f32) (harg10 : arg10.IsWhole) (arg11 : Memref sig .tc .vmem S1x64x1024 .f32) (harg11 : arg11.IsWhole) (x : Vec F S1024x2048 .f32) (xs : Vec F S64x2048 .f32) (g : Vec F S1x2048 .f32) (sh : Vec F S1x1x16x2048 .f32) (sc : Vec F S1x1x16x2048 .f32) (shs : Vec F S64x2048 .f32) (scs : Vec F S64x2048 .f32) (w : Vec F S2048x1024 .bf16) (o8 : Vec F S1x1024x1024 .f32) (o9 : Vec F S1x64x1024 .f32) (vp : Vec F S1024x2048 .bf16) (vs : Vec F S64x2048 .bf16)
    (h1 : ¬(k0_cond1 i = 1#1)) (h2 : ¬(cond2 i = 1#1)) (h3 : k0_cond3 i = 1#1) (h4 : ¬(k0_cond4 i = 1#1)) (K : PUnit → sProp 𝕄) :
    iprop(Pre c arg2 arg3 arg4 arg5 arg6 arg7 arg8 arg9 x xs g sh sc shs scs w iprop((∃ d, owns (c : Thread nD τ) arg10 fullShare d) ∗ owns (c : Thread nD τ) arg11 fullShare o9 ∗ owns (c : Thread nD τ) hpM fullShare vp ∗ owns (c : Thread nD τ) hsM fullShare vs)
        ∗ (iprop(Pre c arg2 arg3 arg4 arg5 arg6 arg7 arg8 arg9 x xs g sh sc shs scs w iprop(owns (c : Thread nD τ) arg10 fullShare (op vp w) ∗ owns (c : Thread nD τ) arg11 fullShare o9 ∗ owns (c : Thread nD τ) hpM fullShare vp ∗ owns (c : Thread nD τ) hsM fullShare vs)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 hpM (Memref.isWhole_whole _) hsM (Memref.isWhole_whole _)) K := by
  unfold Pre owns
  rw [cc0_inproj_eq_skeleton]; unfold cc0_inproj_skel
  have hS0 : hpM.IsWhole := Memref.isWhole_whole _
  have hS1 : hsM.IsWhole := Memref.isWhole_whole _
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  obtain rfl := harg11.eq_unread hf11
  obtain rfl := hS0.eq_unread hf12
  obtain rfl := hS1.eq_unread hf13
  sl_exec! (disch := first | (guard_target = ¬(k0_cond1 _ = _); exact h1) | (guard_target = ¬(Scalar.cmpi = _); exact h2) | (guard_target = k0_cond3 _ = _; exact h3) | (guard_target = ¬(k0_cond4 _ = _); exact h4))
  sl_step
  have et2 : Scf.trips k0_t2_loop.lb k0_t2_loop.ub k0_t2_loop.st = 2 := trips2
  rw [et2]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    rw [hS0.read_unread]; exact block_op _ w arg10 _
  isplitl [H11]
  · iexists _; isplitr
    swap; · iexact H11
    ipureintro
    exact harg11.read_unread _
  isplitl [H12]
  · iexists _; isplitr
    swap; · iexact H12
    ipureintro
    exact hS0.read_unread _
  iexists _; isplitr
  swap; · iexact H13
  ipureintro
  exact hS1.read_unread _

set_option maxHeartbeats 1000000 in
/-- The small rows at their first block of columns: they are normalised and kept, the block is of them. -/
theorem bodyC (c : Dev nD) (E : Set ℕ) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x16x2048 .f32) (harg5 : arg5.IsWhole) (arg6 : Memref sig .tc .vmem S1x1x16x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S2048x1024 .bf16) (harg9 : arg9.IsWhole) (arg10 : Memref sig .tc .vmem S1x1024x1024 .f32) (harg10 : arg10.IsWhole) (arg11 : Memref sig .tc .vmem S1x64x1024 .f32) (harg11 : arg11.IsWhole) (x : Vec F S1024x2048 .f32) (xs : Vec F S64x2048 .f32) (g : Vec F S1x2048 .f32) (sh : Vec F S1x1x16x2048 .f32) (sc : Vec F S1x1x16x2048 .f32) (shs : Vec F S64x2048 .f32) (scs : Vec F S64x2048 .f32) (w : Vec F S2048x1024 .bf16) (o8 : Vec F S1x1024x1024 .f32) (o9 : Vec F S1x64x1024 .f32) (vp : Vec F S1024x2048 .bf16) (vs : Vec F S64x2048 .bf16)
    (h1 : ¬(k0_cond1 i = 1#1)) (h2 : cond2 i = 1#1) (h3 : ¬(k0_cond3 i = 1#1)) (h4 : k0_cond4 i = 1#1) (K : PUnit → sProp 𝕄) :
    iprop(Pre c arg2 arg3 arg4 arg5 arg6 arg7 arg8 arg9 x xs g sh sc shs scs w iprop(owns (c : Thread nD τ) arg10 fullShare o8 ∗ (∃ d, owns (c : Thread nD τ) arg11 fullShare d) ∗ owns (c : Thread nD τ) hpM fullShare vp ∗ (∃ d, owns (c : Thread nD τ) hsM fullShare d))
        ∗ (iprop(Pre c arg2 arg3 arg4 arg5 arg6 arg7 arg8 arg9 x xs g sh sc shs scs w iprop(owns (c : Thread nD τ) arg10 fullShare o8 ∗ owns (c : Thread nD τ) arg11 fullShare (k0_pay4 (k0_pay2 g xs shs scs) w) ∗ owns (c : Thread nD τ) hpM fullShare vp ∗ owns (c : Thread nD τ) hsM fullShare (k0_pay2 g xs shs scs))) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 hpM (Memref.isWhole_whole _) hsM (Memref.isWhole_whole _)) K := by
  have e3 : ∀ x : Vec F S64x2048 .f32, View.readAt (Elt F) arg3.view (Rect.unit (s := S64x2048) ![0, 0] S64x2048.size inb_S64x2048_S64x2048_0_0).toLoadRect (harg3.unread x) = x := fun x => (View.readAt_full _ _ _).trans (harg3.read_unread x)
  have e4 : ∀ x : Vec F S1x2048 .f32, View.readAt (Elt F) arg4.view (Rect.unit (s := S1x2048) ![0, 0] S1x2048.size inb_S1x2048_S1x2048_0_0).toLoadRect (harg4.unread x) = x := fun x => (View.readAt_full _ _ _).trans (harg4.read_unread x)
  have e7 : ∀ x : Vec F S64x2048 .f32, View.readAt (Elt F) arg7.view (Rect.unit (s := S64x2048) ![0, 0] S64x2048.size inb_S64x2048_S64x2048_0_0).toLoadRect (harg7.unread x) = x := fun x => (View.readAt_full _ _ _).trans (harg7.read_unread x)
  have e8 : ∀ x : Vec F S64x2048 .f32, View.readAt (Elt F) arg8.view (Rect.unit (s := S64x2048) ![0, 0] S64x2048.size inb_S64x2048_S64x2048_0_0).toLoadRect (harg8.unread x) = x := fun x => (View.readAt_full _ _ _).trans (harg8.read_unread x)
  have e9 : ∀ x : Vec F S2048x1024 .bf16, View.readAt (Elt F) arg9.view (Rect.unit (s := S2048x1024) ![0, 0] S2048x1024.size inb_S2048x1024_S2048x1024_0_0).toLoadRect (harg9.unread x) = x := fun x => (View.readAt_full _ _ _).trans (harg9.read_unread x)
  unfold Pre owns
  rw [cc0_inproj_eq_skeleton]; unfold cc0_inproj_skel
  have hS0 : hpM.IsWhole := Memref.isWhole_whole _
  have hS1 : hsM.IsWhole := Memref.isWhole_whole _
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  obtain rfl := harg10.eq_unread hf10
  obtain rfl := hS0.eq_unread hf12
  sl_exec! (disch := first | (guard_target = ¬(k0_cond1 _ = _); exact h1) | (guard_target = Scalar.cmpi = _; exact h2) | (guard_target = ¬(k0_cond3 _ = _); exact h3) | (guard_target = k0_cond4 _ = _; exact h4))
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    exact harg10.read_unread _
  isplitl [H11]
  · iexists _; isplitr
    swap; · iexact H11
    ipureintro
    refine (View.read_writes_full _ _ _ _ _).trans ?_
    refine congrArg (fun v => k0_pay4 v w) ?_
    unfold bodyC.sl.v16
    exact View.readCov_full _ _ _ _ _
  isplitl [H12]
  · iexists _; isplitr
    swap; · iexact H12
    ipureintro
    exact hS0.read_unread _
  iexists _; isplitr
  swap; · iexact H13
  ipureintro
  exact View.read_writes_full _ _ _ _ _

set_option maxHeartbeats 1000000 in
/-- The small rows at a later block of columns: the block is of the rows kept. -/
theorem bodyD (c : Dev nD) (E : Set ℕ) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x16x2048 .f32) (harg5 : arg5.IsWhole) (arg6 : Memref sig .tc .vmem S1x1x16x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S2048x1024 .bf16) (harg9 : arg9.IsWhole) (arg10 : Memref sig .tc .vmem S1x1024x1024 .f32) (harg10 : arg10.IsWhole) (arg11 : Memref sig .tc .vmem S1x64x1024 .f32) (harg11 : arg11.IsWhole) (x : Vec F S1024x2048 .f32) (xs : Vec F S64x2048 .f32) (g : Vec F S1x2048 .f32) (sh : Vec F S1x1x16x2048 .f32) (sc : Vec F S1x1x16x2048 .f32) (shs : Vec F S64x2048 .f32) (scs : Vec F S64x2048 .f32) (w : Vec F S2048x1024 .bf16) (o8 : Vec F S1x1024x1024 .f32) (o9 : Vec F S1x64x1024 .f32) (vp : Vec F S1024x2048 .bf16) (vs : Vec F S64x2048 .bf16)
    (h1 : ¬(k0_cond1 i = 1#1)) (h2 : ¬(cond2 i = 1#1)) (h3 : ¬(k0_cond3 i = 1#1)) (h4 : k0_cond4 i = 1#1) (K : PUnit → sProp 𝕄) :
    iprop(Pre c arg2 arg3 arg4 arg5 arg6 arg7 arg8 arg9 x xs g sh sc shs scs w iprop(owns (c : Thread nD τ) arg10 fullShare o8 ∗ (∃ d, owns (c : Thread nD τ) arg11 fullShare d) ∗ owns (c : Thread nD τ) hpM fullShare vp ∗ owns (c : Thread nD τ) hsM fullShare vs)
        ∗ (iprop(Pre c arg2 arg3 arg4 arg5 arg6 arg7 arg8 arg9 x xs g sh sc shs scs w iprop(owns (c : Thread nD τ) arg10 fullShare o8 ∗ owns (c : Thread nD τ) arg11 fullShare (k0_pay4 vs w) ∗ owns (c : Thread nD τ) hpM fullShare vp ∗ owns (c : Thread nD τ) hsM fullShare vs)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 hpM (Memref.isWhole_whole _) hsM (Memref.isWhole_whole _)) K := by
  have e9 : ∀ x : Vec F S2048x1024 .bf16, View.readAt (Elt F) arg9.view (Rect.unit (s := S2048x1024) ![0, 0] S2048x1024.size inb_S2048x1024_S2048x1024_0_0).toLoadRect (harg9.unread x) = x := fun x => (View.readAt_full _ _ _).trans (harg9.read_unread x)
  unfold Pre owns
  rw [cc0_inproj_eq_skeleton]; unfold cc0_inproj_skel
  have hS0 : hpM.IsWhole := Memref.isWhole_whole _
  have hS1 : hsM.IsWhole := Memref.isWhole_whole _
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  obtain rfl := harg10.eq_unread hf10
  obtain rfl := hS0.eq_unread hf12
  obtain rfl := hS1.eq_unread hf13
  sl_exec! (disch := first | (guard_target = ¬(k0_cond1 _ = _); exact h1) | (guard_target = ¬(Scalar.cmpi = _); exact h2) | (guard_target = ¬(k0_cond3 _ = _); exact h3) | (guard_target = k0_cond4 _ = _; exact h4))
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    exact harg10.read_unread _
  isplitl [H11]
  · iexists _; isplitr
    swap; · iexact H11
    ipureintro
    refine (View.read_writes_full _ _ _ _ _).trans ?_
    exact congrArg (fun v => k0_pay4 v w) ((View.readAt_full _ _ _).trans (hS1.read_unread _))
  isplitl [H12]
  · iexists _; isplitr
    swap; · iexact H12
    ipureintro
    exact hS0.read_unread _
  iexists _; isplitr
  swap; · iexact H13
  ipureintro
  exact hS1.read_unread _

end Cert.Kernel3Ideal.In

end
-- ==== Proof.InRun.lean ====
module

public import proofs.«01_k».proof.Proof.InBody
public import proofs.«01_k».proof.Proof.Gen.Kernel3Ideal.Points
public import Idealize.ShloMosaic.Lib.Pipeline.Quiescent
public import Idealize.ShloMosaic.Lib.Claim
public import Idealize.ShloMosaic.Lib.Pipeline.TableIdle
public import Idealize.ShloMosaic.Adequacy
public import Idealize.ShloMosaic.Init

/-! # The input projection's call -/

@[expose] public section

set_option maxRecDepth 16384

noncomputable section

namespace Cert.Kernel3Ideal.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev EP : Emb (UR sig nD τ) 𝕄 := emb₁

/-! ## The points of the grid -/

theorem c1_iff : ∀ t : Fin grid0.N, k0_cond1 (grid0.coords t) = 1#1 ↔ (t.val < 48 ∧ t.val % 6 = 0) := by decide +kernel
theorem c2_iff : ∀ t : Fin grid0.N, cond2 (grid0.coords t) = 1#1 ↔ t.val = 48 := by decide +kernel
theorem c3_iff : ∀ t : Fin grid0.N, k0_cond3 (grid0.coords t) = 1#1 ↔ t.val < 48 := by decide +kernel
theorem c4_iff : ∀ t : Fin grid0.N, k0_cond4 (grid0.coords t) = 1#1 ↔ ¬ t.val < 48 := by decide +kernel
theorem idle8 : ∀ t : Fin grid0.N, idle0 8 (grid0.coords t) = !decide (t.val < 48) := by decide +kernel
theorem idle9 : ∀ t : Fin grid0.N, idle0 9 (grid0.coords t) = decide (t.val < 48) := by decide +kernel
theorem flush8 : ∀ t : Fin grid0.N, ¬ t.val < 48 → win0_8.flush t = decide (t.val = 53) := by decide +kernel
theorem flush9 : ∀ t : Fin grid0.N, t.val < 48 → win0_9.flush t = false := by decide +kernel
theorem fresh8 : cfg0.fresh (8 : Fin 10) 53 = false := by decide +kernel

theorem lt54 (t : Fin cfg0.N) : t.val < 54 := t.isLt

/-- The first point of the tile of point `n`, the last tile's for the small rows. -/
def head (n : ℕ) : Fin grid0.N := ⟨6 * (min n 47 / 6), by rw [N_0]; omega⟩
theorem head_c1 (n : ℕ) : k0_cond1 (grid0.coords (head n)) = 1#1 :=
  (c1_iff _).mpr ⟨by show 6 * (min n 47 / 6) < 48; omega, by show 6 * (min n 47 / 6) % 6 = 0; omega⟩
/-- The point at which the small rows are normalised. -/
def tS : Fin grid0.N := ⟨48, by rw [N_0]; omega⟩
/-- The last point that stores the block of a point. -/
def last (t : Fin grid0.N) : Fin grid0.N := ⟨min t.val 47, lt_of_le_of_lt (Nat.min_le_left _ _) t.isLt⟩

variable (m : (ℓ : Loc nD τ sig) → Buf (Elt F) ℓ) (ρ : Dev nD → PrngReg)

abbrev sg0 (t : Fin cfg0.N) : Memref sig .tc .vmem S1024x2048 .f32 := win0_0.stage (cfg0.slots t 0)
abbrev sw0 (t : Fin cfg0.N) : (sg0 t).IsWhole := hstage0_0 ((cfg0.slots t 0).cast nbuf0_0)
abbrev sg1 (t : Fin cfg0.N) : Memref sig .tc .vmem S64x2048 .f32 := win0_1.stage (cfg0.slots t 1)
abbrev sw1 (t : Fin cfg0.N) : (sg1 t).IsWhole := hstage0_1 ((cfg0.slots t 1).cast nbuf0_1)
abbrev sg2 (t : Fin cfg0.N) : Memref sig .tc .vmem S1x2048 .f32 := win0_2.stage (cfg0.slots t 2)
abbrev sw2 (t : Fin cfg0.N) : (sg2 t).IsWhole := hstage0_2 ((cfg0.slots t 2).cast nbuf0_2)
abbrev sg3 (t : Fin cfg0.N) : Memref sig .tc .vmem S1x1x16x2048 .f32 := win0_3.stage (cfg0.slots t 3)
abbrev sw3 (t : Fin cfg0.N) : (sg3 t).IsWhole := hstage0_3 ((cfg0.slots t 3).cast nbuf0_3)
abbrev sg4 (t : Fin cfg0.N) : Memref sig .tc .vmem S1x1x16x2048 .f32 := win0_4.stage (cfg0.slots t 4)
abbrev sw4 (t : Fin cfg0.N) : (sg4 t).IsWhole := hstage0_4 ((cfg0.slots t 4).cast nbuf0_4)
abbrev sg5 (t : Fin cfg0.N) : Memref sig .tc .vmem S64x2048 .f32 := win0_5.stage (cfg0.slots t 5)
abbrev sw5 (t : Fin cfg0.N) : (sg5 t).IsWhole := hstage0_5 ((cfg0.slots t 5).cast nbuf0_5)
abbrev sg6 (t : Fin cfg0.N) : Memref sig .tc .vmem S64x2048 .f32 := win0_6.stage (cfg0.slots t 6)
abbrev sw6 (t : Fin cfg0.N) : (sg6 t).IsWhole := hstage0_6 ((cfg0.slots t 6).cast nbuf0_6)
abbrev sg7 (t : Fin cfg0.N) : Memref sig .tc .vmem S2048x1024 .bf16 := win0_7.stage (cfg0.slots t 7)
abbrev sw7 (t : Fin cfg0.N) : (sg7 t).IsWhole := hstage0_7 ((cfg0.slots t 7).cast nbuf0_7)
abbrev sg8 (t : Fin cfg0.N) : Memref sig .tc .vmem S1x1024x1024 .f32 := win0_8.stage (cfg0.slots t 8)
abbrev sw8 (t : Fin cfg0.N) : (sg8 t).IsWhole := hstage0_8 ((cfg0.slots t 8).cast nbuf0_8)
abbrev sg9 (t : Fin cfg0.N) : Memref sig .tc .vmem S1x64x1024 .f32 := win0_9.stage (cfg0.slots t 9)
abbrev sw9 (t : Fin cfg0.N) : (sg9 t).IsWhole := hstage0_9 ((cfg0.slots t 9).cast nbuf0_9)

/-- A window's block at a point, off its array as launched. -/
def iblk (c : Dev nD) (w : Fin cfg0.W) (t : Fin cfg0.N) : ((cfg0.win w).xblock (grid0.coords t)).Idx → Elt F (cfg0.win w).elt :=
  ((cfg0.win w).blk t).view.read (Elt F) ((s₀ m ρ).mem ((cfg0.win w).arr.view.loc (c : Thread nD τ)))

abbrev b0 (c : Dev nD) (t : Fin cfg0.N) : Vec F S1024x2048 .f32 := iblk m ρ c 0 t
abbrev b1 (c : Dev nD) (t : Fin cfg0.N) : Vec F S64x2048 .f32 := iblk m ρ c 1 t
abbrev b2 (c : Dev nD) (t : Fin cfg0.N) : Vec F S1x2048 .f32 := iblk m ρ c 2 t
abbrev b3 (c : Dev nD) (t : Fin cfg0.N) : Vec F S1x1x16x2048 .f32 := iblk m ρ c 3 t
abbrev b4 (c : Dev nD) (t : Fin cfg0.N) : Vec F S1x1x16x2048 .f32 := iblk m ρ c 4 t
abbrev b5 (c : Dev nD) (t : Fin cfg0.N) : Vec F S64x2048 .f32 := iblk m ρ c 5 t
abbrev b6 (c : Dev nD) (t : Fin cfg0.N) : Vec F S64x2048 .f32 := iblk m ρ c 6 t
abbrev b7 (c : Dev nD) (t : Fin cfg0.N) : Vec F S2048x1024 .bf16 := iblk m ρ c 7 t

/-- The normalised tile of a first point. -/
def hpAt (c : Dev nD) (t : Fin cfg0.N) (h : k0_cond1 (grid0.coords t) = 1#1) : Vec F S1024x2048 .bf16 :=
  hp (b2 m ρ c t) (row (grid0.coords t) h (b3 m ρ c t)) (row (grid0.coords t) h (b4 m ρ c t)) (b0 m ρ c t)
theorem hpAt_of (c : Dev nD) (t u : Fin cfg0.N) (h : k0_cond1 (grid0.coords t) = 1#1) (h' : k0_cond1 (grid0.coords u) = 1#1) (e : t = u) : hpAt m ρ c t h = hpAt m ρ c u h' := by
  subst e; rfl
def hpN (c : Dev nD) (n : ℕ) : Vec F S1024x2048 .bf16 := hpAt m ρ c (head n) (head_c1 n)
/-- The normalised small rows. -/
def hsN (c : Dev nD) : Vec F S64x2048 .bf16 := k0_pay2 (b2 m ρ c tS) (b1 m ρ c tS) (b5 m ρ c tS) (b6 m ρ c tS)

/-- The tiles' result at a point that stores it. -/
def opAt (c : Dev nD) (t : Fin cfg0.N) : Vec F S1x1024x1024 .f32 := op (hpN m ρ c t.val) (b7 m ρ c t)
/-- The small rows' result. -/
def osAt (c : Dev nD) (t : Fin cfg0.N) : Vec F S1x64x1024 .f32 := k0_pay4 (hsN m ρ c) (b7 m ρ c t)

/-- What the two results' buffers hold after a point, from what they held before. -/
def r8 (c : Dev nD) (t : Fin cfg0.N) (o : Vec F S1x1024x1024 .f32) : Vec F S1x1024x1024 .f32 := if t.val < 48 then opAt m ρ c t else o
def r9 (c : Dev nD) (t : Fin cfg0.N) (o : Vec F S1x64x1024 .f32) : Vec F S1x64x1024 .f32 := if t.val < 48 then o else osAt m ρ c t

/-- What is kept before point `n`. -/
def kept (c : Dev nD) (n : ℕ) (vp : Vec F S1024x2048 .bf16) (vs : Vec F S64x2048 .bf16) : Prop :=
  (n % 6 ≠ 0 → n < 48 → vp = hpN m ρ c n) ∧ (48 < n → vs = hsN m ρ c)

def Phi (c : Dev nD) (n : ℕ) : sProp 𝕄 :=
  iprop(∃ a0 a1, ⌜kept m ρ c n (hpM.view.read (Elt F) a0) (hsM.view.read (Elt F) a1)⌝ ∗ (hpM.view.loc (c : Thread nD τ) ↦{fullShare} a0) ∗ (hsM.view.loc (c : Thread nD τ) ↦{fullShare} a1))

def dats (_ : Fin 1) (c : Dev nD) : Dat τ (Elt F) Unit ℕ (UR sig nD τ) ℕ cfg0 c where
  A w := (s₀ m ρ).mem ((cfg0.win w).arr.view.loc (c : Thread nD τ))
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => iblk m ρ c 6 t
    | ⟨7, _⟩ => iblk m ρ c 7 t
    | ⟨8, _⟩ => opAt m ρ c (last t)
    | ⟨9, _⟩ => osAt m ρ c t
  Φ t := Phi m ρ c t.val
  q w := Pipeline.shareOf spec0 w
  owed _ := 0

theorem after_0 (c : Dev nD) (t : Fin cfg0.N) : (dats m ρ 0 c).after 0 t = iblk m ρ c 0 t := rfl
theorem after_1 (c : Dev nD) (t : Fin cfg0.N) : (dats m ρ 0 c).after 1 t = iblk m ρ c 1 t := rfl
theorem after_2 (c : Dev nD) (t : Fin cfg0.N) : (dats m ρ 0 c).after 2 t = iblk m ρ c 2 t := rfl
theorem after_3 (c : Dev nD) (t : Fin cfg0.N) : (dats m ρ 0 c).after 3 t = iblk m ρ c 3 t := rfl
theorem after_4 (c : Dev nD) (t : Fin cfg0.N) : (dats m ρ 0 c).after 4 t = iblk m ρ c 4 t := rfl
theorem after_5 (c : Dev nD) (t : Fin cfg0.N) : (dats m ρ 0 c).after 5 t = iblk m ρ c 5 t := rfl
theorem after_6 (c : Dev nD) (t : Fin cfg0.N) : (dats m ρ 0 c).after 6 t = iblk m ρ c 6 t := rfl
theorem after_7 (c : Dev nD) (t : Fin cfg0.N) : (dats m ρ 0 c).after 7 t = iblk m ρ c 7 t := rfl
theorem after_8 (c : Dev nD) (t : Fin cfg0.N) : (dats m ρ 0 c).after 8 t = opAt m ρ c (last t) := rfl
theorem after_9 (c : Dev nD) (t : Fin cfg0.N) : (dats m ρ 0 c).after 9 t = osAt m ρ c t := rfl

theorem before_0 (c : Dev nD) (t : Fin cfg0.N) (d) : (dats m ρ 0 c).before 0 t d = iblk m ρ c 0 t :=
  ((dats m ρ 0 c).before_in_eq_fetched 0 rfl (fun _ => rfl) (fun _ _ _ => rfl) (fun t => by rw [after_0]; unfold Dat.blockOf iblk; rfl) t d).trans
    (by unfold Dat.fetched Dat.blockOf iblk; rfl)
theorem before_1 (c : Dev nD) (t : Fin cfg0.N) (d) : (dats m ρ 0 c).before 1 t d = iblk m ρ c 1 t :=
  ((dats m ρ 0 c).before_in_eq_fetched 1 rfl (fun _ => rfl) (fun _ _ _ => rfl) (fun t => by rw [after_1]; unfold Dat.blockOf iblk; rfl) t d).trans
    (by unfold Dat.fetched Dat.blockOf iblk; rfl)
theorem before_2 (c : Dev nD) (t : Fin cfg0.N) (d) : (dats m ρ 0 c).before 2 t d = iblk m ρ c 2 t :=
  ((dats m ρ 0 c).before_in_eq_fetched 2 rfl (fun _ => rfl) (fun _ _ _ => rfl) (fun t => by rw [after_2]; unfold Dat.blockOf iblk; rfl) t d).trans
    (by unfold Dat.fetched Dat.blockOf iblk; rfl)
theorem before_3 (c : Dev nD) (t : Fin cfg0.N) (d) : (dats m ρ 0 c).before 3 t d = iblk m ρ c 3 t :=
  ((dats m ρ 0 c).before_in_eq_fetched 3 rfl (fun _ => rfl) (fun _ _ _ => rfl) (fun t => by rw [after_3]; unfold Dat.blockOf iblk; rfl) t d).trans
    (by unfold Dat.fetched Dat.blockOf iblk; rfl)
theorem before_4 (c : Dev nD) (t : Fin cfg0.N) (d) : (dats m ρ 0 c).before 4 t d = iblk m ρ c 4 t :=
  ((dats m ρ 0 c).before_in_eq_fetched 4 rfl (fun _ => rfl) (fun _ _ _ => rfl) (fun t => by rw [after_4]; unfold Dat.blockOf iblk; rfl) t d).trans
    (by unfold Dat.fetched Dat.blockOf iblk; rfl)
theorem before_5 (c : Dev nD) (t : Fin cfg0.N) (d) : (dats m ρ 0 c).before 5 t d = iblk m ρ c 5 t :=
  ((dats m ρ 0 c).before_in_eq_fetched 5 rfl (fun _ => rfl) (fun _ _ _ => rfl) (fun t => by rw [after_5]; unfold Dat.blockOf iblk; rfl) t d).trans
    (by unfold Dat.fetched Dat.blockOf iblk; rfl)
theorem before_6 (c : Dev nD) (t : Fin cfg0.N) (d) : (dats m ρ 0 c).before 6 t d = iblk m ρ c 6 t :=
  ((dats m ρ 0 c).before_in_eq_fetched 6 rfl (fun _ => rfl) (fun _ _ _ => rfl) (fun t => by rw [after_6]; unfold Dat.blockOf iblk; rfl) t d).trans
    (by unfold Dat.fetched Dat.blockOf iblk; rfl)
theorem before_7 (c : Dev nD) (t : Fin cfg0.N) (d) : (dats m ρ 0 c).before 7 t d = iblk m ρ c 7 t :=
  ((dats m ρ 0 c).before_in_eq_fetched 7 rfl (fun _ => rfl) (fun _ _ _ => rfl) (fun t => by rw [after_7]; unfold Dat.blockOf iblk; rfl) t d).trans
    (by unfold Dat.fetched Dat.blockOf iblk; rfl)

theorem before_8 (c : Dev nD) (t : Fin cfg0.N) (ht : t.val = 53) (d) : (dats m ρ 0 c).before 8 t d = (dats m ρ 0 c).after 8 t := by
  rw [(dats m ρ 0 c).before_out_traj 8 rfl (fun _ _ => rfl) (fun t h0 hi _ => ?_) t.val t rfl d]
  · rw [if_neg (by rw [ht, fresh8]; exact Bool.false_ne_true), after_8, after_8]
    exact congrArg (opAt m ρ c) (Fin.ext (by show min (t.val - 1) 47 = min t.val 47; omega))
  · have h : idle0 8 (grid0.coords t) = true := hi
    rw [idle8] at h
    have h' : ¬ t.val < 48 := by simpa using h
    rw [after_8, after_8]
    exact congrArg (opAt m ρ c) (Fin.ext (by show min t.val 47 = min (t.val - 1) 47; omega))

/-! ## The four bodies as one -/

theorem body (c : Dev nD) (t : Fin cfg0.N) (o8 : Vec F S1x1024x1024 .f32) (o9 : Vec F S1x64x1024 .f32) (vp : Vec F S1024x2048 .bf16) (vs : Vec F S64x2048 .bf16) (hk : kept m ρ c t.val vp vs) (K : PUnit → sProp 𝕄) :
    iprop(Pre c (sg0 t) (sg1 t) (sg2 t) (sg3 t) (sg4 t) (sg5 t) (sg6 t) (sg7 t) (b0 m ρ c t) (b1 m ρ c t) (b2 m ρ c t) (b3 m ρ c t) (b4 m ρ c t) (b5 m ρ c t) (b6 m ρ c t) (b7 m ρ c t)
          iprop(owns (c : Thread nD τ) (sg8 t) fullShare o8 ∗ owns (c : Thread nD τ) (sg9 t) fullShare o9 ∗ owns (c : Thread nD τ) hpM fullShare vp ∗ owns (c : Thread nD τ) hsM fullShare vs)
        ∗ (iprop(∃ up us, ⌜kept m ρ c (t.val + 1) up us⌝ ∗ Pre c (sg0 t) (sg1 t) (sg2 t) (sg3 t) (sg4 t) (sg5 t) (sg6 t) (sg7 t) (b0 m ρ c t) (b1 m ρ c t) (b2 m ρ c t) (b3 m ρ c t) (b4 m ρ c t) (b5 m ρ c t) (b6 m ρ c t) (b7 m ρ c t)
          iprop(owns (c : Thread nD τ) (sg8 t) fullShare (r8 m ρ c t o8) ∗ owns (c : Thread nD τ) (sg9 t) fullShare (r9 m ρ c t o9) ∗ owns (c : Thread nD τ) hpM fullShare up ∗ owns (c : Thread nD τ) hsM fullShare us)) -∗ K ⟨⟩))
      ⊢ wp frame (wpE (defs₀ (F := F)) Variants.none c none) Set.univ (bodyAt0 t) K := by
  have hN : t.val < 54 := lt54 t
  obtain ⟨hkp, hks⟩ := hk
  by_cases hu : t.val < 48
  · have h3 : k0_cond3 (grid0.coords t) = 1#1 := (c3_iff t).mpr hu
    have h4 : ¬(k0_cond4 (grid0.coords t) = 1#1) := fun h => (c4_iff t).mp h hu
    have h2 : ¬(cond2 (grid0.coords t) = 1#1) := fun h => by have := (c2_iff t).mp h; omega
    have hh : ∀ (h6 : (t.val + 1) % 6 ≠ 0), hpN m ρ c (t.val + 1) = hpN m ρ c t.val := fun h6 =>
      hpAt_of m ρ c _ _ _ _ (Fin.ext (by show 6 * (min (t.val + 1) 47 / 6) = 6 * (min t.val 47 / 6); omega))
    by_cases hf : t.val % 6 = 0
    · have h1 : k0_cond1 (grid0.coords t) = 1#1 := (c1_iff t).mpr ⟨hu, hf⟩
      have hd : hpN m ρ c t.val = hpAt m ρ c t h1 := hpAt_of m ρ c _ _ _ _ (Fin.ext (by show 6 * (min t.val 47 / 6) = t.val; omega))
      iintro ⟨⟨H0, H1, H2, H3, H4, H5, H6, H7, H8, H9, HS0, HS1⟩, Hk⟩
      iapply (bodyA c Set.univ (grid0.coords t) (sg0 t) (sw0 t) (sg1 t) (sw1 t) (sg2 t) (sw2 t) (sg3 t) (sw3 t) (sg4 t) (sw4 t) (sg5 t) (sw5 t) (sg6 t) (sw6 t) (sg7 t) (sw7 t) (sg8 t) (sw8 t) (sg9 t) (sw9 t) (b0 m ρ c t) (b1 m ρ c t) (b2 m ρ c t) (b3 m ρ c t) (b4 m ρ c t) (b5 m ρ c t) (b6 m ρ c t) (b7 m ρ c t) o8 o9 vp vs h1 h2 h3 h4 K)
      isplitr [Hk]
      · unfold Pre
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexists _; iexact HS0
        iexact HS1
      iintro HP
      iapply Hk
      iexists hpAt m ρ c t h1, vs
      isplitr
      swap
      · rw [show r8 m ρ c t o8 = _ from if_pos hu, show r9 m ρ c t o9 = _ from if_pos hu, opAt, hd]
        iexact HP
      ipureintro
      exact ⟨fun h6 _ => by rw [hh h6, hd], fun h => absurd h (by omega)⟩
    · have h1 : ¬(k0_cond1 (grid0.coords t) = 1#1) := fun h => hf ((c1_iff t).mp h).2
      have hv := hkp hf hu
      iintro ⟨⟨H0, H1, H2, H3, H4, H5, H6, H7, H8, H9, HS0, HS1⟩, Hk⟩
      iapply (bodyB c Set.univ (grid0.coords t) (sg0 t) (sw0 t) (sg1 t) (sw1 t) (sg2 t) (sw2 t) (sg3 t) (sw3 t) (sg4 t) (sw4 t) (sg5 t) (sw5 t) (sg6 t) (sw6 t) (sg7 t) (sw7 t) (sg8 t) (sw8 t) (sg9 t) (sw9 t) (b0 m ρ c t) (b1 m ρ c t) (b2 m ρ c t) (b3 m ρ c t) (b4 m ρ c t) (b5 m ρ c t) (b6 m ρ c t) (b7 m ρ c t) o8 o9 vp vs h1 h2 h3 h4 K)
      isplitr [Hk]
      · unfold Pre
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexact HS0
        iexact HS1
      iintro HP
      iapply Hk
      iexists vp, vs
      isplitr
      swap
      · rw [show r8 m ρ c t o8 = _ from if_pos hu, show r9 m ρ c t o9 = _ from if_pos hu, opAt, ← hv]
        iexact HP
      ipureintro
      exact ⟨fun h6 _ => by rw [hh h6]; exact hv, fun h => absurd h (by omega)⟩
  · have h3 : ¬(k0_cond3 (grid0.coords t) = 1#1) := fun h => hu ((c3_iff t).mp h)
    have h4 : k0_cond4 (grid0.coords t) = 1#1 := (c4_iff t).mpr hu
    have h1 : ¬(k0_cond1 (grid0.coords t) = 1#1) := fun h => hu ((c1_iff t).mp h).1
    by_cases hf : t.val = 48
    · have h2 : cond2 (grid0.coords t) = 1#1 := (c2_iff t).mpr hf
      have hS : t = tS := Fin.ext hf
      have hd : hsN m ρ c = k0_pay2 (b2 m ρ c t) (b1 m ρ c t) (b5 m ρ c t) (b6 m ρ c t) := by rw [hS]; rfl
      iintro ⟨⟨H0, H1, H2, H3, H4, H5, H6, H7, H8, H9, HS0, HS1⟩, Hk⟩
      iapply (bodyC c Set.univ (grid0.coords t) (sg0 t) (sw0 t) (sg1 t) (sw1 t) (sg2 t) (sw2 t) (sg3 t) (sw3 t) (sg4 t) (sw4 t) (sg5 t) (sw5 t) (sg6 t) (sw6 t) (sg7 t) (sw7 t) (sg8 t) (sw8 t) (sg9 t) (sw9 t) (b0 m ρ c t) (b1 m ρ c t) (b2 m ρ c t) (b3 m ρ c t) (b4 m ρ c t) (b5 m ρ c t) (b6 m ρ c t) (b7 m ρ c t) o8 o9 vp vs h1 h2 h3 h4 K)
      isplitr [Hk]
      · unfold Pre
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        iexists _; iexact HS1
      iintro HP
      iapply Hk
      iexists vp, hsN m ρ c
      isplitr
      swap
      · rw [show r8 m ρ c t o8 = _ from if_neg hu, show r9 m ρ c t o9 = _ from if_neg hu, osAt, hd]
        iexact HP
      ipureintro
      exact ⟨fun _ h => absurd h (by omega), fun _ => rfl⟩
    · have h2 : ¬(cond2 (grid0.coords t) = 1#1) := fun h => hf ((c2_iff t).mp h)
      have hv := hks (by omega)
      iintro ⟨⟨H0, H1, H2, H3, H4, H5, H6, H7, H8, H9, HS0, HS1⟩, Hk⟩
      iapply (bodyD c Set.univ (grid0.coords t) (sg0 t) (sw0 t) (sg1 t) (sw1 t) (sg2 t) (sw2 t) (sg3 t) (sw3 t) (sg4 t) (sw4 t) (sg5 t) (sw5 t) (sg6 t) (sw6 t) (sg7 t) (sw7 t) (sg8 t) (sw8 t) (sg9 t) (sw9 t) (b0 m ρ c t) (b1 m ρ c t) (b2 m ρ c t) (b3 m ρ c t) (b4 m ρ c t) (b5 m ρ c t) (b6 m ρ c t) (b7 m ρ c t) o8 o9 vp vs h1 h2 h3 h4 K)
      isplitr [Hk]
      · unfold Pre
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        iexact HS1
      iintro HP
      iapply Hk
      iexists vp, vs
      isplitr
      swap
      · rw [show r8 m ρ c t o8 = _ from if_neg hu, show r9 m ρ c t o9 = _ from if_neg hu, osAt, ← hv]
        iexact HP
      ipureintro
      exact ⟨fun _ h => absurd h (by omega), fun _ => hv⟩

/-! ## The obligation and the launch -/

theorem own_of {s : Shape} {e : EltTy} (M : Memref sig .tc .vmem s e) (hM : M.IsWhole) (c : Dev nD) (d : BufTy.Contents (Elt F) M.view.ty) :
    (M.view.loc (c : Thread nD τ) ↦{fullShare} d : sProp 𝕄) ⊢ owns (c : Thread nD τ) M fullShare (M.view.read (Elt F) d) := by
  unfold owns
  rw [hM.set_eq_univ]
  iintro H
  iexists d
  isplitr; · ipureintro; exact Eq.refl _
  iexact H
theorem of_own {s : Shape} {e : EltTy} (M : Memref sig .tc .vmem s e) (hM : M.IsWhole) (c : Dev nD) (v : s.Idx → Elt F e) :
    (owns (c : Thread nD τ) M fullShare v : sProp 𝕄) ⊢ iprop(∃ d, ⌜M.view.read (Elt F) d = v⌝ ∗ (M.view.loc (c : Thread nD τ) ↦{fullShare} d)) := by
  unfold owns
  rw [hM.set_eq_univ]

/-- What a point leaves in a result's buffer. -/
def leaves (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m ρ 0 c).before w t d))
    | true => owns (c : Thread nD τ) ((cfg0.win w).stage (cfg0.slots t w)) fullShare ((dats m ρ 0 c).after w t)
  | false => owns (c : Thread nD τ) ((cfg0.win w).stage (cfg0.slots t w)) fullShare ((dats m ρ 0 c).after w t)

theorem leaves8 (c : Dev nD) (t : Fin cfg0.N) (d) :
    (owns (c : Thread nD τ) (sg8 t) fullShare (r8 m ρ c t ((dats m ρ 0 c).before 8 t d)) : sProp 𝕄) ⊢ leaves m ρ c 8 t := by
  have hN : t.val < 54 := lt54 t
  unfold leaves
  rw [show cfg0.idle 8 (cfg0.grid.coords t) = !decide (t.val < 48) from idle8 t]
  by_cases hu : t.val < 48
  · rw [decide_eq_true hu, show r8 m ρ c t _ = _ from if_pos hu, after_8]
    rw [show last t = t from Fin.ext (by show min t.val 47 = t.val; omega)]
    exact .rfl
  · rw [decide_eq_false hu, show r8 m ρ c t _ = _ from if_neg hu, show (cfg0.win 8).flush t = decide (t.val = 53) from flush8 t hu]
    by_cases hl : t.val = 53
    · rw [decide_eq_true hl, before_8 m ρ c t hl]
      exact .rfl
    · rw [decide_eq_false hl]
      show _ ⊢ iprop(∃ d, owns (c : Thread nD τ) (sg8 t) fullShare ((dats m ρ 0 c).before 8 t d))
      iintro H; iexists d; iexact H
theorem leaves9 (c : Dev nD) (t : Fin cfg0.N) (d) :
    (owns (c : Thread nD τ) (sg9 t) fullShare (r9 m ρ c t ((dats m ρ 0 c).before 9 t d)) : sProp 𝕄) ⊢ leaves m ρ c 9 t := by
  have hN : t.val < 54 := lt54 t
  unfold leaves
  rw [show cfg0.idle 9 (cfg0.grid.coords t) = decide (t.val < 48) from idle9 t]
  by_cases hu : t.val < 48
  · rw [decide_eq_true hu, show r9 m ρ c t _ = _ from if_pos hu, show (cfg0.win 9).flush t = false from flush9 t hu]
    show _ ⊢ iprop(∃ d, owns (c : Thread nD τ) (sg9 t) fullShare ((dats m ρ 0 c).before 9 t d))
    iintro H; iexists d; iexact H
  · rw [decide_eq_false hu, show r9 m ρ c t _ = _ from if_neg hu, after_9]

set_option maxHeartbeats 1000000 in
theorem sound (c : Dev nD) (t : Fin cfg0.N) :
    iprop((dats m ρ 0 c).Φ t.castSucc ∗ (dats m ρ 0 c).owesAt () t.castSucc
        ∗ (∃ d, owns (c : Thread nD τ) (sg0 t) fullShare ((dats m ρ 0 c).before 0 t d))
        ∗ (∃ d, owns (c : Thread nD τ) (sg1 t) fullShare ((dats m ρ 0 c).before 1 t d))
        ∗ (∃ d, owns (c : Thread nD τ) (sg2 t) fullShare ((dats m ρ 0 c).before 2 t d))
        ∗ (∃ d, owns (c : Thread nD τ) (sg3 t) fullShare ((dats m ρ 0 c).before 3 t d))
        ∗ (∃ d, owns (c : Thread nD τ) (sg4 t) fullShare ((dats m ρ 0 c).before 4 t d))
        ∗ (∃ d, owns (c : Thread nD τ) (sg5 t) fullShare ((dats m ρ 0 c).before 5 t d))
        ∗ (∃ d, owns (c : Thread nD τ) (sg6 t) fullShare ((dats m ρ 0 c).before 6 t d))
        ∗ (∃ d, owns (c : Thread nD τ) (sg7 t) fullShare ((dats m ρ 0 c).before 7 t d))
        ∗ (∃ d, owns (c : Thread nD τ) (sg8 t) fullShare ((dats m ρ 0 c).before 8 t d))
        ∗ (∃ d, owns (c : Thread nD τ) (sg9 t) fullShare ((dats m ρ 0 c).before 9 t d)))
      ⊢ wp frame (wpE (defs₀ (F := F)) Variants.none c none) Set.univ (bodyAt0 t) fun _ =>
          iprop((dats m ρ 0 c).Φ t.succ ∗ (dats m ρ 0 c).owesAt () t.succ
            ∗ owns (c : Thread nD τ) (sg0 t) fullShare ((dats m ρ 0 c).after 0 t)
            ∗ owns (c : Thread nD τ) (sg1 t) fullShare ((dats m ρ 0 c).after 1 t)
            ∗ owns (c : Thread nD τ) (sg2 t) fullShare ((dats m ρ 0 c).after 2 t)
            ∗ owns (c : Thread nD τ) (sg3 t) fullShare ((dats m ρ 0 c).after 3 t)
            ∗ owns (c : Thread nD τ) (sg4 t) fullShare ((dats m ρ 0 c).after 4 t)
            ∗ owns (c : Thread nD τ) (sg5 t) fullShare ((dats m ρ 0 c).after 5 t)
            ∗ owns (c : Thread nD τ) (sg6 t) fullShare ((dats m ρ 0 c).after 6 t)
            ∗ owns (c : Thread nD τ) (sg7 t) fullShare ((dats m ρ 0 c).after 7 t)
            ∗ leaves m ρ c 8 t ∗ leaves m ρ c 9 t) := by
  simp only [before_0, before_1, before_2, before_3, before_4, before_5, before_6, before_7, after_0, after_1, after_2, after_3, after_4, after_5, after_6, after_7]
  rewrite [show (dats m ρ 0 c).Φ t.succ = Phi m ρ c (t.val + 1) from rfl, show (dats m ρ 0 c).Φ t.castSucc = Phi m ρ c t.val from rfl,
    show (dats m ρ 0 c).owesAt () t.succ = (dats m ρ 0 c).owesAt () t.castSucc from rfl]
  unfold Phi
  iintro ⟨⟨%a0, %a1, %hk, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body m ρ c t _ _ (hpM.view.read (Elt F) a0) (hsM.view.read (Elt F) a1) hk _)
  isplitr [Ho]
  · unfold Pre
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iapply (own_of hpM (Memref.isWhole_whole _) c a0); iexact HS0
    iapply (own_of hsM (Memref.isWhole_whole _) c a1); iexact HS1
  iintro ⟨%up, %us, %hk', H0, H1, H2, H3, H4, H5, H6, H7, H8, H9, HS0, HS1⟩
  ihave HS0 := (of_own hpM (Memref.isWhole_whole _) c up) $$ HS0
  ihave HS1 := (of_own hsM (Memref.isWhole_whole _) c us) $$ HS1
  icases HS0 with ⟨%e0, %he0, HS0⟩
  icases HS1 with ⟨%e1, %he1, HS1⟩
  subst he0; subst he1
  isplitl [HS0 HS1]
  · iexists e0, e1
    isplitr; · ipureintro; exact hk'
    isplitl [HS0]; · iexact HS0
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8 m ρ c t d8); iexact H8
  iapply (leaves9 m ρ c t d9); iexact H9

theorem bodyRow (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m ρ 0 c) (defs₀ (F := F)) Variants.none () Set.univ := fun t => by
  rw [bigSep_W0, bigSep_W0, bodyRow]
  exact sound m ρ c t

def u₀ : UR sig nD τ :=
  initOf (Pipeline.cells cfgs (launch₀0).cellOf_inj) (Pipeline.launchToks cfgs (launch₀0).cellOf_inj)

theorem kept_zero (c : Dev nD) (vp : Vec F S1024x2048 .bf16) (vs : Vec F S64x2048 .bf16) : kept m ρ c 0 vp vs :=
  ⟨fun h => absurd rfl h, fun h => absurd h (Nat.not_lt_zero _)⟩

theorem phi_in (c : Dev nD) : iprop(BI.emp ∗ Pipeline.scopedRest spec0 c) ⊢ (dats m ρ 0 c).Φ 0 := by
  rw [scopedRest0_eq, show (dats m ρ 0 c).Φ 0 = Phi m ρ c 0 from rfl]
  unfold Phi
  iintro ⟨-, ⟨%a0, HS0⟩, ⟨%a1, HS1⟩⟩
  iexists a0, a1
  isplitr
  · ipureintro; exact kept_zero m ρ c _ _
  isplitl [HS0]; · iexact HS0
  iexact HS1

theorem phi_out (c : Dev nD) : (dats m ρ 0 c).Φ (Fin.last cfg0.N) ⊢ iprop(BI.emp ∗ Pipeline.scopedRest spec0 c) := by
  rw [scopedRest0_eq, show (dats m ρ 0 c).Φ (Fin.last cfg0.N) = Phi m ρ c cfg0.N from rfl]
  unfold Phi
  iintro ⟨%a0, %a1, -, HS0, HS1⟩
  isplitr; · iempintro
  isplitl [HS0]
  · iexists a0; iexact HS0
  iexists a1; iexact HS1

/-- Every array as computed. -/
def Post : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option backward.isDefEq.respectTransparency.types false in
set_option maxHeartbeats 4000000 in
theorem run : θ_run (defs (F := F)) (onTc (τ := τ) (main (F := F))) (s₀ m ρ) (fun r => Post m ρ r ∧ r.2.sem = fun _ => 0) :=
  Pipeline.θ_run_region_noSem_pf_quiescent (fun p => (cfgs p).toPCfg) (fun p => (cfgs p).toPCfg_adm) (dats m ρ) () (launch₀0).cellOf_inj (0 : Fin 1)
    (launch₀0).win (Pipeline.PreFacts.none _) EP defs₀ Variants.none m ρ main
    (hbody := fun c => (obligation m ρ c).loose) (hne := (launch₀0).block_pos)
    (harr := (launch₀0).arr_whole) (hstage := (launch₀0).stage_whole) (howed := fun _ _ => rfl)
    (u₀ := u₀) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => (dats m ρ 0 c).arrays_split_shared (launch₀0).sharedIn (launch₀0).arr_whole (fun _ _ => rfl) _ _ fun _ => rfl)
    (hpf := fun _ k => k.elim0)
    (X := fun _ => iprop(emp)) (Y := fun _ => iprop(emp)) (Z := fun _ => iprop(emp))
    (hX := fun c => by rw [Pipeline.unscopedRestP_none, unscopedRest0_eq]; iintro -; isplitr <;> iempintro)
    (hin := fun c => (show _ ⊢ iprop(BI.emp ∗ Pipeline.scopedRest spec0 c) from by iintro ⟨HX, -, HR⟩; isplitl [HX] <;> iassumption).trans (phi_in m ρ c))
    (hout := phi_out m ρ)
    (QY := fun _ _ => True)
    (hY := fun c s' => by
      iintro ⟨-, -, HSI⟩; imodintro
      isplitr; · ipureintro; trivial
      iexact HSI)
    (hQ := fun _ h hz => ⟨fun c => (h c).1, hz⟩)

/-- The arguments end as they were, every semaphore at zero; the results' arrays are as computed. -/
theorem frame : θ_run (defs (F := F)) (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) ∧ ∀ c : Dev nD, r.2.mem ((cfg0.win 8).arr.view.loc (c : Thread nD τ)) = (dats m ρ 0 c).arrAt 8 cfg0.N
        ∧ r.2.mem ((cfg0.win 9).arr.view.loc (c : Thread nD τ)) = (dats m ρ 0 c).arrAt 9 cfg0.N) :=
  (θ_run defs _ _).mono (fun _ h => ⟨⟨fun c => ⟨(h.1 c 0).trans ((dats m ρ 0 c).arrAt_in 0 rfl _), (h.1 c 1).trans ((dats m ρ 0 c).arrAt_in 1 rfl _), (h.1 c 2).trans ((dats m ρ 0 c).arrAt_in 2 rfl _), (h.1 c 3).trans ((dats m ρ 0 c).arrAt_in 3 rfl _), (h.1 c 5).trans ((dats m ρ 0 c).arrAt_in 5 rfl _), (h.1 c 6).trans ((dats m ρ 0 c).arrAt_in 6 rfl _), (h.1 c 7).trans ((dats m ρ 0 c).arrAt_in 7 rfl _)⟩, h.2⟩, fun c => ⟨h.1 c 8, h.1 c 9⟩⟩) (run m ρ)

end Cert.Kernel3Ideal.In

end
-- ==== Proof.InMath.lean ====
module

public import Idealize.ShloMosaic.Lib.Claim
public import Idealize.ShloMosaic.PureOps.Ideal

/-! # The modulated normalisation in numbers -/

@[expose] public section

noncomputable section

namespace Cert.InM

open Idealize.ShloMosaic

/-- A row over the root of its mean square, times the gain, scaled and shifted. -/
def nrm (x g sc sh : Fin 2048 → EReal) (d : Fin 2048) : EReal :=
  x d * Ideal.rsqrt (Ideal.div (∑ k, x k * x k) (Ideal.ofBits FTy.f32 0x45000000#32) + Ideal.ofBits FTy.f32 0x358637BD#32) * g d * (1 + sc d) + sh d

theorem nrm_congr {x x' g g' sc sc' sh sh' : Fin 2048 → EReal} (hx : ∀ k, x k = x' k) (hg : ∀ k, g k = g' k) (hc : ∀ k, sc k = sc' k) (hh : ∀ k, sh k = sh' k) (d : Fin 2048) :
    nrm x g sc sh d = nrm x' g' sc' sh' d := by
  rw [funext hx, funext hg, funext hc, funext hh]

end Cert.InM

end
-- ==== Proof.InVal.lean ====
module

public import proofs.«01_k».proof.Proof.InRun
public import proofs.«01_k».proof.Proof.InMath
public import Idealize.ShloMosaic.Lib.Claim
public import Idealize.ShloMosaic.Lib.Pipeline.ValueKit
public import Idealize.ShloMosaic.Lib.Pointwise
public import Idealize.ShloMosaic.Lib.Pipeline.Covers

/-! # The input projection's results in numbers -/

@[expose] public section

set_option maxRecDepth 16384

noncomputable section

namespace Cert.Kernel3Ideal.In

open Cert.Kernel3Ideal Cert.Kernel3Ideal.Gen Cert.InM
open Idealize.ShloMosaic Idealize.ShloMosaic.TcCoe Idealize.SL.Sem
open Idealize.ShloMosaic.StableHlo
open Idealize.ShloMosaic.Pipeline (Dat)

/-! ## The payloads -/

theorem pay1_at (g : FVec Ideal S1x2048 .f32) (sh sc : FVec Ideal S1x1x1x2048 .f32) (x : FVec Ideal S256x2048 .f32) (r : Fin 256) (d : Fin 2048) :
    k0_pay1 (F := Ideal) g sh sc x (ix2 r d) = nrm (fun k => x (ix2 r k)) (fun k => g (ix2 0 k)) (fun k => sc (ix4 0 0 0 k)) (fun k => sh (ix4 0 0 0 k)) d := by
  unfold nrm
  pointwise [k0_pay1]

theorem mask : ∀ r : Fin 64, IntOp.cmpi CmpIPredicate.slt (IntOp.andi (BitVec.ofNat 32 r.val) 7#32) 4#32 = if r.val % 8 < 4 then 1#1 else 0#1 := by decide +kernel

theorem select_of (p : Prop) [Decidable p] (a b : EReal) : Scalar.select (if p then 1#1 else 0#1 : BitVec 1) a b = if p then a else b := by
  by_cases h : p
  · rw [if_pos h, if_pos h]; rfl
  · rw [if_neg h, if_neg h]; rfl

theorem pay2_at (g : FVec Ideal S1x2048 .f32) (x sh sc : FVec Ideal S64x2048 .f32) (r : Fin 64) (d : Fin 2048) :
    k0_pay2 (F := Ideal) g x sh sc (ix2 r d)
      = if r.val % 8 < 4 then nrm (fun k => x (ix2 r k)) (fun k => g (ix2 0 k)) (fun k => sc (ix2 r k)) (fun k => sh (ix2 r k)) d else 0 := by
  unfold nrm
  pointwise [k0_pay2]
  rw [mask]
  exact select_of _ _ _

theorem pay3_at (v : FVec Ideal S512x2048 .bf16) (w : FVec Ideal S2048x1024 .bf16) (r : Fin 512) (d : Fin 1024) :
    k0_pay3 (F := Ideal) v w (ix3 0 r d) = ∑ k : Fin 2048, v (ix2 r k) * w (ix2 k d) := by
  pointwise [k0_pay3]
theorem pay4_at (v : FVec Ideal S64x2048 .bf16) (w : FVec Ideal S2048x1024 .bf16) (r : Fin 64) (d : Fin 1024) :
    k0_pay4 (F := Ideal) v w (ix3 0 r d) = ∑ k : Fin 2048, v (ix2 r k) * w (ix2 k d) := by
  pointwise [k0_pay4]

/-! ## A tile's pieces together -/

theorem off2_eq : ∀ k : Fin k0_t1_loop.trips, k0_off2 k = ![256 * k.val, 0] := by decide +kernel
theorem off3_eq : ∀ k : Fin k0_t2_loop.trips, k0_off3 k = ![512 * k.val, 0] := by decide +kernel

theorem xRows_at (x : FVec Ideal S1024x2048 .f32) (k : Fin k0_t1_loop.trips) (r : Fin 256) (d : Fin 2048) (R : Fin 1024) (h : R.val = 256 * k.val + r.val) :
    xRows (F := Ideal) x k (ix2 r d) = x (ix2 R d) := by
  unfold xRows
  refine congrArg x (funext fun b => Fin.ext ?_)
  show k0_off2 k b + 1 * (ix2 r d b).val = _
  rw [off2_eq]
  fin_cases b
  · show 256 * k.val + 1 * r.val = R.val; omega
  · show 0 + 1 * d.val = d.val; omega
theorem hRows_at (v : FVec Ideal S1024x2048 .bf16) (k : Fin k0_t2_loop.trips) (r : Fin 512) (d : Fin 2048) (R : Fin 1024) (h : R.val = 512 * k.val + r.val) :
    hRows (F := Ideal) v k (ix2 r d) = v (ix2 R d) := by
  unfold hRows
  refine congrArg v (funext fun b => Fin.ext ?_)
  show k0_off3 k b + 1 * (ix2 r d b).val = _
  rw [off3_eq]
  fin_cases b
  · show 512 * k.val + 1 * r.val = R.val; omega
  · show 0 + 1 * d.val = d.val; omega

theorem hp_at (g : FVec Ideal S1x2048 .f32) (sh sc : FVec Ideal S1x1x1x2048 .f32) (x : FVec Ideal S1024x2048 .f32) (r : Fin 1024) (d : Fin 2048) :
    hp (F := Ideal) g sh sc x (ix2 r d) = nrm (fun k => x (ix2 r k)) (fun k => g (ix2 0 k)) (fun k => sc (ix4 0 0 0 k)) (fun k => sh (ix4 0 0 0 k)) d := by
  unfold hp
  have hk : r.val / 256 < k0_t1_loop.trips := by rw [trips4]; omega
  refine (congrArg (k0_pay1 (F := Ideal) g sh sc (xRows x ⟨r.val / 256, hk⟩)) (show _ = ix2 (⟨r.val % 256, by omega⟩ : Fin 256) d from funext fun b => Fin.ext ?_)).trans ?_
  · fin_cases b
    · show r.val - 256 * (r.val / 256) = r.val % 256; omega
    · show d.val - 0 = d.val; omega
  · refine (pay1_at _ _ _ _ _ _).trans (nrm_congr (fun k => ?_) (fun _ => rfl) (fun _ => rfl) (fun _ => rfl) d)
    exact xRows_at x _ _ k r (by show r.val = 256 * (r.val / 256) + r.val % 256; omega)

theorem op_at (v : FVec Ideal S1024x2048 .bf16) (w : FVec Ideal S2048x1024 .bf16) (r d : Fin 1024) :
    op (F := Ideal) v w (ix3 0 r d) = ∑ k : Fin 2048, v (ix2 r k) * w (ix2 k d) := by
  unfold op
  have hk : r.val / 512 < k0_t2_loop.trips := by rw [trips2]; omega
  refine (congrArg (k0_pay3 (F := Ideal) (hRows v ⟨r.val / 512, hk⟩) w) (show _ = ix3 (0 : Fin 1) (⟨r.val % 512, by omega⟩ : Fin 512) d from funext fun b => Fin.ext ?_)).trans ?_
  · fin_cases b
    · rfl
    · show r.val - 512 * (r.val / 512) = r.val % 512; omega
    · show d.val - 0 = d.val; omega
  · refine (pay3_at _ _ _ _).trans (Finset.sum_congr rfl fun k _ => ?_)
    rw [hRows_at v _ _ k r (by show r.val = 512 * (r.val / 512) + r.val % 512; omega)]

/-! ## The blocks -/

theorem tr0 : ∀ t : Fin grid0.N, cc0_transform_0 (grid0.coords t) = ![min (t.val / 6) 7, 0] := by decide +kernel
theorem tr1 : ∀ t : Fin grid0.N, cc0_transform_1 (grid0.coords t) = ![0, 0] := by decide +kernel
theorem tr2 : ∀ t : Fin grid0.N, cc0_transform_2 (grid0.coords t) = ![0, 0] := by decide +kernel
theorem tr3 : ∀ t : Fin grid0.N, cc0_transform_3 (grid0.coords t) = ![0, 0, 0, 0] := by decide +kernel
theorem tr4 : ∀ t : Fin grid0.N, cc0_transform_4 (grid0.coords t) = ![0, 1, 0, 0] := by decide +kernel
theorem tr5 : ∀ t : Fin grid0.N, cc0_transform_5 (grid0.coords t) = ![0, 0] := by decide +kernel
theorem tr6 : ∀ t : Fin grid0.N, cc0_transform_6 (grid0.coords t) = ![0, 0] := by decide +kernel
theorem tr7 : ∀ t : Fin grid0.N, cc0_transform_7 (grid0.coords t) = ![0, t.val % 6] := by decide +kernel
theorem tr8 : ∀ t : Fin grid0.N, cc0_transform_8 (grid0.coords t) = ![(min t.val 47) % 6, (min t.val 47) / 6, 0] := by decide +kernel
theorem tr9 : ∀ t : Fin grid0.N, cc0_transform_9 (grid0.coords t) = ![t.val - 48, 0, 0] := by decide +kernel
theorem off1_eq : ∀ t : Fin grid0.N, t.val < 48 → k0_off1 (grid0.coords t) = ![0, 0, t.val / 12, 0] := by decide +kernel

variable (m : (ℓ : Loc nD τ sig) → Buf (Elt Ideal) ℓ) (ρ : Dev nD → PrngReg)

/-- The arguments as launched. -/
abbrev Xp (c : Dev nD) : FVec Ideal S8192x2048 .f32 := m ((c : Thread nD τ).loc main_arg0)
abbrev Xs (c : Dev nD) : FVec Ideal S64x2048 .f32 := m ((c : Thread nD τ).loc main_arg1)
abbrev Gn (c : Dev nD) : FVec Ideal S1x2048 .f32 := m ((c : Thread nD τ).loc main_arg2)
abbrev Md (c : Dev nD) : FVec Ideal S4x6x16x2048 .f32 := m ((c : Thread nD τ).loc main_arg3)
abbrev Sh (c : Dev nD) : FVec Ideal S64x2048 .f32 := m ((c : Thread nD τ).loc main_arg4)
abbrev Sc (c : Dev nD) : FVec Ideal S64x2048 .f32 := m ((c : Thread nD τ).loc main_arg5)
abbrev Wt (c : Dev nD) : FVec Ideal S2048x6144 .bf16 := m ((c : Thread nD τ).loc main_arg6)

theorem b0_at (c : Dev nD) (t : Fin cfg0.N) (r : Fin 1024) (k : Fin 2048) (R : Fin 8192) (h : R.val = min (t.val / 6) 7 * 1024 + r.val) :
    b0 m ρ c t (ix2 r k) = Xp m c (ix2 R k) := by
  unfold b0 iblk
  refine congrArg (m ((c : Thread nD τ).loc main_arg0)) (funext fun b => Fin.ext ?_)
  show cc0_transform_0 (grid0.coords t) b * S1024x2048.size b + 1 * (ix2 r k b).val = _
  rw [tr0]
  fin_cases b
  · show min (t.val / 6) 7 * 1024 + 1 * r.val = R.val; omega
  · show 0 * 2048 + 1 * k.val = k.val; omega
theorem b1_at (c : Dev nD) (t : Fin cfg0.N) (r : Fin 64) (k : Fin 2048) : b1 m ρ c t (ix2 r k) = Xs m c (ix2 r k) := by
  unfold b1 iblk
  refine congrArg (m ((c : Thread nD τ).loc main_arg1)) (funext fun b => Fin.ext ?_)
  show cc0_transform_1 (grid0.coords t) b * S64x2048.size b + 1 * (ix2 r k b).val = _
  rw [tr1]
  fin_cases b
  · show 0 * 64 + 1 * r.val = r.val; omega
  · show 0 * 2048 + 1 * k.val = k.val; omega
theorem b5_at (c : Dev nD) (t : Fin cfg0.N) (r : Fin 64) (k : Fin 2048) : b5 m ρ c t (ix2 r k) = Sh m c (ix2 r k) := by
  unfold b5 iblk
  refine congrArg (m ((c : Thread nD τ).loc main_arg4)) (funext fun b => Fin.ext ?_)
  show cc0_transform_5 (grid0.coords t) b * S64x2048.size b + 1 * (ix2 r k b).val = _
  rw [tr5]
  fin_cases b
  · show 0 * 64 + 1 * r.val = r.val; omega
  · show 0 * 2048 + 1 * k.val = k.val; omega
theorem b6_at (c : Dev nD) (t : Fin cfg0.N) (r : Fin 64) (k : Fin 2048) : b6 m ρ c t (ix2 r k) = Sc m c (ix2 r k) := by
  unfold b6 iblk
  refine congrArg (m ((c : Thread nD τ).loc main_arg5)) (funext fun b => Fin.ext ?_)
  show cc0_transform_6 (grid0.coords t) b * S64x2048.size b + 1 * (ix2 r k b).val = _
  rw [tr6]
  fin_cases b
  · show 0 * 64 + 1 * r.val = r.val; omega
  · show 0 * 2048 + 1 * k.val = k.val; omega
theorem b2_at (c : Dev nD) (t : Fin cfg0.N) (k : Fin 2048) : b2 m ρ c t (ix2 0 k) = Gn m c (ix2 0 k) := by
  unfold b2 iblk
  refine congrArg (m ((c : Thread nD τ).loc main_arg2)) (funext fun b => Fin.ext ?_)
  show cc0_transform_2 (grid0.coords t) b * S1x2048.size b + 1 * (ix2 (n0 := 1) 0 k b).val = _
  rw [tr2]
  fin_cases b
  · rfl
  · show 0 * 2048 + 1 * k.val = k.val; omega
theorem b3_at (c : Dev nD) (t : Fin cfg0.N) (r : Fin 16) (k : Fin 2048) : b3 m ρ c t (ix4 0 0 r k) = Md m c (ix4 0 0 r k) := by
  unfold b3 iblk
  refine congrArg (m ((c : Thread nD τ).loc main_arg3)) (funext fun b => Fin.ext ?_)
  show cc0_transform_3 (grid0.coords t) b * S1x1x16x2048.size b + 1 * (ix4 (n0 := 1) (n1 := 1) 0 0 r k b).val = _
  rw [tr3]
  fin_cases b
  · rfl
  · rfl
  · show 0 * 16 + 1 * r.val = r.val; omega
  · show 0 * 2048 + 1 * k.val = k.val; omega
theorem b4_at (c : Dev nD) (t : Fin cfg0.N) (r : Fin 16) (k : Fin 2048) : b4 m ρ c t (ix4 0 0 r k) = Md m c (ix4 0 1 r k) := by
  unfold b4 iblk
  refine congrArg (m ((c : Thread nD τ).loc main_arg3)) (funext fun b => Fin.ext ?_)
  show cc0_transform_4 (grid0.coords t) b * S1x1x16x2048.size b + 1 * (ix4 (n0 := 1) (n1 := 1) 0 0 r k b).val = _
  rw [tr4]
  fin_cases b
  · rfl
  · rfl
  · show 0 * 16 + 1 * r.val = r.val; omega
  · show 0 * 2048 + 1 * k.val = k.val; omega
theorem b7_at (c : Dev nD) (t : Fin cfg0.N) (k : Fin 2048) (d : Fin 1024) (D : Fin 6144) (h : D.val = t.val % 6 * 1024 + d.val) :
    b7 m ρ c t (ix2 k d) = Wt m c (ix2 k D) := by
  unfold b7 iblk
  refine congrArg (m ((c : Thread nD τ).loc main_arg6)) (funext fun b => Fin.ext ?_)
  show cc0_transform_7 (grid0.coords t) b * S2048x1024.size b + 1 * (ix2 k d b).val = _
  rw [tr7]
  fin_cases b
  · show 0 * 2048 + 1 * k.val = k.val; omega
  · show t.val % 6 * 1024 + 1 * d.val = D.val; omega

theorem row_at (t : Fin grid0.N) (h1 : k0_cond1 (grid0.coords t) = 1#1) (x : FVec Ideal S1x1x16x2048 .f32) (k : Fin 2048) (b : Fin 16) (hb : b.val = t.val / 12) :
    row (F := Ideal) (grid0.coords t) h1 x (ix4 0 0 0 k) = x (ix4 0 0 b k) := by
  unfold row
  refine congrArg x (funext fun a => Fin.ext ?_)
  show k0_off1 (grid0.coords t) a + 1 * (ix4 (n0 := 1) (n1 := 1) (n2 := 1) 0 0 0 k a).val = _
  rw [off1_eq t ((c1_iff t).mp h1).1]
  fin_cases a
  · rfl
  · rfl
  · show t.val / 12 + 1 * 0 = b.val; omega
  · show 0 + 1 * k.val = k.val; omega

/-! ## The results -/

/-- The prompt rows' result: each normalised row, modulated by its sequence's scale and shift, through the matrix; the columns in six groups. -/
def G8 (X : FVec Ideal S8192x2048 .f32) (g : FVec Ideal S1x2048 .f32) (M : FVec Ideal S4x6x16x2048 .f32) (W : FVec Ideal S2048x6144 .bf16) : FVec Ideal S6x8192x1024 .f32 := fun y =>
  ∑ k : Fin 2048, (nrm (fun k => X (ix2 (y 1) k)) (fun k => g (ix2 0 k))
      (fun k => M (ix4 0 1 ⟨(y 1).val / 2048, by have : (y 1).val < 8192 := (y 1).isLt; omega⟩ k))
      (fun k => M (ix4 0 0 ⟨(y 1).val / 2048, by have : (y 1).val < 8192 := (y 1).isLt; omega⟩ k)) k : EReal)
    * W (ix2 k ⟨(y 0).val * 1024 + (y 2).val, by have : (y 0).val < 6 := (y 0).isLt; have : (y 2).val < 1024 := (y 2).isLt; omega⟩)
/-- The small rows' result, the padding rows zero. -/
def G9 (X : FVec Ideal S64x2048 .f32) (g : FVec Ideal S1x2048 .f32) (sh sc : FVec Ideal S64x2048 .f32) (W : FVec Ideal S2048x6144 .bf16) : FVec Ideal S6x64x1024 .f32 := fun y =>
  ∑ k : Fin 2048, (if (y 1).val % 8 < 4 then nrm (fun k => X (ix2 (y 1) k)) (fun k => g (ix2 0 k)) (fun k => sc (ix2 (y 1) k)) (fun k => sh (ix2 (y 1) k)) k else 0 : EReal)
    * W (ix2 k ⟨(y 0).val * 1024 + (y 2).val, by have : (y 0).val < 6 := (y 0).isLt; have : (y 2).val < 1024 := (y 2).isLt; omega⟩)

theorem opAt_at (c : Dev nD) (u : Fin cfg0.N) (hu : u.val < 48) (r d : Fin 1024) :
    opAt m ρ c u (ix3 0 r d) = G8 (Xp m c) (Gn m c) (Md m c) (Wt m c) (ix3 ⟨u.val % 6, by omega⟩ ⟨u.val / 6 * 1024 + r.val, by omega⟩ d) := by
  unfold opAt G8
  refine (op_at _ _ r d).trans (Finset.sum_congr rfl fun k _ => ?_)
  refine congrArg₂ (HMul.hMul (α := EReal) (β := EReal) (γ := EReal)) ?_ (b7_at m ρ c u k d _ rfl)
  unfold hpN hpAt
  have hh : (head u.val).val = 6 * (u.val / 6) := by show 6 * (min u.val 47 / 6) = _; omega
  refine (hp_at _ _ _ _ r k).trans (nrm_congr (fun k => ?_) (fun k => b2_at m ρ c _ k) (fun k => ?_) (fun k => ?_) k)
  · exact b0_at m ρ c _ r k _ (by show u.val / 6 * 1024 + r.val = _; rw [hh]; omega)
  · exact (row_at _ _ _ k _ (by show (u.val / 6 * 1024 + r.val) / 2048 = _; rw [hh]; omega)).trans (b4_at m ρ c _ _ k)
  · exact (row_at _ _ _ k _ (by show (u.val / 6 * 1024 + r.val) / 2048 = _; rw [hh]; omega)).trans (b3_at m ρ c _ _ k)

theorem osAt_at (c : Dev nD) (t : Fin cfg0.N) (ht : ¬ t.val < 48) (r : Fin 64) (d : Fin 1024) :
    osAt m ρ c t (ix3 0 r d) = G9 (Xs m c) (Gn m c) (Sh m c) (Sc m c) (Wt m c) (ix3 ⟨t.val - 48, by have := lt54 t; omega⟩ r d) := by
  have hN := lt54 t
  unfold osAt G9
  refine (pay4_at _ _ r d).trans (Finset.sum_congr rfl fun k _ => ?_)
  refine congrArg₂ (HMul.hMul (α := EReal) (β := EReal) (γ := EReal)) ?_ (b7_at m ρ c t k d _ (by show (t.val - 48) * 1024 + d.val = _; omega))
  unfold hsN
  refine (pay2_at _ _ _ _ r k).trans ?_
  show (if r.val % 8 < 4 then _ else _) = if r.val % 8 < 4 then _ else _
  by_cases h : r.val % 8 < 4
  · rw [if_pos h, if_pos h]
    exact nrm_congr (fun k => b1_at m ρ c _ r k) (fun k => b2_at m ρ c _ k) (fun k => b6_at m ρ c _ r k) (fun k => b5_at m ρ c _ r k) k
  · rw [if_neg h, if_neg h]

/-! ## The arrays at the end -/

theorem size8 : ∀ b : Fin 3, 0 < S1x1024x1024.size b := by decide
theorem size9 : ∀ b : Fin 3, 0 < S1x64x1024.size b := by decide
theorem nblk8_0 : (cfg0.win (8 : Fin 10)).nblk (0 : Fin 3) = 6 := by show Nat.div (6 + 0) 1 = 6; decide
theorem nblk8_1 : (cfg0.win (8 : Fin 10)).nblk (1 : Fin 3) = 8 := by show Nat.div (8192 + 1023) 1024 = 8; decide
theorem nblk8_2 : (cfg0.win (8 : Fin 10)).nblk (2 : Fin 3) = 1 := by show Nat.div (1024 + 1023) 1024 = 1; decide
theorem nblk9_0 : (cfg0.win (9 : Fin 10)).nblk (0 : Fin 3) = 6 := by show Nat.div (6 + 0) 1 = 6; decide
theorem nblk9_1 : (cfg0.win (9 : Fin 10)).nblk (1 : Fin 3) = 1 := by show Nat.div (64 + 63) 64 = 1; decide
theorem nblk9_2 : (cfg0.win (9 : Fin 10)).nblk (2 : Fin 3) = 1 := by show Nat.div (1024 + 1023) 1024 = 1; decide

theorem covers8 : (cfg0.win (8 : Fin 10)).Covers := by
  refine (cfg0.win (8 : Fin 10)).covers_of_indexMap_surj rfl size8 fun β => ?_
  have h0 : (β (0 : Fin 3)).val < 6 := lt_of_lt_of_le (β (0 : Fin 3)).isLt nblk8_0.le
  have h1 : (β (1 : Fin 3)).val < 8 := lt_of_lt_of_le (β (1 : Fin 3)).isLt nblk8_1.le
  have h2 : (β (2 : Fin 3)).val < 1 := lt_of_lt_of_le (β (2 : Fin 3)).isLt nblk8_2.le
  have hN : 6 * (β (1 : Fin 3)).val + (β (0 : Fin 3)).val < grid0.N := by rw [N_0]; omega
  refine ⟨grid0.coords ⟨_, hN⟩, fun b => ?_⟩
  refine (congrFun (tr8 ⟨_, hN⟩) b).trans ?_
  fin_cases b
  · show min (6 * (β (1 : Fin 3)).val + (β (0 : Fin 3)).val) 47 % 6 = (β (0 : Fin 3)).val; omega
  · show min (6 * (β (1 : Fin 3)).val + (β (0 : Fin 3)).val) 47 / 6 = (β (1 : Fin 3)).val; omega
  · show 0 = (β (2 : Fin 3)).val; omega
theorem covers9 : (cfg0.win (9 : Fin 10)).Covers := by
  refine (cfg0.win (9 : Fin 10)).covers_of_indexMap_surj rfl size9 fun β => ?_
  have h0 : (β (0 : Fin 3)).val < 6 := lt_of_lt_of_le (β (0 : Fin 3)).isLt nblk9_0.le
  have h1 : (β (1 : Fin 3)).val < 1 := lt_of_lt_of_le (β (1 : Fin 3)).isLt nblk9_1.le
  have h2 : (β (2 : Fin 3)).val < 1 := lt_of_lt_of_le (β (2 : Fin 3)).isLt nblk9_2.le
  have hN : 48 + (β (0 : Fin 3)).val < grid0.N := by rw [N_0]; omega
  refine ⟨grid0.coords ⟨_, hN⟩, fun b => ?_⟩
  refine (congrFun (tr9 ⟨_, hN⟩) b).trans ?_
  fin_cases b
  · show 48 + (β (0 : Fin 3)).val - 48 = (β (0 : Fin 3)).val; omega
  · show 0 = (β (1 : Fin 3)).val; omega
  · show 0 = (β (2 : Fin 3)).val; omega

theorem final8 (c : Dev nD) : (dats m ρ 0 c).arrAt (8 : Fin 10) cfg0.N = G8 (Xp m c) (Gn m c) (Md m c) (Wt m c) := by
  refine (dats m ρ 0 c).arrAt_eq_of_covers (8 : Fin 10) _ covers8 fun t _ y => ?_
  blk_simp
  rw [after_8]
  idx_vars y
  have hl : (last t).val = min t.val 47 := rfl
  rw [show y0 = 0 from Subsingleton.elim (α := Fin 1) _ _]
  refine (opAt_at m ρ c (last t) (by omega) y1 y2).trans (congrArg _ (funext fun b => Fin.ext ?_))
  show _ = cc0_transform_8 (grid0.coords t) b * S1x1024x1024.size b + 1 * (ix3 (n0 := 1) 0 y1 y2 b).val
  rw [tr8]
  fin_cases b
  · show min t.val 47 % 6 = min t.val 47 % 6 * 1 + 1 * 0; omega
  · show min t.val 47 / 6 * 1024 + y1.val = min t.val 47 / 6 * 1024 + 1 * y1.val; omega
  · show y2.val = 0 * 1024 + 1 * y2.val; omega

theorem final9 (c : Dev nD) : (dats m ρ 0 c).arrAt (9 : Fin 10) cfg0.N = G9 (Xs m c) (Gn m c) (Sh m c) (Sc m c) (Wt m c) := by
  refine (dats m ρ 0 c).arrAt_eq_of_covers (9 : Fin 10) _ covers9 fun t hf y => ?_
  have ht : ¬ t.val < 48 := fun h => Bool.false_ne_true ((flush9 t h).symm.trans hf)
  blk_simp
  rw [after_9]
  idx_vars y
  rw [show y0 = 0 from Subsingleton.elim (α := Fin 1) _ _]
  refine (osAt_at m ρ c t ht y1 y2).trans (congrArg _ (funext fun b => Fin.ext ?_))
  show _ = cc0_transform_9 (grid0.coords t) b * S1x64x1024.size b + 1 * (ix3 (n0 := 1) 0 y1 y2 b).val
  rw [tr9]
  fin_cases b
  · show t.val - 48 = (t.val - 48) * 1 + 1 * 0; omega
  · show y1.val = 0 * 64 + 1 * y1.val; omega
  · show y2.val = 0 * 1024 + 1 * y2.val; omega

end Cert.Kernel3Ideal.In

end
-- ==== Proof.InRef.lean ====
module

public import proofs.«01_k».proof.Proof.Gen.Reference3Ideal.Run
public import proofs.«01_k».proof.Proof.InMath
public import Idealize.ShloMosaic.Lib.Claim
public import Idealize.ShloMosaic.Lib.Pipeline.ValueKit
public import Idealize.ShloMosaic.Lib.Pointwise

/-! # The reference's input projection in numbers -/

@[expose] public section

set_option maxRecDepth 16384

noncomputable section

namespace Cert.Reference3Ideal.In

open Cert.Reference3Ideal Cert.Reference3Ideal.Gen Cert.InM
open Idealize.ShloMosaic Idealize.ShloMosaic.TcCoe Idealize.SL.Sem
open Idealize.ShloMosaic.StableHlo

/-- The prompt's shifts and scales. -/
def mods (M : FVec Ideal S4x6x16x2048 .f32) : FVec Ideal S2x4x1x2048 .f32 :=
  broadcastInDim S2x4x1x2048 ![0, 1, 3] bcast_S2x4x2048_S2x4x1x2048_0_1_3 (shapeCast _ (extractStridedSlice S1x2x4x2048 ![0, 0, 0, 0] M slices_S4x6x16x2048_S1x2x4x2048_0_0_0_0) shapeCasts_S1x2x4x2048_S2x4x2048)
theorem mods_at (M : FVec Ideal S4x6x16x2048 .f32) (i : Fin 2) (b : Fin 4) (k : Fin 2048) :
    mods M (ix4 i b 0 k) = M (ix4 0 ⟨i.val, by omega⟩ ⟨b.val, by omega⟩ k) := by
  pointwise [mods]
def shiftP (M : FVec Ideal S4x6x16x2048 .f32) : FVec Ideal S4x1x2048 .f32 :=
  shapeCast _ (extractStridedSlice S1x4x1x2048 ![0, 0, 0, 0] (mods M) slices_S2x4x1x2048_S1x4x1x2048_0_0_0_0) shapeCasts_S1x4x1x2048_S4x1x2048
def scaleP (M : FVec Ideal S4x6x16x2048 .f32) : FVec Ideal S4x1x2048 .f32 :=
  shapeCast _ (extractStridedSlice S1x4x1x2048 ![1, 0, 0, 0] (mods M) slices_S2x4x1x2048_S1x4x1x2048_1_0_0_0) shapeCasts_S1x4x1x2048_S4x1x2048
theorem shiftP_at (M : FVec Ideal S4x6x16x2048 .f32) (b : Fin 4) (k : Fin 2048) : shiftP M (ix3 b 0 k) = M (ix4 0 0 ⟨b.val, by omega⟩ k) := by
  refine Eq.trans ?_ (mods_at M 0 b k)
  pointwise [shiftP]
theorem scaleP_at (M : FVec Ideal S4x6x16x2048 .f32) (b : Fin 4) (k : Fin 2048) : scaleP M (ix3 b 0 k) = M (ix4 0 1 ⟨b.val, by omega⟩ k) := by
  refine Eq.trans ?_ (mods_at M 1 b k)
  pointwise [scaleP]

/-- The rows by sequence. -/
def seqs (X : FVec Ideal S8192x2048 .f32) : FVec Ideal S4x2048x2048 .f32 := shapeCast _ X shapeCasts_S8192x2048_S4x2048x2048
theorem seqs_at (X : FVec Ideal S8192x2048 .f32) (b : Fin 4) (s k : Fin 2048) : seqs X (ix3 b s k) = X (ix2 ⟨b.val * 2048 + s.val, by omega⟩ k) := by
  pointwise [seqs]

/-- The modulated normalised rows. -/
def nrmP (X : FVec Ideal S4x2048x2048 .f32) (g : FVec Ideal S1x2048 .f32) (sc sh : FVec Ideal S4x1x2048 .f32) : FVec Ideal S4x2048x2048 .f32 :=
  addf (mulf (mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ g shapeCasts_S1x2048_S2048)))) (broadcastInDim S4x2048x2048 ![0, 1, 2] bcast_S4x1x2048_S4x2048x2048_0_1_2 (addf (broadcastInDim S4x1x2048 ![] bcast_S_S4x1x2048 (constant S_ .f32 0x3F800000#32)) sc))) (broadcastInDim S4x2048x2048 ![0, 1, 2] bcast_S4x1x2048_S4x2048x2048_0_1_2 sh)
theorem nrmP_at (X : FVec Ideal S4x2048x2048 .f32) (g : FVec Ideal S1x2048 .f32) (sc sh : FVec Ideal S4x1x2048 .f32) (b : Fin 4) (s d : Fin 2048) :
    nrmP X g sc sh (ix3 b s d) = nrm (fun k => X (ix3 b s k)) (fun k => g (ix2 0 k)) (fun k => sc (ix3 b 0 k)) (fun k => sh (ix3 b 0 k)) d := by
  unfold nrm
  pointwise [nrmP]

/-- The prompt rows' result. -/
def outP (H : FVec Ideal S4x2048x2048 .f32) (W : FVec Ideal S2048x6144 .bf16) : FVec Ideal S6x8192x1024 .f32 :=
  transpose S6x8192x1024 [1, 0, 2] (shapeCast _ (shapeCast _ (Host.dotGeneral dot_S4x2048x2048_S2048x6144_S4x2048x6144_2_0_01_1_n_n none H (extf .f32 W bitsLt_bf16_f32)) shapeCasts_S4x2048x6144_S8192x6144) shapeCasts_S8192x6144_S8192x6x1024) transposes_S8192x6x1024_S6x8192x1024_1_0_2
theorem outP_at (H : FVec Ideal S4x2048x2048 .f32) (W : FVec Ideal S2048x6144 .bf16) (j : Fin 6) (r : Fin 8192) (d : Fin 1024) :
    outP H W (ix3 j r d) = ∑ k : Fin 2048, (H (ix3 ⟨r.val / 2048, by omega⟩ ⟨r.val % 2048, by omega⟩ k) : EReal) * W (ix2 k ⟨j.val * 1024 + d.val, by omega⟩) := by
  pointwise [outP]

/-- Which small rows are not padding. -/
def live : IVec S64 1 :=
  cmpi .slt (select (andi (cmpi .ne (cmpi .slt (Host.remsi (iotaInDim S64 32 0) (broadcastInDim S64 ![] bcast_S_S64 (select (cmpi .eq (id (constantI S_ 32 8#32)) (constantI S_ 32 0#32)) (constantI S_ 32 1#32) (id (constantI S_ 32 8#32))))) (broadcastInDim S64 ![] bcast_S_S64 (constantI S_ 32 0#32))) (broadcastInDim S64 ![] bcast_S_S64 (cmpi .slt (select (cmpi .eq (id (constantI S_ 32 8#32)) (constantI S_ 32 0#32)) (constantI S_ 32 1#32) (id (constantI S_ 32 8#32))) (constantI S_ 32 0#32)))) (cmpi .ne (Host.remsi (iotaInDim S64 32 0) (broadcastInDim S64 ![] bcast_S_S64 (select (cmpi .eq (id (constantI S_ 32 8#32)) (constantI S_ 32 0#32)) (constantI S_ 32 1#32) (id (constantI S_ 32 8#32))))) (broadcastInDim S64 ![] bcast_S_S64 (constantI S_ 32 0#32)))) (addi (Host.remsi (iotaInDim S64 32 0) (broadcastInDim S64 ![] bcast_S_S64 (select (cmpi .eq (id (constantI S_ 32 8#32)) (constantI S_ 32 0#32)) (constantI S_ 32 1#32) (id (constantI S_ 32 8#32))))) (broadcastInDim S64 ![] bcast_S_S64 (select (cmpi .eq (id (constantI S_ 32 8#32)) (constantI S_ 32 0#32)) (constantI S_ 32 1#32) (id (constantI S_ 32 8#32))))) (Host.remsi (iotaInDim S64 32 0) (broadcastInDim S64 ![] bcast_S_S64 (select (cmpi .eq (id (constantI S_ 32 8#32)) (constantI S_ 32 0#32)) (constantI S_ 32 1#32) (id (constantI S_ 32 8#32)))))) (broadcastInDim S64 ![] bcast_S_S64 (constantI S_ 32 4#32))
theorem live_at : ∀ r : Fin 64, live (ix1 r) = if r.val % 8 < 4 then 1#1 else 0#1 := by
  intro r
  pointwise [live]
  revert r
  decide +kernel

/-- The modulated normalised small rows. -/
def nrmS (X : FVec Ideal S64x2048 .f32) (g : FVec Ideal S1x2048 .f32) (sc sh : FVec Ideal S64x2048 .f32) : FVec Ideal S64x2048 .f32 :=
  addf (mulf (mulf (mulf X (broadcastInDim S64x2048 ![0, 1] bcast_S64x1_S64x2048_0_1 (Host.rsqrt (addf (Host.divf (broadcastInDim S64x1 ![0] bcast_S64_S64x1_0 (Host.reduceAdd (mulf X X) (constant S_ .f32 0x00000000#32) reducesTo_S64x2048_S64_d1 h_S_)) (broadcastInDim S64x1 ![] bcast_S_S64x1 (constant S_ .f32 0x45000000#32))) (broadcastInDim S64x1 ![] bcast_S_S64x1 (constant S_ .f32 0x358637BD#32)))))) (broadcastInDim S64x2048 ![0, 1] bcast_S1x2048_S64x2048_0_1 (broadcastInDim S1x2048 ![1] bcast_S2048_S1x2048_1 (shapeCast _ g shapeCasts_S1x2048_S2048)))) (addf (broadcastInDim S64x2048 ![] bcast_S_S64x2048 (constant S_ .f32 0x3F800000#32)) sc)) sh
theorem nrmS_at (X : FVec Ideal S64x2048 .f32) (g : FVec Ideal S1x2048 .f32) (sc sh : FVec Ideal S64x2048 .f32) (r : Fin 64) (d : Fin 2048) :
    nrmS X g sc sh (ix2 r d) = nrm (fun k => X (ix2 r k)) (fun k => g (ix2 0 k)) (fun k => sc (ix2 r k)) (fun k => sh (ix2 r k)) d := by
  unfold nrm
  pointwise [nrmS]

/-- The small rows, the padding zero. -/
def maskS (L : IVec S64 1) (H : FVec Ideal S64x2048 .f32) : FVec Ideal S64x2048 .f32 :=
  select (broadcastInDim S64x2048 ![0, 1] bcast_S64x1_S64x2048_0_1 (broadcastInDim S64x1 ![0] bcast_S64_S64x1_0 L)) H (broadcastInDim S64x2048 ![] bcast_S_S64x2048 (id (constant S_ .f32 0x00000000#32)))
theorem maskS_at (L : IVec S64 1) (H : FVec Ideal S64x2048 .f32) (r : Fin 64) (d : Fin 2048) :
    maskS L H (ix2 r d) = Scalar.select (L (ix1 r)) (H (ix2 r d)) (0 : EReal) := by
  unfold maskS
  rw [id]
  pointwise []

/-- The small rows' result. -/
def outS (H : FVec Ideal S64x2048 .f32) (W : FVec Ideal S2048x6144 .bf16) : FVec Ideal S6x64x1024 .f32 :=
  transpose S6x64x1024 [1, 0, 2] (shapeCast _ (Host.dotGeneral dot_S64x2048_S2048x6144_S64x6144_1_0_0_1_n_n none H (extf .f32 W bitsLt_bf16_f32)) shapeCasts_S64x6144_S64x6x1024) transposes_S64x6x1024_S6x64x1024_1_0_2
theorem outS_at (H : FVec Ideal S64x2048 .f32) (W : FVec Ideal S2048x6144 .bf16) (j : Fin 6) (r : Fin 64) (d : Fin 1024) :
    outS H W (ix3 j r d) = ∑ k : Fin 2048, (H (ix2 r k) : EReal) * W (ix2 k ⟨j.val * 1024 + d.val, by omega⟩) := by
  pointwise [outS]

theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56) = outP (nrmP (seqs (m ((c.tc : Thread nD τ).loc main_arg0))) (m ((c.tc : Thread nD τ).loc main_arg2)) (scaleP (m ((c.tc : Thread nD τ).loc main_arg3))) (shiftP (m ((c.tc : Thread nD τ).loc main_arg3)))) (m ((c.tc : Thread nD τ).loc main_arg6))
      ∧ r.2.mem ((c.tc : Thread nD τ).loc main_v59) = outS (maskS live (nrmS (m ((c.tc : Thread nD τ).loc main_arg1)) (m ((c.tc : Thread nD τ).loc main_arg2)) (m ((c.tc : Thread nD τ).loc main_arg5)) (m ((c.tc : Thread nD τ).loc main_arg4)))) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun r h c => ⟨(h c).1.trans rfl, (h c).2.1.trans rfl, (h c).2.2⟩) (Cert.Reference3Ideal.Value.run (F := Ideal) m ρ)

end Cert.Reference3Ideal.In

end
-- ==== Proof.InEq.lean ====
module

public import proofs.«01_k».proof.Defs
public import proofs.«01_k».proof.Proof.InVal
public import proofs.«01_k».proof.Proof.InRef

/-! # The input projection's kernel computes the reference's input projection -/

@[expose] public section

set_option maxRecDepth 16384

noncomputable section

namespace Cert.InEq

open Idealize.ShloMosaic Idealize.ShloMosaic.StableHlo Idealize.ShloMosaic.TcCoe Idealize.SL.Sem

instance : Cert.Kernel3Ideal.Facts := Cert.Kernel3Ideal.Gen.facts
instance : Cert.Reference3Ideal.Facts := Cert.Reference3Ideal.Gen.facts

theorem frame_ri : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

theorem frame_pi : Cert.quiescent_Kernel3Ideal := fun m ρ _ =>
  (θ_run Cert.Kernel3Ideal.defs _ _).mono (fun _ h => h.1) (Cert.Kernel3Ideal.In.frame (F := Ideal) m ρ)

/-- The two results of a launched memory. -/
abbrev GP (m : (ℓ : Loc Cert.Kernel3Ideal.nD Cert.Kernel3Ideal.τ Cert.Kernel3Ideal.sig) → Buf (Elt Ideal) ℓ) (c : Dev Cert.Kernel3Ideal.nD) : FVec Ideal Cert.Kernel3Ideal.S6x8192x1024 .f32 :=
  Cert.Kernel3Ideal.In.G8 (Cert.Kernel3Ideal.In.Xp m c) (Cert.Kernel3Ideal.In.Gn m c) (Cert.Kernel3Ideal.In.Md m c) (Cert.Kernel3Ideal.In.Wt m c)
abbrev GS (m : (ℓ : Loc Cert.Kernel3Ideal.nD Cert.Kernel3Ideal.τ Cert.Kernel3Ideal.sig) → Buf (Elt Ideal) ℓ) (c : Dev Cert.Kernel3Ideal.nD) : FVec Ideal Cert.Kernel3Ideal.S6x64x1024 .f32 :=
  Cert.Kernel3Ideal.In.G9 (Cert.Kernel3Ideal.In.Xs m c) (Cert.Kernel3Ideal.In.Gn m c) (Cert.Kernel3Ideal.In.Sh m c) (Cert.Kernel3Ideal.In.Sc m c) (Cert.Kernel3Ideal.In.Wt m c)

/-- The kernel's run, with its two results in closed form. -/
theorem run_kernel (m : (ℓ : Loc Cert.Kernel3Ideal.nD Cert.Kernel3Ideal.τ Cert.Kernel3Ideal.sig) → Buf (Elt Ideal) ℓ) (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
      r.2.mem ((c.tc : Thread Cert.Kernel3Ideal.nD Cert.Kernel3Ideal.τ).loc Cert.Kernel3Ideal.main_v0_0) = GP m c
      ∧ r.2.mem ((c.tc : Thread Cert.Kernel3Ideal.nD Cert.Kernel3Ideal.τ).loc Cert.Kernel3Ideal.main_v0_1) = GS m c
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)) :=
  (θ_run Cert.Kernel3Ideal.defs _ _).mono
    (fun r h c => ⟨(h.2 c).1.trans (Cert.Kernel3Ideal.In.final8 m g c), (h.2 c).2.trans (Cert.Kernel3Ideal.In.final9 m g c), h.1.1 c⟩)
    (Cert.Kernel3Ideal.In.frame (F := Ideal) m g)

theorem prompt (m : (ℓ : Loc Cert.Kernel3Ideal.nD Cert.Kernel3Ideal.τ Cert.Kernel3Ideal.sig) → Buf (Elt Ideal) ℓ) (c : Dev Cert.Kernel3Ideal.nD) :
    Cert.Reference3Ideal.In.outP (Cert.Reference3Ideal.In.nrmP (Cert.Reference3Ideal.In.seqs (Cert.Kernel3Ideal.In.Xp m c)) (Cert.Kernel3Ideal.In.Gn m c) (Cert.Reference3Ideal.In.scaleP (Cert.Kernel3Ideal.In.Md m c)) (Cert.Reference3Ideal.In.shiftP (Cert.Kernel3Ideal.In.Md m c))) (Cert.Kernel3Ideal.In.Wt m c)
      = GP m c := by
  funext y
  idx_vars y
  refine (Cert.Reference3Ideal.In.outP_at _ _ y0 y1 y2).trans ?_
  unfold GP Cert.Kernel3Ideal.In.G8
  refine Finset.sum_congr rfl fun k _ => ?_
  refine congrArg₂ (HMul.hMul (α := EReal) (β := EReal) (γ := EReal)) ?_ rfl
  refine (Cert.Reference3Ideal.In.nrmP_at _ _ _ _ _ _ k).trans (Cert.InM.nrm_congr (fun k => ?_) (fun _ => rfl) (fun k => ?_) (fun k => ?_) k)
  · refine (Cert.Reference3Ideal.In.seqs_at _ _ _ k).trans (congrArg (Cert.Kernel3Ideal.In.Xp m c) (funext fun b => Fin.ext ?_))
    fin_cases b
    · show y1.val / 2048 * 2048 + y1.val % 2048 = y1.val; omega
    · rfl
  · exact Cert.Reference3Ideal.In.scaleP_at _ _ k
  · exact Cert.Reference3Ideal.In.shiftP_at _ _ k

theorem small (m : (ℓ : Loc Cert.Kernel3Ideal.nD Cert.Kernel3Ideal.τ Cert.Kernel3Ideal.sig) → Buf (Elt Ideal) ℓ) (c : Dev Cert.Kernel3Ideal.nD) :
    Cert.Reference3Ideal.In.outS (Cert.Reference3Ideal.In.maskS Cert.Reference3Ideal.In.live (Cert.Reference3Ideal.In.nrmS (Cert.Kernel3Ideal.In.Xs m c) (Cert.Kernel3Ideal.In.Gn m c) (Cert.Kernel3Ideal.In.Sc m c) (Cert.Kernel3Ideal.In.Sh m c))) (Cert.Kernel3Ideal.In.Wt m c)
      = GS m c := by
  funext y
  idx_vars y
  refine (Cert.Reference3Ideal.In.outS_at _ _ y0 y1 y2).trans ?_
  unfold GS Cert.Kernel3Ideal.In.G9
  refine Finset.sum_congr rfl fun k _ => ?_
  refine congrArg₂ (HMul.hMul (α := EReal) (β := EReal) (γ := EReal)) ?_ rfl
  rw [Cert.Reference3Ideal.In.maskS_at, Cert.Reference3Ideal.In.live_at, Cert.Reference3Ideal.In.nrmS_at]
  exact Cert.Kernel3Ideal.In.select_of _ _ _

theorem equal : Cert.algebraic_Kernel3Ideal_Reference3Ideal := by
  intro m g m' g' _ hagree
  refine ⟨fun c => GP m c, fun c => GS m c, run_kernel m g, ?_⟩
  refine (θ_run Cert.Reference3Ideal.defs _ _).mono (fun r h c => ?_) (Cert.Reference3Ideal.In.run_out m' g')
  obtain ⟨e0, e1, e2, e3, e4, e5, e6⟩ := hagree c
  refine ⟨(h c).1.trans (Eq.trans ?_ (prompt m c)), (h c).2.1.trans (Eq.trans ?_ (small m c)), (h c).2.2⟩
  · rw [e0, e2, e3, e6]
  · rw [e1, e2, e4, e5, e6]

end Cert.InEq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame.Runs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Frame.Runs
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.Reference2Ideal.Run
public import proofs.«01_k».proof.Proof.Gen.Pre_expert_ids
public import proofs.«01_k».proof.Proof.Gen.Kernel3
public import proofs.«01_k».proof.Proof.Gen.Kernel3.Skeleton
public import proofs.«01_k».proof.Proof.Gen.Kernel3.Launch
public import proofs.«01_k».proof.Proof.Gen.Kernel3.Loops
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Loops
public import proofs.«01_k».proof.Proof.Gen.Kernel3Ideal.Points
public import proofs.«01_k».proof.Proof.Gen.Reference3Ideal
public import proofs.«01_k».proof.Proof.Gen.Reference3Ideal.Run
public import proofs.«01_k».proof.Proof.RetEq
public import proofs.«01_k».proof.Proof.BitRun
public import proofs.«01_k».proof.Proof.ExpEq
public import proofs.«01_k».proof.Proof.BitExpPre
public import proofs.«01_k».proof.Proof.InEq
public import proofs.«01_k».proof.Proof.BitInRun
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_expert_ids.Gen.facts,
  fun m ρ _ => Cert.Kernel.Ret.frame_all m ρ, Cert.RetEq.frame_pi, Cert.RetEq.frame_ri,
  Cert.Kernel2.Exp.frame_all, Cert.Kernel2Ideal.Exp.frame_all, Cert.ExpEq.frame_ri, Cert.ExpEq.frame_ri_pre,
  fun m ρ _ => (θ_run Cert.Kernel3.defs _ _).mono (fun _ h => h.1) (Cert.Kernel3.In.frame m ρ), Cert.InEq.frame_pi, Cert.InEq.frame_ri,
  trivial, Cert.RetEq.equal, trivial, Cert.ExpEq.equal, trivial, Cert.InEq.equal⟩

end Cert.Proof

end
